-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v136)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v136) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_v11) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)) (v2 : (c : Dev Cert.Kernel6Ideal.nD) → Buf (Elt Ideal) ((c.tc : Thread Cert.Kernel6Ideal.nD Cert.Kernel6Ideal.τ).loc Cert.Kernel6Ideal.main_v10_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v10_1) = v1 c
          ∧ r.2.mem ((c.tc : Thread Cert.Kernel6Ideal.nD Cert.Kernel6Ideal.τ).loc Cert.Kernel6Ideal.main_v10_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_v10) = v1 c
          ∧ r.2.mem ((c.tc : Thread Cert.Reference6Ideal.nD Cert.Reference6Ideal.τ).loc Cert.Reference6Ideal.main_v11) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v11_0)) (v1 : (c : Dev Cert.Kernel7Ideal.nD) → Buf (Elt Ideal) ((c.tc : Thread Cert.Kernel7Ideal.nD Cert.Kernel7Ideal.τ).loc Cert.Kernel7Ideal.main_v11_1)) (v2 : (c : Dev Cert.Kernel7Ideal.nD) → Buf (Elt Ideal) ((c.tc : Thread Cert.Kernel7Ideal.nD Cert.Kernel7Ideal.τ).loc Cert.Kernel7Ideal.main_v11_2)) (v3 : (c : Dev Cert.Kernel7Ideal.nD) → Buf (Elt Ideal) ((c.tc : Thread Cert.Kernel7Ideal.nD Cert.Kernel7Ideal.τ).loc Cert.Kernel7Ideal.main_v11_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11_0) = v0 c
          ∧ r.2.mem ((c.tc : Thread Cert.Kernel7Ideal.nD Cert.Kernel7Ideal.τ).loc Cert.Kernel7Ideal.main_v11_1) = v1 c
          ∧ r.2.mem ((c.tc : Thread Cert.Kernel7Ideal.nD Cert.Kernel7Ideal.τ).loc Cert.Kernel7Ideal.main_v11_2) = v2 c
          ∧ r.2.mem ((c.tc : Thread Cert.Kernel7Ideal.nD Cert.Kernel7Ideal.τ).loc Cert.Kernel7Ideal.main_v11_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v38) = v0 c
          ∧ r.2.mem ((c.tc : Thread Cert.Reference7Ideal.nD Cert.Reference7Ideal.τ).loc Cert.Reference7Ideal.main_v39) = v1 c
          ∧ r.2.mem ((c.tc : Thread Cert.Reference7Ideal.nD Cert.Reference7Ideal.τ).loc Cert.Reference7Ideal.main_v40) = v2 c
          ∧ r.2.mem ((c.tc : Thread Cert.Reference7Ideal.nD Cert.Reference7Ideal.τ).loc Cert.Reference7Ideal.main_v41) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_scores.lean ====
abbrev S16384x4096 : Shape := ⟨2, ![16384, 4096]⟩
abbrev S16384x2048 : Shape := ⟨2, ![16384, 2048]⟩
abbrev S16x15x31 : Shape := ⟨3, ![16, 15, 31]⟩
abbrev S_ : Shape := ⟨0, ![]⟩

class Facts : Prop where
  bcast_S_S16384x4096 : S_.BroadcastsInDim S16384x4096 (![] : Fin 0 → Fin S16384x4096.rank)
  bcast_S_S16x15x31 : S_.BroadcastsInDim S16x15x31 (![] : Fin 0 → Fin S16x15x31.rank)

variable [Facts]

def fn {F : FTy → Type} [FloatOps F] (main_arg0 : FVec F S16384x4096 .bf16) (main_arg1 : FVec F S16384x2048 .bf16) (main_arg2 : FVec F S16x15x31 .f32) : IVec S16384x4096 1 × IVec S16x15x31 1 :=
  let main_v0 : FVec F S16384x4096 .bf16 := Host.absf main_arg0
  let main_cst : FVec F S_ .bf16 := constant S_ .bf16 0x7F80#16
  let main_v1 : FVec F S16384x4096 .bf16 := broadcastInDim S16384x4096 ![] bcast_S_S16384x4096 main_cst
  let main_v2 : IVec S16384x4096 1 := cmpf .olt main_v0 main_v1
  let main_v3 : FVec F S16x15x31 .f32 := Host.absf main_arg2
  let main_cst_0 : FVec F S_ .f32 := constant S_ .f32 0x7F800000#32
  let main_v4 : FVec F S16x15x31 .f32 := broadcastInDim S16x15x31 ![] bcast_S_S16x15x31 main_cst_0
  let main_v5 : IVec S16x15x31 1 := cmpf .olt main_v3 main_v4
  (main_v2, main_v5)
-- ==== Kernel.lean ====
abbrev S16384x4096 : Shape := ⟨2, ![16384, 4096]⟩
abbrev S16384x2048 : Shape := ⟨2, ![16384, 2048]⟩
abbrev S16x15x31 : Shape := ⟨3, ![16, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S1x64x64 : Shape := ⟨3, ![1, 64, 64]⟩
abbrev S31 : Shape := ⟨1, ![31]⟩
abbrev S31x1x1 : Shape := ⟨3, ![31, 1, 1]⟩
abbrev S31x64x64 : Shape := ⟨3, ![31, 64, 64]⟩
abbrev S16x15x31x1x1 : Shape := ⟨5, ![16, 15, 31, 1, 1]⟩
abbrev S1x1x31x64x64 : Shape := ⟨5, ![1, 1, 31, 64, 64]⟩
abbrev S16x15x31x64x64 : Shape := ⟨5, ![16, 15, 31, 64, 64]⟩
abbrev S16x15x64x64 : Shape := ⟨4, ![16, 15, 64, 64]⟩
abbrev S1x1x64x64 : Shape := ⟨4, ![1, 1, 64, 64]⟩
abbrev S16x64x64 : Shape := ⟨3, ![16, 64, 64]⟩
abbrev S16x1x64x64 : Shape := ⟨4, ![16, 1, 64, 64]⟩
abbrev S16x64x128 : Shape := ⟨3, ![16, 64, 128]⟩
abbrev S16x1x64x128 : Shape := ⟨4, ![16, 1, 64, 128]⟩
abbrev S16x16x64x128 : Shape := ⟨4, ![16, 16, 64, 128]⟩
abbrev S16384x128 : Shape := ⟨2, ![16384, 128]⟩
abbrev S1x16x64x128 : Shape := ⟨4, ![1, 16, 64, 128]⟩
abbrev S4x256x768 : Shape := ⟨3, ![4, 256, 768]⟩
abbrev S256x128 : Shape := ⟨2, ![256, 128]⟩
abbrev S768x128 : Shape := ⟨2, ![768, 128]⟩
abbrev S256x768 : Shape := ⟨2, ![256, 768]⟩
abbrev S1x256x768 : Shape := ⟨3, ![1, 256, 768]⟩
abbrev S1x1x64x128 : Shape := ⟨4, ![1, 1, 64, 128]⟩
abbrev S64x128 : Shape := ⟨2, ![64, 128]⟩
abbrev S64x512 : Shape := ⟨2, ![64, 512]⟩
abbrev S64x256 : Shape := ⟨2, ![64, 256]⟩
abbrev S64x768 : Shape := ⟨2, ![64, 768]⟩
abbrev S256x1 : Shape := ⟨2, ![256, 1]⟩
abbrev S64x640 : Shape := ⟨2, ![64, 640]⟩

abbrev nBuf : Space → Nat
  | .hbm => 159
  | .vmem => 12
  | .smem => 0
  | _ => 0

abbrev hbmTy0_0 (i : Nat) : BufTy := match i % 128 with
  | 0 => ⟨S16384x4096, .bf16⟩
  | 1 => ⟨S16384x2048, .bf16⟩
  | 2 => ⟨S16x15x31, .f32⟩
  | 3 => ⟨S64, .i32⟩
  | 4 => ⟨S_, .i32⟩
  | 5 => ⟨S64, .i32⟩
  | 6 => ⟨S64, .i32⟩
  | 7 => ⟨S_, .i32⟩
  | 8 => ⟨S_, .i32⟩
  | 9 => ⟨S_, .i32⟩
  | 10 => ⟨S64, .i32⟩
  | 11 => ⟨S64, .i32⟩
  | 12 => ⟨S_, .i32⟩
  | 13 => ⟨S64, .i32⟩
  | 14 => ⟨S64, .i32⟩
  | 15 => ⟨S1x64, .i32⟩
  | 16 => ⟨S64x1, .i32⟩
  | 17 => ⟨S64x64, .i32⟩
  | 18 => ⟨S64x64, .i32⟩
  | 19 => ⟨S64x64, .i1⟩
  | 20 => ⟨S1x64, .i32⟩
  | 21 => ⟨S64x1, .i32⟩
  | 22 => ⟨S_, .i32⟩
  | 23 => ⟨S64x1, .i32⟩
  | 24 => ⟨S64x1, .i32⟩
  | 25 => ⟨S64x64, .i32⟩
  | 26 => ⟨S64x64, .i32⟩
  | 27 => ⟨S64x64, .i1⟩
  | 28 => ⟨S64x64, .i1⟩
  | 29 => ⟨S1x64, .i32⟩
  | 30 => ⟨S64x1, .i32⟩
  | 31 => ⟨S64x64, .i32⟩
  | 32 => ⟨S64x64, .i32⟩
  | 33 => ⟨S64x64, .i32⟩
  | 34 => ⟨S_, .i32⟩
  | 35 => ⟨S64x64, .i32⟩
  | 36 => ⟨S64x64, .i32⟩
  | 37 => ⟨S1x64x64, .i32⟩
  | 38 => ⟨S31, .i32⟩
  | 39 => ⟨S31x1x1, .i32⟩
  | 40 => ⟨S31x64x64, .i32⟩
  | 41 => ⟨S31x64x64, .i32⟩
  | 42 => ⟨S31x64x64, .i1⟩
  | 43 => ⟨S1x64x64, .i1⟩
  | 44 => ⟨S31x64x64, .i1⟩
  | 45 => ⟨S31x64x64, .i1⟩
  | 46 => ⟨S_, .f32⟩
  | 47 => ⟨S_, .f32⟩
  | 48 => ⟨S31x64x64, .f32⟩
  | 49 => ⟨S31x64x64, .f32⟩
  | 50 => ⟨S31x64x64, .f32⟩
  | 51 => ⟨S16x15x31x1x1, .f32⟩
  | 52 => ⟨S1x1x31x64x64, .f32⟩
  | 53 => ⟨S16x15x31x64x64, .f32⟩
  | 54 => ⟨S16x15x31x64x64, .f32⟩
  | 55 => ⟨S16x15x31x64x64, .f32⟩
  | 56 => ⟨S_, .f32⟩
  | 57 => ⟨S16x15x64x64, .f32⟩
  | 58 => ⟨S1x1x64x64, .i1⟩
  | 59 => ⟨S_, .f32⟩
  | 60 => ⟨S16x15x64x64, .i1⟩
  | 61 => ⟨S16x15x64x64, .f32⟩
  | 62 => ⟨S16x15x64x64, .f32⟩
  | 63 => ⟨S_, .f32⟩
  | 64 => ⟨S16x64x64, .f32⟩
  | 65 => ⟨S16x1x64x64, .f32⟩
  | 66 => ⟨S16x64x64, .f32⟩
  | 67 => ⟨S16x1x64x64, .f32⟩
  | 68 => ⟨S16x64x64, .f32⟩
  | 69 => ⟨S16x64x128, .f32⟩
  | 70 => ⟨S16x1x64x64, .f32⟩
  | 71 => ⟨S16x64x64, .f32⟩
  | 72 => ⟨S16x1x64x64, .f32⟩
  | 73 => ⟨S16x64x64, .f32⟩
  | 74 => ⟨S16x64x128, .f32⟩
  | 75 => ⟨S16x1x64x64, .f32⟩
  | 76 => ⟨S16x64x64, .f32⟩
  | 77 => ⟨S16x1x64x64, .f32⟩
  | 78 => ⟨S16x64x64, .f32⟩
  | 79 => ⟨S16x64x128, .f32⟩
  | 80 => ⟨S16x1x64x64, .f32⟩
  | 81 => ⟨S16x64x64, .f32⟩
  | 82 => ⟨S16x1x64x64, .f32⟩
  | 83 => ⟨S16x64x64, .f32⟩
  | 84 => ⟨S16x64x128, .f32⟩
  | 85 => ⟨S16x1x64x64, .f32⟩
  | 86 => ⟨S16x64x64, .f32⟩
  | 87 => ⟨S16x1x64x64, .f32⟩
  | 88 => ⟨S16x64x64, .f32⟩
  | 89 => ⟨S16x64x128, .f32⟩
  | 90 => ⟨S16x1x64x64, .f32⟩
  | 91 => ⟨S16x64x64, .f32⟩
  | 92 => ⟨S16x1x64x64, .f32⟩
  | 93 => ⟨S16x64x64, .f32⟩
  | 94 => ⟨S16x64x128, .f32⟩
  | 95 => ⟨S16x1x64x64, .f32⟩
  | 96 => ⟨S16x64x64, .f32⟩
  | 97 => ⟨S16x1x64x64, .f32⟩
  | 98 => ⟨S16x64x64, .f32⟩
  | 99 => ⟨S16x64x128, .f32⟩
  | 100 => ⟨S16x1x64x64, .f32⟩
  | 101 => ⟨S16x64x64, .f32⟩
  | 102 => ⟨S16x1x64x64, .f32⟩
  | 103 => ⟨S16x64x64, .f32⟩
  | 104 => ⟨S16x64x128, .f32⟩
  | 105 => ⟨S16x1x64x64, .f32⟩
  | 106 => ⟨S16x64x64, .f32⟩
  | 107 => ⟨S16x1x64x64, .f32⟩
  | 108 => ⟨S16x64x64, .f32⟩
  | 109 => ⟨S16x64x128, .f32⟩
  | 110 => ⟨S16x1x64x64, .f32⟩
  | 111 => ⟨S16x64x64, .f32⟩
  | 112 => ⟨S16x1x64x64, .f32⟩
  | 113 => ⟨S16x64x64, .f32⟩
  | 114 => ⟨S16x64x128, .f32⟩
  | 115 => ⟨S16x1x64x64, .f32⟩
  | 116 => ⟨S16x64x64, .f32⟩
  | 117 => ⟨S16x1x64x64, .f32⟩
  | 118 => ⟨S16x64x64, .f32⟩
  | 119 => ⟨S16x64x128, .f32⟩
  | 120 => ⟨S16x1x64x64, .f32⟩
  | 121 => ⟨S16x64x64, .f32⟩
  | 122 => ⟨S16x64x128, .f32⟩
  | 123 => ⟨S16x1x64x64, .f32⟩
  | 124 => ⟨S16x64x64, .f32⟩
  | 125 => ⟨S16x64x128, .f32⟩
  | 126 => ⟨S16x1x64x64, .f32⟩
  | 127 => ⟨S16x64x64, .f32⟩
  | _ => ⟨S16384x4096, .bf16⟩

abbrev hbmTy0_1 (i : Nat) : BufTy := match i % 128 with
  | 0 => ⟨S16x1x64x64, .f32⟩
  | 1 => ⟨S16x64x64, .f32⟩
  | 2 => ⟨S16x64x128, .f32⟩
  | 3 => ⟨S16x1x64x64, .f32⟩
  | 4 => ⟨S16x64x64, .f32⟩
  | 5 => ⟨S16x1x64x64, .f32⟩
  | 6 => ⟨S16x64x64, .f32⟩
  | 7 => ⟨S16x64x128, .f32⟩
  | 8 => ⟨S16x1x64x64, .f32⟩
  | 9 => ⟨S16x64x64, .f32⟩
  | 10 => ⟨S16x1x64x64, .f32⟩
  | 11 => ⟨S16x64x64, .f32⟩
  | 12 => ⟨S16x64x128, .f32⟩
  | 13 => ⟨S16x1x64x128, .f32⟩
  | 14 => ⟨S16x1x64x128, .f32⟩
  | 15 => ⟨S16x1x64x128, .f32⟩
  | 16 => ⟨S16x1x64x128, .f32⟩
  | 17 => ⟨S16x1x64x128, .f32⟩
  | 18 => ⟨S16x1x64x128, .f32⟩
  | 19 => ⟨S16x1x64x128, .f32⟩
  | 20 => ⟨S16x1x64x128, .f32⟩
  | 21 => ⟨S16x1x64x128, .f32⟩
  | 22 => ⟨S16x1x64x128, .f32⟩
  | 23 => ⟨S16x1x64x128, .f32⟩
  | 24 => ⟨S16x1x64x128, .f32⟩
  | 25 => ⟨S16x1x64x128, .f32⟩
  | 26 => ⟨S16x1x64x128, .f32⟩
  | 27 => ⟨S16x1x64x128, .f32⟩
  | 28 => ⟨S16x1x64x128, .f32⟩
  | 29 => ⟨S16x16x64x128, .f32⟩
  | 30 => ⟨S16384x2048, .bf16⟩
  | _ => ⟨S16384x4096, .bf16⟩

abbrev hbmTy (i : Nat) : BufTy := match i / 128 with
  | 0 => hbmTy0_0 i
  | 1 => hbmTy0_1 i
  | _ => ⟨S16384x4096, .bf16⟩

abbrev bufTy : (tb : Table) → Fin (tcTables nBuf tb) → BufTy
  | .hbm, ⟨i, _⟩ => hbmTy i
  | .local _ .vmem, ⟨0, _⟩ => ⟨S16384x128, .bf16⟩
  | .local _ .vmem, ⟨1, _⟩ => ⟨S16384x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S1x16x64x128, .f32⟩
  | .local _ .vmem, ⟨7, _⟩ => ⟨S1x16x64x128, .f32⟩
  | .local _ .vmem, ⟨8, _⟩ => ⟨S16384x128, .bf16⟩
  | .local _ .vmem, ⟨9, _⟩ => ⟨S16384x128, .bf16⟩
  | .local _ .vmem, ⟨10, _⟩ => ⟨S4x256x768, .f32⟩
  | .local _ .vmem, ⟨11, _⟩ => ⟨S4x256x768, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst : Ref sig .tc := ⟨.hbm, 46, rfl⟩
abbrev main_cst_4 : Ref sig .tc := ⟨.hbm, 47, rfl⟩
abbrev main_call1_v0 : Ref sig .tc := ⟨.hbm, 48, rfl⟩
abbrev main_call1_v1 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_call2_v0 : Ref sig .tc := ⟨.hbm, 60, rfl⟩
abbrev main_call2_v1 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def k0_mult1 : BitVec 32 :=
  let c0_i32_0 : BitVec 32 := 0#32
  c0_i32_0
def k0_mult2 : BitVec 32 :=
  let c61_i32 : BitVec 32 := 61#32
  let c0_i32 : BitVec 32 := 0#32
  let c_m1_i32 : BitVec 32 := 4294967295#32
  let v0 : BitVec 32 := Scalar.maxsi c0_i32 c_m1_i32
  let v1 : BitVec 32 := Scalar.minsi c61_i32 v0
  let c256_i32 : BitVec 32 := 256#32
  let v3 : BitVec 32 := Scalar.muli v1 c256_i32
  v3
def k0_off1 (c_m1_i32 : BitVec 32) : Fin 2 → Nat :=
  let c61_i32 : BitVec 32 := 61#32
  let c0_i32 : BitVec 32 := 0#32
  let v0 : BitVec 32 := Scalar.maxsi c0_i32 c_m1_i32
  let v1 : BitVec 32 := Scalar.minsi c61_i32 v0
  let c256_i32 : BitVec 32 := 256#32
  let v3 : BitVec 32 := Scalar.muli v1 c256_i32
  let v4 : BitVec 32 := v3
  let v7 : Index := Scalar.indexCast v4
  let c0_1 : Index := 0#32
  ![v7.toNat, 0]
def k0_off1_at (r : Fin 12) : BitVec 32 :=
  if r.val < 6 then
    if r.val < 3 then
      if r.val < 1 then
        4294967295#32
      else
        if r.val < 2 then
          0#32
        else
          1#32
    else
      if r.val < 4 then
        2#32
      else
        if r.val < 5 then
          3#32
        else
          4#32
  else
    if r.val < 9 then
      if r.val < 7 then
        5#32
      else
        if r.val < 8 then
          6#32
        else
          59#32
    else
      if r.val < 10 then
        60#32
      else
        if r.val < 11 then
          61#32
        else
          62#32
def k0_mult3 : BitVec 32 :=
  let c256_i32_8 : BitVec 32 := 256#32
  c256_i32_8
def k0_mult4 : BitVec 32 :=
  let c61_i32_7 : BitVec 32 := 61#32
  let c0_i32_6 : BitVec 32 := 0#32
  let c0_i32_5 : BitVec 32 := 0#32
  let v13 : BitVec 32 := Scalar.maxsi c0_i32_6 c0_i32_5
  let v14 : BitVec 32 := Scalar.minsi c61_i32_7 v13
  let c256_i32_9 : BitVec 32 := 256#32
  let v16 : BitVec 32 := Scalar.muli v14 c256_i32_9
  v16
def k0_mult5 : BitVec 32 :=
  let c512_i32 : BitVec 32 := 512#32
  c512_i32
def k0_mult6 : BitVec 32 :=
  let c61_i32_16 : BitVec 32 := 61#32
  let c0_i32_15 : BitVec 32 := 0#32
  let c1_i32 : BitVec 32 := 1#32
  let v26 : BitVec 32 := Scalar.maxsi c0_i32_15 c1_i32
  let v27 : BitVec 32 := Scalar.minsi c61_i32_16 v26
  let c256_i32_17 : BitVec 32 := 256#32
  let v29 : BitVec 32 := Scalar.muli v27 c256_i32_17
  v29
def k0_mult7 : BitVec 32 :=
  let c768_i32 : BitVec 32 := 768#32
  c768_i32
def k0_mult8 : BitVec 32 :=
  let c61_i32_24 : BitVec 32 := 61#32
  let c0_i32_23 : BitVec 32 := 0#32
  let c2_i32 : BitVec 32 := 2#32
  let v39 : BitVec 32 := Scalar.maxsi c0_i32_23 c2_i32
  let v40 : BitVec 32 := Scalar.minsi c61_i32_24 v39
  let c256_i32_25 : BitVec 32 := 256#32
  let v42 : BitVec 32 := Scalar.muli v40 c256_i32_25
  v42
def k0_mult9 : BitVec 32 :=
  let c0_i32_34 : BitVec 32 := 0#32
  c0_i32_34
def k0_mult10 : BitVec 32 :=
  let c61_i32_33 : BitVec 32 := 61#32
  let c0_i32_32 : BitVec 32 := 0#32
  let c_m1_i32_31 : BitVec 32 := 4294967295#32
  let v52 : BitVec 32 := Scalar.maxsi c0_i32_32 c_m1_i32_31
  let v53 : BitVec 32 := Scalar.minsi c61_i32_33 v52
  let c256_i32_35 : BitVec 32 := 256#32
  let v55 : BitVec 32 := Scalar.muli v53 c256_i32_35
  v55
def k0_mult11 : BitVec 32 :=
  let c256_i32_129 : BitVec 32 := 256#32
  c256_i32_129
def k0_mult12 : BitVec 32 :=
  let c61_i32_128 : BitVec 32 := 61#32
  let c0_i32_127 : BitVec 32 := 0#32
  let c0_i32_126 : BitVec 32 := 0#32
  let v159 : BitVec 32 := Scalar.maxsi c0_i32_127 c0_i32_126
  let v160 : BitVec 32 := Scalar.minsi c61_i32_128 v159
  let c256_i32_130 : BitVec 32 := 256#32
  let v162 : BitVec 32 := Scalar.muli v160 c256_i32_130
  v162
def k0_mult13 : BitVec 32 :=
  let c512_i32_239 : BitVec 32 := 512#32
  c512_i32_239
def k0_mult14 : BitVec 32 :=
  let c61_i32_238 : BitVec 32 := 61#32
  let c0_i32_237 : BitVec 32 := 0#32
  let c1_i32_236 : BitVec 32 := 1#32
  let v271 : BitVec 32 := Scalar.maxsi c0_i32_237 c1_i32_236
  let v272 : BitVec 32 := Scalar.minsi c61_i32_238 v271
  let c256_i32_240 : BitVec 32 := 256#32
  let v274 : BitVec 32 := Scalar.muli v272 c256_i32_240
  v274
def k0_mult15 : BitVec 32 :=
  let c768_i32_352 : BitVec 32 := 768#32
  c768_i32_352
def k0_mult16 : BitVec 32 :=
  let c61_i32_351 : BitVec 32 := 61#32
  let c0_i32_350 : BitVec 32 := 0#32
  let c2_i32_349 : BitVec 32 := 2#32
  let v383 : BitVec 32 := Scalar.maxsi c0_i32_350 c2_i32_349
  let v384 : BitVec 32 := Scalar.minsi c61_i32_351 v383
  let c256_i32_353 : BitVec 32 := 256#32
  let v386 : BitVec 32 := Scalar.muli v384 c256_i32_353
  v386
def k0_mult17 : BitVec 32 :=
  let c1024_i32 : BitVec 32 := 1024#32
  c1024_i32
def k0_mult18 : BitVec 32 :=
  let c61_i32_463 : BitVec 32 := 61#32
  let c0_i32_462 : BitVec 32 := 0#32
  let c3_i32_461 : BitVec 32 := 3#32
  let v495 : BitVec 32 := Scalar.maxsi c0_i32_462 c3_i32_461
  let v496 : BitVec 32 := Scalar.minsi c61_i32_463 v495
  let c256_i32_464 : BitVec 32 := 256#32
  let v498 : BitVec 32 := Scalar.muli v496 c256_i32_464
  v498
def k0_mult19 : BitVec 32 :=
  let c1280_i32 : BitVec 32 := 1280#32
  c1280_i32
def k0_mult20 : BitVec 32 :=
  let c61_i32_472 : BitVec 32 := 61#32
  let c0_i32_471 : BitVec 32 := 0#32
  let c4_i32 : BitVec 32 := 4#32
  let v508 : BitVec 32 := Scalar.maxsi c0_i32_471 c4_i32
  let v509 : BitVec 32 := Scalar.minsi c61_i32_472 v508
  let c256_i32_473 : BitVec 32 := 256#32
  let v511 : BitVec 32 := Scalar.muli v509 c256_i32_473
  v511
def k0_mult21 : BitVec 32 :=
  let c1536_i32 : BitVec 32 := 1536#32
  c1536_i32
def k0_mult22 : BitVec 32 :=
  let c61_i32_481 : BitVec 32 := 61#32
  let c0_i32_480 : BitVec 32 := 0#32
  let c5_i32 : BitVec 32 := 5#32
  let v521 : BitVec 32 := Scalar.maxsi c0_i32_480 c5_i32
  let v522 : BitVec 32 := Scalar.minsi c61_i32_481 v521
  let c256_i32_482 : BitVec 32 := 256#32
  let v524 : BitVec 32 := Scalar.muli v522 c256_i32_482
  v524
def k0_mult23 : BitVec 32 :=
  let c1792_i32 : BitVec 32 := 1792#32
  c1792_i32
def k0_mult24 : BitVec 32 :=
  let c61_i32_490 : BitVec 32 := 61#32
  let c0_i32_489 : BitVec 32 := 0#32
  let c6_i32 : BitVec 32 := 6#32
  let v534 : BitVec 32 := Scalar.maxsi c0_i32_489 c6_i32
  let v535 : BitVec 32 := Scalar.minsi c61_i32_490 v534
  let c256_i32_491 : BitVec 32 := 256#32
  let v537 : BitVec 32 := Scalar.muli v535 c256_i32_491
  v537
@[reducible] def k0_t1_loop : Scf.Loop 32 :=
  let c0_i32_498 : BitVec 32 := 0#32
  let c7_i32 : BitVec 32 := 7#32
  let v547 : BitVec 32 := Scalar.addi c0_i32_498 c7_i32
  let c1_i32_499 : BitVec 32 := 1#32
  ⟨c0_i32_498, v547, c1_i32_499⟩
def k0_mult25 (k0_t1 : Fin k0_t1_loop.trips) : BitVec 32 :=
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c4_i32_935 : BitVec 32 := 4#32
  let v993 : BitVec 32 := Scalar.muli v992 c4_i32_935
  let c0_i32_936 : BitVec 32 := 0#32
  let v994 : BitVec 32 := Scalar.addi v993 c0_i32_936
  let c256_i32_940 : BitVec 32 := 256#32
  let v998 : BitVec 32 := Scalar.muli v994 c256_i32_940
  v998
def k0_mult26 (k0_t1 : Fin k0_t1_loop.trips) : BitVec 32 :=
  let c61_i32_939 : BitVec 32 := 61#32
  let c0_i32_938 : BitVec 32 := 0#32
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c4_i32_935 : BitVec 32 := 4#32
  let v993 : BitVec 32 := Scalar.muli v992 c4_i32_935
  let c0_i32_936 : BitVec 32 := 0#32
  let v994 : BitVec 32 := Scalar.addi v993 c0_i32_936
  let c1_i32_937 : BitVec 32 := 1#32
  let v995 : BitVec 32 := Scalar.subi v994 c1_i32_937
  let v996 : BitVec 32 := Scalar.maxsi c0_i32_938 v995
  let v997 : BitVec 32 := Scalar.minsi c61_i32_939 v996
  let c256_i32_941 : BitVec 32 := 256#32
  let v1000 : BitVec 32 := Scalar.muli v997 c256_i32_941
  v1000
def k0_off2 (k0_t1 : Fin k0_t1_loop.trips) (c0_i32_936 : BitVec 32) : Fin 2 → Nat :=
  let c61_i32_939 : BitVec 32 := 61#32
  let c0_i32_938 : BitVec 32 := 0#32
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c4_i32_935 : BitVec 32 := 4#32
  let v993 : BitVec 32 := Scalar.muli v992 c4_i32_935
  let v994 : BitVec 32 := Scalar.addi v993 c0_i32_936
  let c1_i32_937 : BitVec 32 := 1#32
  let v995 : BitVec 32 := Scalar.subi v994 c1_i32_937
  let v996 : BitVec 32 := Scalar.maxsi c0_i32_938 v995
  let v997 : BitVec 32 := Scalar.minsi c61_i32_939 v996
  let c256_i32_941 : BitVec 32 := 256#32
  let v1000 : BitVec 32 := Scalar.muli v997 c256_i32_941
  let v1001 : BitVec 32 := v1000
  let v1002 : Index := Scalar.indexCast v1001
  let c0_942 : Index := 0#32
  ![v1002.toNat, 0]
def k0_off3 (k0_t1 : Fin k0_t1_loop.trips) (c0_i32_936 : BitVec 32) : Fin 2 → Nat :=
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c4_i32_935 : BitVec 32 := 4#32
  let v993 : BitVec 32 := Scalar.muli v992 c4_i32_935
  let v994 : BitVec 32 := Scalar.addi v993 c0_i32_936
  let c256_i32_940 : BitVec 32 := 256#32
  let v998 : BitVec 32 := Scalar.muli v994 c256_i32_940
  let v999 : BitVec 32 := v998
  let v1107 : Index := Scalar.indexCast v999
  let c0_1049 : Index := 0#32
  ![v1107.toNat, 0]
def k0_mult27 (k0_t1 : Fin k0_t1_loop.trips) : BitVec 32 :=
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c4_i32_1050 : BitVec 32 := 4#32
  let v1109 : BitVec 32 := Scalar.muli v992 c4_i32_1050
  let c1_i32_1051 : BitVec 32 := 1#32
  let v1110 : BitVec 32 := Scalar.addi v1109 c1_i32_1051
  let c256_i32_1055 : BitVec 32 := 256#32
  let v1114 : BitVec 32 := Scalar.muli v1110 c256_i32_1055
  v1114
def k0_mult28 (k0_t1 : Fin k0_t1_loop.trips) : BitVec 32 :=
  let c61_i32_1054 : BitVec 32 := 61#32
  let c0_i32_1053 : BitVec 32 := 0#32
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c4_i32_1050 : BitVec 32 := 4#32
  let v1109 : BitVec 32 := Scalar.muli v992 c4_i32_1050
  let c1_i32_1051 : BitVec 32 := 1#32
  let v1110 : BitVec 32 := Scalar.addi v1109 c1_i32_1051
  let c1_i32_1052 : BitVec 32 := 1#32
  let v1111 : BitVec 32 := Scalar.subi v1110 c1_i32_1052
  let v1112 : BitVec 32 := Scalar.maxsi c0_i32_1053 v1111
  let v1113 : BitVec 32 := Scalar.minsi c61_i32_1054 v1112
  let c256_i32_1056 : BitVec 32 := 256#32
  let v1116 : BitVec 32 := Scalar.muli v1113 c256_i32_1056
  v1116
def k0_mult29 (k0_t1 : Fin k0_t1_loop.trips) : BitVec 32 :=
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c4_i32_1165 : BitVec 32 := 4#32
  let v1225 : BitVec 32 := Scalar.muli v992 c4_i32_1165
  let c2_i32_1166 : BitVec 32 := 2#32
  let v1226 : BitVec 32 := Scalar.addi v1225 c2_i32_1166
  let c256_i32_1170 : BitVec 32 := 256#32
  let v1230 : BitVec 32 := Scalar.muli v1226 c256_i32_1170
  v1230
def k0_mult30 (k0_t1 : Fin k0_t1_loop.trips) : BitVec 32 :=
  let c61_i32_1169 : BitVec 32 := 61#32
  let c0_i32_1168 : BitVec 32 := 0#32
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c4_i32_1165 : BitVec 32 := 4#32
  let v1225 : BitVec 32 := Scalar.muli v992 c4_i32_1165
  let c2_i32_1166 : BitVec 32 := 2#32
  let v1226 : BitVec 32 := Scalar.addi v1225 c2_i32_1166
  let c1_i32_1167 : BitVec 32 := 1#32
  let v1227 : BitVec 32 := Scalar.subi v1226 c1_i32_1167
  let v1228 : BitVec 32 := Scalar.maxsi c0_i32_1168 v1227
  let v1229 : BitVec 32 := Scalar.minsi c61_i32_1169 v1228
  let c256_i32_1171 : BitVec 32 := 256#32
  let v1232 : BitVec 32 := Scalar.muli v1229 c256_i32_1171
  v1232
def k0_mult31 (k0_t1 : Fin k0_t1_loop.trips) : BitVec 32 :=
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c4_i32_1280 : BitVec 32 := 4#32
  let v1341 : BitVec 32 := Scalar.muli v992 c4_i32_1280
  let c3_i32_1281 : BitVec 32 := 3#32
  let v1342 : BitVec 32 := Scalar.addi v1341 c3_i32_1281
  let c256_i32_1285 : BitVec 32 := 256#32
  let v1346 : BitVec 32 := Scalar.muli v1342 c256_i32_1285
  v1346
def k0_mult32 (k0_t1 : Fin k0_t1_loop.trips) : BitVec 32 :=
  let c61_i32_1284 : BitVec 32 := 61#32
  let c0_i32_1283 : BitVec 32 := 0#32
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c4_i32_1280 : BitVec 32 := 4#32
  let v1341 : BitVec 32 := Scalar.muli v992 c4_i32_1280
  let c3_i32_1281 : BitVec 32 := 3#32
  let v1342 : BitVec 32 := Scalar.addi v1341 c3_i32_1281
  let c1_i32_1282 : BitVec 32 := 1#32
  let v1343 : BitVec 32 := Scalar.subi v1342 c1_i32_1282
  let v1344 : BitVec 32 := Scalar.maxsi c0_i32_1283 v1343
  let v1345 : BitVec 32 := Scalar.minsi c61_i32_1284 v1344
  let c256_i32_1286 : BitVec 32 := 256#32
  let v1348 : BitVec 32 := Scalar.muli v1345 c256_i32_1286
  v1348
def k0_mult33 (k0_t1 : Fin k0_t1_loop.trips) : BitVec 32 :=
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c1_i32_1395 : BitVec 32 := 1#32
  let v1457 : BitVec 32 := Scalar.addi v992 c1_i32_1395
  let c4_i32_1396 : BitVec 32 := 4#32
  let v1458 : BitVec 32 := Scalar.muli v1457 c4_i32_1396
  let c0_i32_1397 : BitVec 32 := 0#32
  let v1459 : BitVec 32 := Scalar.addi v1458 c0_i32_1397
  let c256_i32_1401 : BitVec 32 := 256#32
  let v1463 : BitVec 32 := Scalar.muli v1459 c256_i32_1401
  v1463
def k0_mult34 (k0_t1 : Fin k0_t1_loop.trips) : BitVec 32 :=
  let c61_i32_1400 : BitVec 32 := 61#32
  let c0_i32_1399 : BitVec 32 := 0#32
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c1_i32_1395 : BitVec 32 := 1#32
  let v1457 : BitVec 32 := Scalar.addi v992 c1_i32_1395
  let c4_i32_1396 : BitVec 32 := 4#32
  let v1458 : BitVec 32 := Scalar.muli v1457 c4_i32_1396
  let c0_i32_1397 : BitVec 32 := 0#32
  let v1459 : BitVec 32 := Scalar.addi v1458 c0_i32_1397
  let c1_i32_1398 : BitVec 32 := 1#32
  let v1460 : BitVec 32 := Scalar.subi v1459 c1_i32_1398
  let v1461 : BitVec 32 := Scalar.maxsi c0_i32_1399 v1460
  let v1462 : BitVec 32 := Scalar.minsi c61_i32_1400 v1461
  let c256_i32_1402 : BitVec 32 := 256#32
  let v1465 : BitVec 32 := Scalar.muli v1462 c256_i32_1402
  v1465
def k0_off4 (k0_t1 : Fin k0_t1_loop.trips) (c0_i32_1397 : BitVec 32) : Fin 2 → Nat :=
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c1_i32_1395 : BitVec 32 := 1#32
  let v1457 : BitVec 32 := Scalar.addi v992 c1_i32_1395
  let c4_i32_1396 : BitVec 32 := 4#32
  let v1458 : BitVec 32 := Scalar.muli v1457 c4_i32_1396
  let v1459 : BitVec 32 := Scalar.addi v1458 c0_i32_1397
  let c256_i32_1401 : BitVec 32 := 256#32
  let v1463 : BitVec 32 := Scalar.muli v1459 c256_i32_1401
  let v1464 : BitVec 32 := v1463
  let v1467 : Index := Scalar.indexCast v1464
  let c0_1403 : Index := 0#32
  ![v1467.toNat, 0]
def k0_off5 (k0_t1 : Fin k0_t1_loop.trips) (c0_i32_1397 : BitVec 32) : Fin 2 → Nat :=
  let c61_i32_1400 : BitVec 32 := 61#32
  let c0_i32_1399 : BitVec 32 := 0#32
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c1_i32_1395 : BitVec 32 := 1#32
  let v1457 : BitVec 32 := Scalar.addi v992 c1_i32_1395
  let c4_i32_1396 : BitVec 32 := 4#32
  let v1458 : BitVec 32 := Scalar.muli v1457 c4_i32_1396
  let v1459 : BitVec 32 := Scalar.addi v1458 c0_i32_1397
  let c1_i32_1398 : BitVec 32 := 1#32
  let v1460 : BitVec 32 := Scalar.subi v1459 c1_i32_1398
  let v1461 : BitVec 32 := Scalar.maxsi c0_i32_1399 v1460
  let v1462 : BitVec 32 := Scalar.minsi c61_i32_1400 v1461
  let c256_i32_1402 : BitVec 32 := 256#32
  let v1465 : BitVec 32 := Scalar.muli v1462 c256_i32_1402
  let v1466 : BitVec 32 := v1465
  let v1469 : Index := Scalar.indexCast v1466
  let c0_1404 : Index := 0#32
  ![v1469.toNat, 0]
def k0_mult35 (k0_t1 : Fin k0_t1_loop.trips) : BitVec 32 :=
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c1_i32_1395 : BitVec 32 := 1#32
  let v1457 : BitVec 32 := Scalar.addi v992 c1_i32_1395
  let c4_i32_1409 : BitVec 32 := 4#32
  let v1475 : BitVec 32 := Scalar.muli v1457 c4_i32_1409
  let c1_i32_1410 : BitVec 32 := 1#32
  let v1476 : BitVec 32 := Scalar.addi v1475 c1_i32_1410
  let c256_i32_1414 : BitVec 32 := 256#32
  let v1480 : BitVec 32 := Scalar.muli v1476 c256_i32_1414
  v1480
def k0_mult36 (k0_t1 : Fin k0_t1_loop.trips) : BitVec 32 :=
  let c61_i32_1413 : BitVec 32 := 61#32
  let c0_i32_1412 : BitVec 32 := 0#32
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c1_i32_1395 : BitVec 32 := 1#32
  let v1457 : BitVec 32 := Scalar.addi v992 c1_i32_1395
  let c4_i32_1409 : BitVec 32 := 4#32
  let v1475 : BitVec 32 := Scalar.muli v1457 c4_i32_1409
  let c1_i32_1410 : BitVec 32 := 1#32
  let v1476 : BitVec 32 := Scalar.addi v1475 c1_i32_1410
  let c1_i32_1411 : BitVec 32 := 1#32
  let v1477 : BitVec 32 := Scalar.subi v1476 c1_i32_1411
  let v1478 : BitVec 32 := Scalar.maxsi c0_i32_1412 v1477
  let v1479 : BitVec 32 := Scalar.minsi c61_i32_1413 v1478
  let c256_i32_1415 : BitVec 32 := 256#32
  let v1482 : BitVec 32 := Scalar.muli v1479 c256_i32_1415
  v1482
def k0_mult37 (k0_t1 : Fin k0_t1_loop.trips) : BitVec 32 :=
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c1_i32_1395 : BitVec 32 := 1#32
  let v1457 : BitVec 32 := Scalar.addi v992 c1_i32_1395
  let c4_i32_1422 : BitVec 32 := 4#32
  let v1492 : BitVec 32 := Scalar.muli v1457 c4_i32_1422
  let c2_i32_1423 : BitVec 32 := 2#32
  let v1493 : BitVec 32 := Scalar.addi v1492 c2_i32_1423
  let c256_i32_1427 : BitVec 32 := 256#32
  let v1497 : BitVec 32 := Scalar.muli v1493 c256_i32_1427
  v1497
def k0_mult38 (k0_t1 : Fin k0_t1_loop.trips) : BitVec 32 :=
  let c61_i32_1426 : BitVec 32 := 61#32
  let c0_i32_1425 : BitVec 32 := 0#32
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c1_i32_1395 : BitVec 32 := 1#32
  let v1457 : BitVec 32 := Scalar.addi v992 c1_i32_1395
  let c4_i32_1422 : BitVec 32 := 4#32
  let v1492 : BitVec 32 := Scalar.muli v1457 c4_i32_1422
  let c2_i32_1423 : BitVec 32 := 2#32
  let v1493 : BitVec 32 := Scalar.addi v1492 c2_i32_1423
  let c1_i32_1424 : BitVec 32 := 1#32
  let v1494 : BitVec 32 := Scalar.subi v1493 c1_i32_1424
  let v1495 : BitVec 32 := Scalar.maxsi c0_i32_1425 v1494
  let v1496 : BitVec 32 := Scalar.minsi c61_i32_1426 v1495
  let c256_i32_1428 : BitVec 32 := 256#32
  let v1499 : BitVec 32 := Scalar.muli v1496 c256_i32_1428
  v1499
def k0_mult39 (k0_t1 : Fin k0_t1_loop.trips) : BitVec 32 :=
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c1_i32_1395 : BitVec 32 := 1#32
  let v1457 : BitVec 32 := Scalar.addi v992 c1_i32_1395
  let c4_i32_1435 : BitVec 32 := 4#32
  let v1509 : BitVec 32 := Scalar.muli v1457 c4_i32_1435
  let c3_i32_1436 : BitVec 32 := 3#32
  let v1510 : BitVec 32 := Scalar.addi v1509 c3_i32_1436
  let c256_i32_1440 : BitVec 32 := 256#32
  let v1514 : BitVec 32 := Scalar.muli v1510 c256_i32_1440
  v1514
def k0_mult40 (k0_t1 : Fin k0_t1_loop.trips) : BitVec 32 :=
  let c61_i32_1439 : BitVec 32 := 61#32
  let c0_i32_1438 : BitVec 32 := 0#32
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c1_i32_1395 : BitVec 32 := 1#32
  let v1457 : BitVec 32 := Scalar.addi v992 c1_i32_1395
  let c4_i32_1435 : BitVec 32 := 4#32
  let v1509 : BitVec 32 := Scalar.muli v1457 c4_i32_1435
  let c3_i32_1436 : BitVec 32 := 3#32
  let v1510 : BitVec 32 := Scalar.addi v1509 c3_i32_1436
  let c1_i32_1437 : BitVec 32 := 1#32
  let v1511 : BitVec 32 := Scalar.subi v1510 c1_i32_1437
  let v1512 : BitVec 32 := Scalar.maxsi c0_i32_1438 v1511
  let v1513 : BitVec 32 := Scalar.minsi c61_i32_1439 v1512
  let c256_i32_1441 : BitVec 32 := 256#32
  let v1516 : BitVec 32 := Scalar.muli v1513 c256_i32_1441
  v1516
def k0_mult41 (k0_t1 : Fin k0_t1_loop.trips) : BitVec 32 :=
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c1_i32_1448 : BitVec 32 := 1#32
  let v1526 : BitVec 32 := Scalar.addi v992 c1_i32_1448
  let c4_i32_1449 : BitVec 32 := 4#32
  let v1527 : BitVec 32 := Scalar.muli v1526 c4_i32_1449
  let c0_i32_1450 : BitVec 32 := 0#32
  let v1528 : BitVec 32 := Scalar.addi v1527 c0_i32_1450
  let c256_i32_1454 : BitVec 32 := 256#32
  let v1532 : BitVec 32 := Scalar.muli v1528 c256_i32_1454
  v1532
def k0_mult42 (k0_t1 : Fin k0_t1_loop.trips) : BitVec 32 :=
  let c61_i32_1453 : BitVec 32 := 61#32
  let c0_i32_1452 : BitVec 32 := 0#32
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c1_i32_1448 : BitVec 32 := 1#32
  let v1526 : BitVec 32 := Scalar.addi v992 c1_i32_1448
  let c4_i32_1449 : BitVec 32 := 4#32
  let v1527 : BitVec 32 := Scalar.muli v1526 c4_i32_1449
  let c0_i32_1450 : BitVec 32 := 0#32
  let v1528 : BitVec 32 := Scalar.addi v1527 c0_i32_1450
  let c1_i32_1451 : BitVec 32 := 1#32
  let v1529 : BitVec 32 := Scalar.subi v1528 c1_i32_1451
  let v1530 : BitVec 32 := Scalar.maxsi c0_i32_1452 v1529
  let v1531 : BitVec 32 := Scalar.minsi c61_i32_1453 v1530
  let c256_i32_1455 : BitVec 32 := 256#32
  let v1534 : BitVec 32 := Scalar.muli v1531 c256_i32_1455
  v1534
def k0_mult43 (k0_t1 : Fin k0_t1_loop.trips) : BitVec 32 :=
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c1_i32_1448 : BitVec 32 := 1#32
  let v1526 : BitVec 32 := Scalar.addi v992 c1_i32_1448
  let c4_i32_1564 : BitVec 32 := 4#32
  let v1643 : BitVec 32 := Scalar.muli v1526 c4_i32_1564
  let c1_i32_1565 : BitVec 32 := 1#32
  let v1644 : BitVec 32 := Scalar.addi v1643 c1_i32_1565
  let c256_i32_1569 : BitVec 32 := 256#32
  let v1648 : BitVec 32 := Scalar.muli v1644 c256_i32_1569
  v1648
def k0_mult44 (k0_t1 : Fin k0_t1_loop.trips) : BitVec 32 :=
  let c61_i32_1568 : BitVec 32 := 61#32
  let c0_i32_1567 : BitVec 32 := 0#32
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c1_i32_1448 : BitVec 32 := 1#32
  let v1526 : BitVec 32 := Scalar.addi v992 c1_i32_1448
  let c4_i32_1564 : BitVec 32 := 4#32
  let v1643 : BitVec 32 := Scalar.muli v1526 c4_i32_1564
  let c1_i32_1565 : BitVec 32 := 1#32
  let v1644 : BitVec 32 := Scalar.addi v1643 c1_i32_1565
  let c1_i32_1566 : BitVec 32 := 1#32
  let v1645 : BitVec 32 := Scalar.subi v1644 c1_i32_1566
  let v1646 : BitVec 32 := Scalar.maxsi c0_i32_1567 v1645
  let v1647 : BitVec 32 := Scalar.minsi c61_i32_1568 v1646
  let c256_i32_1570 : BitVec 32 := 256#32
  let v1650 : BitVec 32 := Scalar.muli v1647 c256_i32_1570
  v1650
def k0_mult45 (k0_t1 : Fin k0_t1_loop.trips) : BitVec 32 :=
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c1_i32_1448 : BitVec 32 := 1#32
  let v1526 : BitVec 32 := Scalar.addi v992 c1_i32_1448
  let c4_i32_1679 : BitVec 32 := 4#32
  let v1759 : BitVec 32 := Scalar.muli v1526 c4_i32_1679
  let c2_i32_1680 : BitVec 32 := 2#32
  let v1760 : BitVec 32 := Scalar.addi v1759 c2_i32_1680
  let c256_i32_1684 : BitVec 32 := 256#32
  let v1764 : BitVec 32 := Scalar.muli v1760 c256_i32_1684
  v1764
def k0_mult46 (k0_t1 : Fin k0_t1_loop.trips) : BitVec 32 :=
  let c61_i32_1683 : BitVec 32 := 61#32
  let c0_i32_1682 : BitVec 32 := 0#32
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c1_i32_1448 : BitVec 32 := 1#32
  let v1526 : BitVec 32 := Scalar.addi v992 c1_i32_1448
  let c4_i32_1679 : BitVec 32 := 4#32
  let v1759 : BitVec 32 := Scalar.muli v1526 c4_i32_1679
  let c2_i32_1680 : BitVec 32 := 2#32
  let v1760 : BitVec 32 := Scalar.addi v1759 c2_i32_1680
  let c1_i32_1681 : BitVec 32 := 1#32
  let v1761 : BitVec 32 := Scalar.subi v1760 c1_i32_1681
  let v1762 : BitVec 32 := Scalar.maxsi c0_i32_1682 v1761
  let v1763 : BitVec 32 := Scalar.minsi c61_i32_1683 v1762
  let c256_i32_1685 : BitVec 32 := 256#32
  let v1766 : BitVec 32 := Scalar.muli v1763 c256_i32_1685
  v1766
def k0_mult47 (k0_t1 : Fin k0_t1_loop.trips) : BitVec 32 :=
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c1_i32_1448 : BitVec 32 := 1#32
  let v1526 : BitVec 32 := Scalar.addi v992 c1_i32_1448
  let c4_i32_1794 : BitVec 32 := 4#32
  let v1875 : BitVec 32 := Scalar.muli v1526 c4_i32_1794
  let c3_i32_1795 : BitVec 32 := 3#32
  let v1876 : BitVec 32 := Scalar.addi v1875 c3_i32_1795
  let c256_i32_1799 : BitVec 32 := 256#32
  let v1880 : BitVec 32 := Scalar.muli v1876 c256_i32_1799
  v1880
def k0_mult48 (k0_t1 : Fin k0_t1_loop.trips) : BitVec 32 :=
  let c61_i32_1798 : BitVec 32 := 61#32
  let c0_i32_1797 : BitVec 32 := 0#32
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c1_i32_1448 : BitVec 32 := 1#32
  let v1526 : BitVec 32 := Scalar.addi v992 c1_i32_1448
  let c4_i32_1794 : BitVec 32 := 4#32
  let v1875 : BitVec 32 := Scalar.muli v1526 c4_i32_1794
  let c3_i32_1795 : BitVec 32 := 3#32
  let v1876 : BitVec 32 := Scalar.addi v1875 c3_i32_1795
  let c1_i32_1796 : BitVec 32 := 1#32
  let v1877 : BitVec 32 := Scalar.subi v1876 c1_i32_1796
  let v1878 : BitVec 32 := Scalar.maxsi c0_i32_1797 v1877
  let v1879 : BitVec 32 := Scalar.minsi c61_i32_1798 v1878
  let c256_i32_1800 : BitVec 32 := 256#32
  let v1882 : BitVec 32 := Scalar.muli v1879 c256_i32_1800
  v1882
def k0_mult49 (k0_t1 : Fin k0_t1_loop.trips) : BitVec 32 :=
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c1_i32_1448 : BitVec 32 := 1#32
  let v1526 : BitVec 32 := Scalar.addi v992 c1_i32_1448
  let c1_i32_1909 : BitVec 32 := 1#32
  let v1991 : BitVec 32 := Scalar.addi v1526 c1_i32_1909
  let c4_i32_1910 : BitVec 32 := 4#32
  let v1992 : BitVec 32 := Scalar.muli v1991 c4_i32_1910
  let c0_i32_1911 : BitVec 32 := 0#32
  let v1993 : BitVec 32 := Scalar.addi v1992 c0_i32_1911
  let c256_i32_1915 : BitVec 32 := 256#32
  let v1997 : BitVec 32 := Scalar.muli v1993 c256_i32_1915
  v1997
def k0_mult50 (k0_t1 : Fin k0_t1_loop.trips) : BitVec 32 :=
  let c61_i32_1914 : BitVec 32 := 61#32
  let c0_i32_1913 : BitVec 32 := 0#32
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c1_i32_1448 : BitVec 32 := 1#32
  let v1526 : BitVec 32 := Scalar.addi v992 c1_i32_1448
  let c1_i32_1909 : BitVec 32 := 1#32
  let v1991 : BitVec 32 := Scalar.addi v1526 c1_i32_1909
  let c4_i32_1910 : BitVec 32 := 4#32
  let v1992 : BitVec 32 := Scalar.muli v1991 c4_i32_1910
  let c0_i32_1911 : BitVec 32 := 0#32
  let v1993 : BitVec 32 := Scalar.addi v1992 c0_i32_1911
  let c1_i32_1912 : BitVec 32 := 1#32
  let v1994 : BitVec 32 := Scalar.subi v1993 c1_i32_1912
  let v1995 : BitVec 32 := Scalar.maxsi c0_i32_1913 v1994
  let v1996 : BitVec 32 := Scalar.minsi c61_i32_1914 v1995
  let c256_i32_1916 : BitVec 32 := 256#32
  let v1999 : BitVec 32 := Scalar.muli v1996 c256_i32_1916
  v1999
def k0_off6 (k0_t1 : Fin k0_t1_loop.trips) (c0_i32_1911 : BitVec 32) : Fin 2 → Nat :=
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c1_i32_1448 : BitVec 32 := 1#32
  let v1526 : BitVec 32 := Scalar.addi v992 c1_i32_1448
  let c1_i32_1909 : BitVec 32 := 1#32
  let v1991 : BitVec 32 := Scalar.addi v1526 c1_i32_1909
  let c4_i32_1910 : BitVec 32 := 4#32
  let v1992 : BitVec 32 := Scalar.muli v1991 c4_i32_1910
  let v1993 : BitVec 32 := Scalar.addi v1992 c0_i32_1911
  let c256_i32_1915 : BitVec 32 := 256#32
  let v1997 : BitVec 32 := Scalar.muli v1993 c256_i32_1915
  let v1998 : BitVec 32 := v1997
  let v2001 : Index := Scalar.indexCast v1998
  let c0_1917 : Index := 0#32
  ![v2001.toNat, 0]
def k0_off7 (k0_t1 : Fin k0_t1_loop.trips) (c0_i32_1911 : BitVec 32) : Fin 2 → Nat :=
  let c61_i32_1914 : BitVec 32 := 61#32
  let c0_i32_1913 : BitVec 32 := 0#32
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c1_i32_1448 : BitVec 32 := 1#32
  let v1526 : BitVec 32 := Scalar.addi v992 c1_i32_1448
  let c1_i32_1909 : BitVec 32 := 1#32
  let v1991 : BitVec 32 := Scalar.addi v1526 c1_i32_1909
  let c4_i32_1910 : BitVec 32 := 4#32
  let v1992 : BitVec 32 := Scalar.muli v1991 c4_i32_1910
  let v1993 : BitVec 32 := Scalar.addi v1992 c0_i32_1911
  let c1_i32_1912 : BitVec 32 := 1#32
  let v1994 : BitVec 32 := Scalar.subi v1993 c1_i32_1912
  let v1995 : BitVec 32 := Scalar.maxsi c0_i32_1913 v1994
  let v1996 : BitVec 32 := Scalar.minsi c61_i32_1914 v1995
  let c256_i32_1916 : BitVec 32 := 256#32
  let v1999 : BitVec 32 := Scalar.muli v1996 c256_i32_1916
  let v2000 : BitVec 32 := v1999
  let v2003 : Index := Scalar.indexCast v2000
  let c0_1918 : Index := 0#32
  ![v2003.toNat, 0]
def k0_mult51 (k0_t1 : Fin k0_t1_loop.trips) : BitVec 32 :=
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c1_i32_1448 : BitVec 32 := 1#32
  let v1526 : BitVec 32 := Scalar.addi v992 c1_i32_1448
  let c1_i32_1909 : BitVec 32 := 1#32
  let v1991 : BitVec 32 := Scalar.addi v1526 c1_i32_1909
  let c4_i32_1923 : BitVec 32 := 4#32
  let v2009 : BitVec 32 := Scalar.muli v1991 c4_i32_1923
  let c1_i32_1924 : BitVec 32 := 1#32
  let v2010 : BitVec 32 := Scalar.addi v2009 c1_i32_1924
  let c256_i32_1928 : BitVec 32 := 256#32
  let v2014 : BitVec 32 := Scalar.muli v2010 c256_i32_1928
  v2014
def k0_mult52 (k0_t1 : Fin k0_t1_loop.trips) : BitVec 32 :=
  let c61_i32_1927 : BitVec 32 := 61#32
  let c0_i32_1926 : BitVec 32 := 0#32
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c1_i32_1448 : BitVec 32 := 1#32
  let v1526 : BitVec 32 := Scalar.addi v992 c1_i32_1448
  let c1_i32_1909 : BitVec 32 := 1#32
  let v1991 : BitVec 32 := Scalar.addi v1526 c1_i32_1909
  let c4_i32_1923 : BitVec 32 := 4#32
  let v2009 : BitVec 32 := Scalar.muli v1991 c4_i32_1923
  let c1_i32_1924 : BitVec 32 := 1#32
  let v2010 : BitVec 32 := Scalar.addi v2009 c1_i32_1924
  let c1_i32_1925 : BitVec 32 := 1#32
  let v2011 : BitVec 32 := Scalar.subi v2010 c1_i32_1925
  let v2012 : BitVec 32 := Scalar.maxsi c0_i32_1926 v2011
  let v2013 : BitVec 32 := Scalar.minsi c61_i32_1927 v2012
  let c256_i32_1929 : BitVec 32 := 256#32
  let v2016 : BitVec 32 := Scalar.muli v2013 c256_i32_1929
  v2016
def k0_mult53 (k0_t1 : Fin k0_t1_loop.trips) : BitVec 32 :=
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c1_i32_1448 : BitVec 32 := 1#32
  let v1526 : BitVec 32 := Scalar.addi v992 c1_i32_1448
  let c1_i32_1909 : BitVec 32 := 1#32
  let v1991 : BitVec 32 := Scalar.addi v1526 c1_i32_1909
  let c4_i32_1936 : BitVec 32 := 4#32
  let v2026 : BitVec 32 := Scalar.muli v1991 c4_i32_1936
  let c2_i32_1937 : BitVec 32 := 2#32
  let v2027 : BitVec 32 := Scalar.addi v2026 c2_i32_1937
  let c256_i32_1941 : BitVec 32 := 256#32
  let v2031 : BitVec 32 := Scalar.muli v2027 c256_i32_1941
  v2031
def k0_mult54 (k0_t1 : Fin k0_t1_loop.trips) : BitVec 32 :=
  let c61_i32_1940 : BitVec 32 := 61#32
  let c0_i32_1939 : BitVec 32 := 0#32
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c1_i32_1448 : BitVec 32 := 1#32
  let v1526 : BitVec 32 := Scalar.addi v992 c1_i32_1448
  let c1_i32_1909 : BitVec 32 := 1#32
  let v1991 : BitVec 32 := Scalar.addi v1526 c1_i32_1909
  let c4_i32_1936 : BitVec 32 := 4#32
  let v2026 : BitVec 32 := Scalar.muli v1991 c4_i32_1936
  let c2_i32_1937 : BitVec 32 := 2#32
  let v2027 : BitVec 32 := Scalar.addi v2026 c2_i32_1937
  let c1_i32_1938 : BitVec 32 := 1#32
  let v2028 : BitVec 32 := Scalar.subi v2027 c1_i32_1938
  let v2029 : BitVec 32 := Scalar.maxsi c0_i32_1939 v2028
  let v2030 : BitVec 32 := Scalar.minsi c61_i32_1940 v2029
  let c256_i32_1942 : BitVec 32 := 256#32
  let v2033 : BitVec 32 := Scalar.muli v2030 c256_i32_1942
  v2033
def k0_mult55 (k0_t1 : Fin k0_t1_loop.trips) : BitVec 32 :=
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c1_i32_1448 : BitVec 32 := 1#32
  let v1526 : BitVec 32 := Scalar.addi v992 c1_i32_1448
  let c1_i32_1909 : BitVec 32 := 1#32
  let v1991 : BitVec 32 := Scalar.addi v1526 c1_i32_1909
  let c4_i32_1949 : BitVec 32 := 4#32
  let v2043 : BitVec 32 := Scalar.muli v1991 c4_i32_1949
  let c3_i32_1950 : BitVec 32 := 3#32
  let v2044 : BitVec 32 := Scalar.addi v2043 c3_i32_1950
  let c256_i32_1954 : BitVec 32 := 256#32
  let v2048 : BitVec 32 := Scalar.muli v2044 c256_i32_1954
  v2048
def k0_mult56 (k0_t1 : Fin k0_t1_loop.trips) : BitVec 32 :=
  let c61_i32_1953 : BitVec 32 := 61#32
  let c0_i32_1952 : BitVec 32 := 0#32
  let c1_i32_934 : BitVec 32 := 1#32
  let c2_i32_933 : BitVec 32 := 2#32
  let c0_i32_498 : BitVec 32 := 0#32
  let c1_i32_499 : BitVec 32 := 1#32
  let arg8 : BitVec 32 := Scf.iv c0_i32_498 c1_i32_499 k0_t1
  let v991 : BitVec 32 := Scalar.muli c2_i32_933 arg8
  let v992 : BitVec 32 := Scalar.addi c1_i32_934 v991
  let c1_i32_1448 : BitVec 32 := 1#32
  let v1526 : BitVec 32 := Scalar.addi v992 c1_i32_1448
  let c1_i32_1909 : BitVec 32 := 1#32
  let v1991 : BitVec 32 := Scalar.addi v1526 c1_i32_1909
  let c4_i32_1949 : BitVec 32 := 4#32
  let v2043 : BitVec 32 := Scalar.muli v1991 c4_i32_1949
  let c3_i32_1950 : BitVec 32 := 3#32
  let v2044 : BitVec 32 := Scalar.addi v2043 c3_i32_1950
  let c1_i32_1951 : BitVec 32 := 1#32
  let v2045 : BitVec 32 := Scalar.subi v2044 c1_i32_1951
  let v2046 : BitVec 32 := Scalar.maxsi c0_i32_1952 v2045
  let v2047 : BitVec 32 := Scalar.minsi c61_i32_1953 v2046
  let c256_i32_1955 : BitVec 32 := 256#32
  let v2050 : BitVec 32 := Scalar.muli v2047 c256_i32_1955
  v2050
def k0_mult57 : BitVec 32 :=
  let c15360_i32 : BitVec 32 := 15360#32
  c15360_i32
def k0_mult58 : BitVec 32 :=
  let c61_i32_502 : BitVec 32 := 61#32
  let c0_i32_501 : BitVec 32 := 0#32
  let c59_i32 : BitVec 32 := 59#32
  let v548 : BitVec 32 := Scalar.maxsi c0_i32_501 c59_i32
  let v549 : BitVec 32 := Scalar.minsi c61_i32_502 v548
  let c256_i32_503 : BitVec 32 := 256#32
  let v551 : BitVec 32 := Scalar.muli v549 c256_i32_503
  v551
def k0_mult59 : BitVec 32 :=
  let c15616_i32 : BitVec 32 := 15616#32
  c15616_i32
def k0_mult60 : BitVec 32 :=
  let c61_i32_613 : BitVec 32 := 61#32
  let c0_i32_612 : BitVec 32 := 0#32
  let c60_i32 : BitVec 32 := 60#32
  let v660 : BitVec 32 := Scalar.maxsi c0_i32_612 c60_i32
  let v661 : BitVec 32 := Scalar.minsi c61_i32_613 v660
  let c256_i32_614 : BitVec 32 := 256#32
  let v663 : BitVec 32 := Scalar.muli v661 c256_i32_614
  v663
def k0_mult61 : BitVec 32 :=
  let c15872_i32 : BitVec 32 := 15872#32
  c15872_i32
def k0_mult62 : BitVec 32 :=
  let c61_i32_725 : BitVec 32 := 61#32
  let c0_i32_724 : BitVec 32 := 0#32
  let c61_i32_723 : BitVec 32 := 61#32
  let v772 : BitVec 32 := Scalar.maxsi c0_i32_724 c61_i32_723
  let v773 : BitVec 32 := Scalar.minsi c61_i32_725 v772
  let c256_i32_726 : BitVec 32 := 256#32
  let v775 : BitVec 32 := Scalar.muli v773 c256_i32_726
  v775
def k0_mult63 : BitVec 32 :=
  let c16128_i32 : BitVec 32 := 16128#32
  c16128_i32
def k0_mult64 : BitVec 32 :=
  let c61_i32_836 : BitVec 32 := 61#32
  let c0_i32_835 : BitVec 32 := 0#32
  let c62_i32 : BitVec 32 := 62#32
  let v884 : BitVec 32 := Scalar.maxsi c0_i32_835 c62_i32
  let v885 : BitVec 32 := Scalar.minsi c61_i32_836 v884
  let c256_i32_837 : BitVec 32 := 256#32
  let v887 : BitVec 32 := Scalar.muli v885 c256_i32_837
  v887
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16384x4096 : Shape := ⟨2, ![16384, 4096]⟩
abbrev S16384x2048 : Shape := ⟨2, ![16384, 2048]⟩
abbrev S16x15x31 : Shape := ⟨3, ![16, 15, 31]⟩
abbrev S256x64x16x128 : Shape := ⟨4, ![256, 64, 16, 128]⟩
abbrev S64 : Shape := ⟨1, ![64]⟩
abbrev S_ : Shape := ⟨0, ![]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S256 : Shape := ⟨1, ![256]⟩
abbrev S256x1 : Shape := ⟨2, ![256, 1]⟩
abbrev S8 : Shape := ⟨1, ![8]⟩
abbrev S1x8 : Shape := ⟨2, ![1, 8]⟩
abbrev S256x8 : Shape := ⟨2, ![256, 8]⟩
abbrev S256x8x1 : Shape := ⟨3, ![256, 8, 1]⟩
abbrev S256x8x64x16x128 : Shape := ⟨5, ![256, 8, 64, 16, 128]⟩
abbrev S64x16x1 : Shape := ⟨3, ![64, 16, 1]⟩
abbrev S256x8x64x16x16x128 : Shape := ⟨6, ![256, 8, 64, 16, 16, 128]⟩
abbrev S16x256x8x31 : Shape := ⟨4, ![16, 256, 8, 31]⟩
abbrev S16x256x8x64x16 : Shape := ⟨5, ![16, 256, 8, 64, 16]⟩
abbrev S256x16x64x8x16 : Shape := ⟨5, ![256, 16, 64, 8, 16]⟩
abbrev S256x16x64 : Shape := ⟨3, ![256, 16, 64]⟩
abbrev S256x16x64x1x1 : Shape := ⟨5, ![256, 16, 64, 1, 1]⟩

abbrev nBuf : Space → Nat
  | .hbm => 91
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x2048, .bf16⟩
  | .hbm, ⟨2, _⟩ => ⟨S16x15x31, .f32⟩
  | .hbm, ⟨3, _⟩ => ⟨S16384x2048, .bf16⟩
  | .hbm, ⟨4, _⟩ => ⟨S16384x2048, .f32⟩
  | .hbm, ⟨5, _⟩ => ⟨S16384x2048, .bf16⟩
  | .hbm, ⟨6, _⟩ => ⟨S16384x2048, .f32⟩
  | .hbm, ⟨7, _⟩ => ⟨S256x64x16x128, .f32⟩
  | .hbm, ⟨8, _⟩ => ⟨S256x64x16x128, .f32⟩
  | .hbm, ⟨9, _⟩ => ⟨S16384x2048, .f32⟩
  | .hbm, ⟨10, _⟩ => ⟨S256x64x16x128, .f32⟩
  | .hbm, ⟨11, _⟩ => ⟨S64, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S64, .i32⟩
  | .hbm, ⟨19, _⟩ => ⟨S64, .i32⟩
  | .hbm, ⟨20, _⟩ => ⟨S_, .i32⟩
  | .hbm, ⟨21, _⟩ => ⟨S64, .i32⟩
  | .hbm, ⟨22, _⟩ => ⟨S64, .i32⟩
  | .hbm, ⟨23, _⟩ => ⟨S64x1, .i32⟩
  | .hbm, ⟨24, _⟩ => ⟨S16, .i32⟩
  | .hbm, ⟨25, _⟩ => ⟨S1x16, .i32⟩
  | .hbm, ⟨26, _⟩ => ⟨S64x16, .i32⟩
  | .hbm, ⟨27, _⟩ => ⟨S64x16, .i32⟩
  | .hbm, ⟨28, _⟩ => ⟨S64x16, .i32⟩
  | .hbm, ⟨29, _⟩ => ⟨S64x1, .i32⟩
  | .hbm, ⟨30, _⟩ => ⟨S64x16, .i32⟩
  | .hbm, ⟨31, _⟩ => ⟨S64x16, .i32⟩
  | .hbm, ⟨32, _⟩ => ⟨S_, .i32⟩
  | .hbm, ⟨33, _⟩ => ⟨S64x16, .i32⟩
  | .hbm, ⟨34, _⟩ => ⟨S64x16, .i32⟩
  | .hbm, ⟨35, _⟩ => ⟨S256, .i32⟩
  | .hbm, ⟨36, _⟩ => ⟨S_, .i32⟩
  | .hbm, ⟨37, _⟩ => ⟨S256, .i32⟩
  | .hbm, ⟨38, _⟩ => ⟨S256, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S256, .i32⟩
  | .hbm, ⟨43, _⟩ => ⟨S256, .i32⟩
  | .hbm, ⟨44, _⟩ => ⟨S_, .i32⟩
  | .hbm, ⟨45, _⟩ => ⟨S256, .i32⟩
  | .hbm, ⟨46, _⟩ => ⟨S256, .i32⟩
  | .hbm, ⟨47, _⟩ => ⟨S256x1, .i32⟩
  | .hbm, ⟨48, _⟩ => ⟨S8, .i32⟩
  | .hbm, ⟨49, _⟩ => ⟨S1x8, .i32⟩
  | .hbm, ⟨50, _⟩ => ⟨S256x8, .i32⟩
  | .hbm, ⟨51, _⟩ => ⟨S256x8, .i32⟩
  | .hbm, ⟨52, _⟩ => ⟨S256x8, .i32⟩
  | .hbm, ⟨53, _⟩ => ⟨S256x1, .i32⟩
  | .hbm, ⟨54, _⟩ => ⟨S256x8, .i32⟩
  | .hbm, ⟨55, _⟩ => ⟨S256x8, .i32⟩
  | .hbm, ⟨56, _⟩ => ⟨S_, .i32⟩
  | .hbm, ⟨57, _⟩ => ⟨S256x8, .i32⟩
  | .hbm, ⟨58, _⟩ => ⟨S256x8, .i32⟩
  | .hbm, ⟨59, _⟩ => ⟨S256x8x1, .i32⟩
  | .hbm, ⟨60, _⟩ => ⟨S256x8x64x16x128, .f32⟩
  | .hbm, ⟨61, _⟩ => ⟨S64x16x1, .i32⟩
  | .hbm, ⟨62, _⟩ => ⟨S256x8x64x16x16x128, .f32⟩
  | .hbm, ⟨63, _⟩ => ⟨S256x8x1, .i32⟩
  | .hbm, ⟨64, _⟩ => ⟨S256x8x64x16x128, .f32⟩
  | .hbm, ⟨65, _⟩ => ⟨S64x16x1, .i32⟩
  | .hbm, ⟨66, _⟩ => ⟨S256x8x64x16x16x128, .f32⟩
  | .hbm, ⟨67, _⟩ => ⟨S256x8x1, .i32⟩
  | .hbm, ⟨68, _⟩ => ⟨S16x256x8x31, .f32⟩
  | .hbm, ⟨69, _⟩ => ⟨S64x16x1, .i32⟩
  | .hbm, ⟨70, _⟩ => ⟨S16x256x8x64x16, .f32⟩
  | .hbm, ⟨71, _⟩ => ⟨S256x16x64x8x16, .f32⟩
  | .hbm, ⟨72, _⟩ => ⟨S256x16x64x8x16, .f32⟩
  | .hbm, ⟨73, _⟩ => ⟨S256x16x64x8x16, .f32⟩
  | .hbm, ⟨74, _⟩ => ⟨S_, .f32⟩
  | .hbm, ⟨75, _⟩ => ⟨S256x16x64, .f32⟩
  | .hbm, ⟨76, _⟩ => ⟨S_, .f32⟩
  | .hbm, ⟨77, _⟩ => ⟨S256x16x64, .f32⟩
  | .hbm, ⟨78, _⟩ => ⟨S256x16x64, .f32⟩
  | .hbm, ⟨79, _⟩ => ⟨S256x16x64x1x1, .f32⟩
  | .hbm, ⟨80, _⟩ => ⟨S256x16x64x8x16, .f32⟩
  | .hbm, ⟨81, _⟩ => ⟨S256x16x64x8x16, .f32⟩
  | .hbm, ⟨82, _⟩ => ⟨S256x16x64x8x16, .f32⟩
  | .hbm, ⟨83, _⟩ => ⟨S_, .f32⟩
  | .hbm, ⟨84, _⟩ => ⟨S256x16x64, .f32⟩
  | .hbm, ⟨85, _⟩ => ⟨S256x16x64x1x1, .f32⟩
  | .hbm, ⟨86, _⟩ => ⟨S256x16x64x8x16, .f32⟩
  | .hbm, ⟨87, _⟩ => ⟨S256x16x64x8x16, .f32⟩
  | .hbm, ⟨88, _⟩ => ⟨S256x64x16x128, .f32⟩
  | .hbm, ⟨89, _⟩ => ⟨S16384x2048, .f32⟩
  | .hbm, ⟨90, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_c_5 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_call2_v0 : Ref sig .tc := ⟨.hbm, 59, rfl⟩
abbrev main_v38 : Ref sig .tc := ⟨.hbm, 60, rfl⟩
abbrev main_call3_v0 : Ref sig .tc := ⟨.hbm, 61, rfl⟩
abbrev main_v39 : Ref sig .tc := ⟨.hbm, 62, rfl⟩
abbrev main_call4_v0 : Ref sig .tc := ⟨.hbm, 63, rfl⟩
abbrev main_v40 : Ref sig .tc := ⟨.hbm, 64, rfl⟩
abbrev main_call5_v0 : Ref sig .tc := ⟨.hbm, 65, rfl⟩
abbrev main_v41 : Ref sig .tc := ⟨.hbm, 66, rfl⟩
abbrev main_call6_v0 : Ref sig .tc := ⟨.hbm, 67, rfl⟩
abbrev main_v42 : Ref sig .tc := ⟨.hbm, 68, rfl⟩
abbrev main_call7_v0 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst : Ref sig .tc := ⟨.hbm, 74, rfl⟩
abbrev main_v47 : Ref sig .tc := ⟨.hbm, 75, rfl⟩
abbrev main_cst_7 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_8 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]
-- ==== Kernel2.lean ====
abbrev S16384x11008 : Shape := ⟨2, ![16384, 11008]⟩
abbrev S11008x4096 : Shape := ⟨2, ![11008, 4096]⟩
abbrev S16384x4096 : Shape := ⟨2, ![16384, 4096]⟩
abbrev S512x11008 : Shape := ⟨2, ![512, 11008]⟩
abbrev S11008x1024 : Shape := ⟨2, ![11008, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .f32⟩
  | .hbm, ⟨2, _⟩ => ⟨S16384x4096, .f32⟩
  | .hbm, ⟨3, _⟩ => ⟨S11008x4096, .bf16⟩
  | .hbm, ⟨4, _⟩ => ⟨S16384x4096, .f32⟩
  | .local _ .vmem, ⟨0, _⟩ => ⟨S512x11008, .bf16⟩
  | .local _ .vmem, ⟨1, _⟩ => ⟨S512x11008, .bf16⟩
  | .local _ .vmem, ⟨2, _⟩ => ⟨S11008x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S11008x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x11008 : Shape := ⟨2, ![16384, 11008]⟩
abbrev S11008x4096 : Shape := ⟨2, ![11008, 4096]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .f32⟩
  | .hbm, ⟨2, _⟩ => ⟨S16384x4096, .f32⟩
  | .hbm, ⟨3, _⟩ => ⟨S16384x11008, .f32⟩
  | .hbm, ⟨4, _⟩ => ⟨S16384x4096, .f32⟩
  | .hbm, ⟨5, _⟩ => ⟨S16384x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel3.lean ====
abbrev S16384x4096 : Shape := ⟨2, ![16384, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S4096x4096, .bf16⟩
  | .hbm, ⟨4, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x4096 : Shape := ⟨2, ![16384, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S16384x4096, .f32⟩
  | .hbm, ⟨4, _⟩ => ⟨S16384x4096, .f32⟩
  | .hbm, ⟨5, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S16384x2048 : Shape := ⟨2, ![16384, 2048]⟩
abbrev S2048x4096 : Shape := ⟨2, ![2048, 4096]⟩
abbrev S16384x8192 : Shape := ⟨2, ![16384, 8192]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 8
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2048x4096, .f32⟩
  | .hbm, ⟨3, _⟩ => ⟨S2048x4096, .f32⟩
  | .hbm, ⟨4, _⟩ => ⟨S16384x8192, .bf16⟩
  | .hbm, ⟨5, _⟩ => ⟨S2048x4096, .bf16⟩
  | .hbm, ⟨6, _⟩ => ⟨S2048x4096, .bf16⟩
  | .hbm, ⟨7, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S16384x2048 : Shape := ⟨2, ![16384, 2048]⟩
abbrev S2048x4096 : Shape := ⟨2, ![2048, 4096]⟩
abbrev S16384x8192 : Shape := ⟨2, ![16384, 8192]⟩
abbrev S16384x4096 : Shape := ⟨2, ![16384, 4096]⟩

abbrev nBuf : Space → Nat
  | .hbm => 16
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2048x4096, .f32⟩
  | .hbm, ⟨3, _⟩ => ⟨S2048x4096, .f32⟩
  | .hbm, ⟨4, _⟩ => ⟨S16384x8192, .bf16⟩
  | .hbm, ⟨5, _⟩ => ⟨S16384x8192, .f32⟩
  | .hbm, ⟨6, _⟩ => ⟨S16384x4096, .f32⟩
  | .hbm, ⟨7, _⟩ => ⟨S16384x4096, .f32⟩
  | .hbm, ⟨8, _⟩ => ⟨S16384x2048, .f32⟩
  | .hbm, ⟨9, _⟩ => ⟨S16384x4096, .f32⟩
  | .hbm, ⟨10, _⟩ => ⟨S16384x4096, .f32⟩
  | .hbm, ⟨11, _⟩ => ⟨S16384x2048, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel5.lean ====
abbrev S16384x4096 : Shape := ⟨2, ![16384, 4096]⟩
abbrev S4096x18432 : Shape := ⟨2, ![4096, 18432]⟩
abbrev S4096x4096 : Shape := ⟨2, ![4096, 4096]⟩
abbrev S1024x4096 : Shape := ⟨2, ![1024, 4096]⟩
abbrev S4096x1024 : Shape := ⟨2, ![4096, 1024]⟩
abbrev S64x18432 : Shape := ⟨2, ![64, 18432]⟩
abbrev S1024x1024 : Shape := ⟨2, ![1024, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x18432, .f32⟩
  | .hbm, ⟨2, _⟩ => ⟨S4096x4096, .f32⟩
  | .hbm, ⟨3, _⟩ => ⟨S4096x4096, .bf16⟩
  | .hbm, ⟨4, _⟩ => ⟨S16384x4096, .bf16⟩
  | .hbm, ⟨5, _⟩ => ⟨S4096x18432, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S64x18432, .f32⟩
  | .local _ .vmem, ⟨5, _⟩ => ⟨S64x18432, .f32⟩
  | .local _ .vmem, ⟨6, _⟩ => ⟨S1024x1024, .bf16⟩
  | .local _ .vmem, ⟨7, _⟩ => ⟨S1024x1024, .bf16⟩
  | .local _ .vmem, ⟨8, _⟩ => ⟨S64x18432, .bf16⟩
  | .local _ .vmem, ⟨9, _⟩ => ⟨S64x18432, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x18432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x18432 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S16384x4096 : Shape := ⟨2, ![16384, 4096]⟩
abbrev S4096x18432 : Shape := ⟨2, ![4096, 18432]⟩
abbrev S4096x4096 : Shape := ⟨2, ![4096, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x18432, .f32⟩
  | .hbm, ⟨2, _⟩ => ⟨S16384x4096, .f32⟩
  | .hbm, ⟨3, _⟩ => ⟨S4096x4096, .f32⟩
  | .hbm, ⟨4, _⟩ => ⟨S16384x4096, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S16384x4096, .bf16⟩
  | .hbm, ⟨15, _⟩ => ⟨S4096x18432, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel6.lean ====
abbrev S16384x4096 : Shape := ⟨2, ![16384, 4096]⟩
abbrev S4096x18432 : Shape := ⟨2, ![4096, 18432]⟩
abbrev S4096x11008 : Shape := ⟨2, ![4096, 11008]⟩
abbrev S2048 : Shape := ⟨1, ![2048]⟩
abbrev S16x128x128 : Shape := ⟨3, ![16, 128, 128]⟩
abbrev S16x128 : Shape := ⟨2, ![16, 128]⟩
abbrev S8x128x128 : Shape := ⟨3, ![8, 128, 128]⟩
abbrev S8x128x256 : Shape := ⟨3, ![8, 128, 256]⟩
abbrev S128x16 : Shape := ⟨2, ![128, 16]⟩
abbrev S128x16x128 : Shape := ⟨3, ![128, 16, 128]⟩
abbrev S128x2048 : Shape := ⟨2, ![128, 2048]⟩
abbrev S1x2048 : Shape := ⟨2, ![1, 2048]⟩
abbrev S16384x8192 : Shape := ⟨2, ![16384, 8192]⟩
abbrev S16384x2048 : Shape := ⟨2, ![16384, 2048]⟩
abbrev S1024x4096 : Shape := ⟨2, ![1024, 4096]⟩
abbrev S4096x1024 : Shape := ⟨2, ![4096, 1024]⟩
abbrev S32x11008 : Shape := ⟨2, ![32, 11008]⟩
abbrev S1024x1024 : Shape := ⟨2, ![1024, 1024]⟩
abbrev S128 : Shape := ⟨1, ![128]⟩
abbrev S128x1 : Shape := ⟨2, ![128, 1]⟩
abbrev S128x128 : Shape := ⟨2, ![128, 128]⟩
abbrev S128x256 : Shape := ⟨2, ![128, 256]⟩
abbrev S256x256 : Shape := ⟨2, ![256, 256]⟩
abbrev S1x128x256 : Shape := ⟨3, ![1, 128, 256]⟩

abbrev nBuf : Space → Nat
  | .hbm => 23
  | .vmem => 24
  | .smem => 0
  | _ => 0

abbrev bufTy : (tb : Table) → Fin (tcTables nBuf tb) → BufTy
  | .hbm, ⟨0, _⟩ => ⟨S16384x4096, .bf16⟩
  | .hbm, ⟨1, _⟩ => ⟨S4096x18432, .f32⟩
  | .hbm, ⟨2, _⟩ => ⟨S4096x11008, .f32⟩
  | .hbm, ⟨3, _⟩ => ⟨S4096x11008, .f32⟩
  | .hbm, ⟨4, _⟩ => ⟨S16384x4096, .bf16⟩
  | .hbm, ⟨5, _⟩ => ⟨S2048, .f32⟩
  | .hbm, ⟨6, _⟩ => ⟨S2048, .f32⟩
  | .hbm, ⟨7, _⟩ => ⟨S16x128x128, .f32⟩
  | .hbm, ⟨8, _⟩ => ⟨S16x128, .f32⟩
  | .hbm, ⟨9, _⟩ => ⟨S4096x18432, .bf16⟩
  | .hbm, ⟨10, _⟩ => ⟨S8x128x128, .f32⟩
  | .hbm, ⟨11, _⟩ => ⟨S8x128x128, .f32⟩
  | .hbm, ⟨12, _⟩ => ⟨S8x128x256, .f32⟩
  | .hbm, ⟨13, _⟩ => ⟨S8x128x256, .bf16⟩
  | .hbm, ⟨14, _⟩ => ⟨S128x16, .f32⟩
  | .hbm, ⟨15, _⟩ => ⟨S128x16x128, .f32⟩
  | .hbm, ⟨16, _⟩ => ⟨S128x2048, .f32⟩
  | .hbm, ⟨17, _⟩ => ⟨S1x2048, .f32⟩
  | .hbm, ⟨18, _⟩ => ⟨S1x2048, .f32⟩
  | .hbm, ⟨19, _⟩ => ⟨S16384x8192, .bf16⟩
  | .hbm, ⟨20, _⟩ => ⟨S4096x11008, .bf16⟩
  | .hbm, ⟨21, _⟩ => ⟨S4096x11008, .bf16⟩
  | .hbm, ⟨22, _⟩ => ⟨S16384x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S32x11008, .f32⟩
  | .local _ .vmem, ⟨5, _⟩ => ⟨S32x11008, .f32⟩
  | .local _ .vmem, ⟨6, _⟩ => ⟨S32x11008, .f32⟩
  | .local _ .vmem, ⟨7, _⟩ => ⟨S32x11008, .f32⟩
  | .local _ .vmem, ⟨8, _⟩ => ⟨S128x2048, .bf16⟩
  | .local _ .vmem, ⟨9, _⟩ => ⟨S128x2048, .bf16⟩
  | .local _ .vmem, ⟨10, _⟩ => ⟨S128x2048, .bf16⟩
  | .local _ .vmem, ⟨11, _⟩ => ⟨S128x2048, .bf16⟩
  | .local _ .vmem, ⟨12, _⟩ => ⟨S1x2048, .f32⟩
  | .local _ .vmem, ⟨13, _⟩ => ⟨S1x2048, .f32⟩
  | .local _ .vmem, ⟨14, _⟩ => ⟨S8x128x256, .bf16⟩
  | .local _ .vmem, ⟨15, _⟩ => ⟨S128x2048, .f32⟩
  | .local _ .vmem, ⟨16, _⟩ => ⟨S1024x1024, .bf16⟩
  | .local _ .vmem, ⟨17, _⟩ => ⟨S1024x1024, .bf16⟩
  | .local _ .vmem, ⟨18, _⟩ => ⟨S32x11008, .bf16⟩
  | .local _ .vmem, ⟨19, _⟩ => ⟨S32x11008, .bf16⟩
  | .local _ .vmem, ⟨20, _⟩ => ⟨S32x11008, .bf16⟩
  | .local _ .vmem, ⟨21, _⟩ => ⟨S32x11008, .bf16⟩
  | .local _ .vmem, ⟨22, _⟩ => ⟨S128x2048, .bf16⟩
  | .local _ .vmem, ⟨23, _⟩ => ⟨S128x2048, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi arg1 c10_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x11008 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x11008 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x11008 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x11008 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference6Ideal.lean ====
abbrev S16384x4096 : Shape := ⟨2, ![16384, 4096]⟩
abbrev S4096x18432 : Shape := ⟨2, ![4096, 18432]⟩
abbrev S4096x11008 : Shape := ⟨2, ![4096, 11008]⟩
abbrev S2048 : Shape := ⟨1, ![2048]⟩
abbrev S16x128x128 : Shape := ⟨3, ![16, 128, 128]⟩
abbrev S16x128 : Shape := ⟨2, ![16, 128]⟩
abbrev S4096x8192 : Shape := ⟨2, ![4096, 8192]⟩
abbrev S16384x8192 : Shape := ⟨2, ![16384, 8192]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x18432, .f32⟩
  | .hbm, ⟨2, _⟩ => ⟨S4096x11008, .f32⟩
  | .hbm, ⟨3, _⟩ => ⟨S4096x11008, .f32⟩
  | .hbm, ⟨4, _⟩ => ⟨S16384x4096, .bf16⟩
  | .hbm, ⟨5, _⟩ => ⟨S2048, .f32⟩
  | .hbm, ⟨6, _⟩ => ⟨S2048, .f32⟩
  | .hbm, ⟨7, _⟩ => ⟨S16x128x128, .f32⟩
  | .hbm, ⟨8, _⟩ => ⟨S16x128, .f32⟩
  | .hbm, ⟨9, _⟩ => ⟨S16384x4096, .f32⟩
  | .hbm, ⟨10, _⟩ => ⟨S4096x8192, .f32⟩
  | .hbm, ⟨11, _⟩ => ⟨S16384x8192, .f32⟩
  | .hbm, ⟨12, _⟩ => ⟨S16384x8192, .f32⟩
  | .hbm, ⟨13, _⟩ => ⟨S16384x8192, .f32⟩
  | .hbm, ⟨14, _⟩ => ⟨S_, .f32⟩
  | .hbm, ⟨15, _⟩ => ⟨S16384x8192, .f32⟩
  | .hbm, ⟨16, _⟩ => ⟨S16384x8192, .f32⟩
  | .hbm, ⟨17, _⟩ => ⟨S_, .f32⟩
  | .hbm, ⟨18, _⟩ => ⟨S16384x8192, .f32⟩
  | .hbm, ⟨19, _⟩ => ⟨S16384x8192, .f32⟩
  | .hbm, ⟨20, _⟩ => ⟨S16384x8192, .bf16⟩
  | .hbm, ⟨21, _⟩ => ⟨S4096x11008, .bf16⟩
  | .hbm, ⟨22, _⟩ => ⟨S4096x11008, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel7.lean ====
abbrev S16384x4096 : Shape := ⟨2, ![16384, 4096]⟩
abbrev S4096x18432 : Shape := ⟨2, ![4096, 18432]⟩
abbrev S128 : Shape := ⟨1, ![128]⟩
abbrev S2048x4096 : Shape := ⟨2, ![2048, 4096]⟩
abbrev S4096x4096 : Shape := ⟨2, ![4096, 4096]⟩
abbrev S_ : Shape := ⟨0, ![]⟩
abbrev S1x128 : Shape := ⟨2, ![1, 128]⟩
abbrev S16x128 : Shape := ⟨2, ![16, 128]⟩
abbrev S2048 : Shape := ⟨1, ![2048]⟩
abbrev S4096 : Shape := ⟨1, ![4096]⟩
abbrev S1x4096 : Shape := ⟨2, ![1, 4096]⟩
abbrev S1024x4096 : Shape := ⟨2, ![1024, 4096]⟩
abbrev S4096x1024 : Shape := ⟨2, ![4096, 1024]⟩
abbrev S1x1024 : Shape := ⟨2, ![1, 1024]⟩
abbrev S32x4096 : Shape := ⟨2, ![32, 4096]⟩
abbrev S64x4096 : Shape := ⟨2, ![64, 4096]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 23
  | .vmem => 20
  | .smem => 0
  | _ => 0

abbrev bufTy : (tb : Table) → Fin (tcTables nBuf tb) → BufTy
  | .hbm, ⟨0, _⟩ => ⟨S16384x4096, .bf16⟩
  | .hbm, ⟨1, _⟩ => ⟨S4096x18432, .f32⟩
  | .hbm, ⟨2, _⟩ => ⟨S128, .f32⟩
  | .hbm, ⟨3, _⟩ => ⟨S128, .f32⟩
  | .hbm, ⟨4, _⟩ => ⟨S2048x4096, .f32⟩
  | .hbm, ⟨5, _⟩ => ⟨S2048x4096, .f32⟩
  | .hbm, ⟨6, _⟩ => ⟨S4096x4096, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S1x128, .f32⟩
  | .hbm, ⟨11, _⟩ => ⟨S16x128, .f32⟩
  | .hbm, ⟨12, _⟩ => ⟨S2048, .f32⟩
  | .hbm, ⟨13, _⟩ => ⟨S1x128, .f32⟩
  | .hbm, ⟨14, _⟩ => ⟨S16x128, .f32⟩
  | .hbm, ⟨15, _⟩ => ⟨S2048, .f32⟩
  | .hbm, ⟨16, _⟩ => ⟨S4096, .f32⟩
  | .hbm, ⟨17, _⟩ => ⟨S1x4096, .f32⟩
  | .hbm, ⟨18, _⟩ => ⟨S4096x18432, .bf16⟩
  | .hbm, ⟨19, _⟩ => ⟨S16384x4096, .bf16⟩
  | .hbm, ⟨20, _⟩ => ⟨S2048x4096, .bf16⟩
  | .hbm, ⟨21, _⟩ => ⟨S2048x4096, .bf16⟩
  | .hbm, ⟨22, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S32x4096, .f32⟩
  | .local _ .vmem, ⟨7, _⟩ => ⟨S32x4096, .f32⟩
  | .local _ .vmem, ⟨8, _⟩ => ⟨S32x4096, .f32⟩
  | .local _ .vmem, ⟨9, _⟩ => ⟨S32x4096, .f32⟩
  | .local _ .vmem, ⟨10, _⟩ => ⟨S64x4096, .f32⟩
  | .local _ .vmem, ⟨11, _⟩ => ⟨S64x4096, .f32⟩
  | .local _ .vmem, ⟨12, _⟩ => ⟨S1024x1024, .bf16⟩
  | .local _ .vmem, ⟨13, _⟩ => ⟨S1024x1024, .bf16⟩
  | .local _ .vmem, ⟨14, _⟩ => ⟨S32x4096, .bf16⟩
  | .local _ .vmem, ⟨15, _⟩ => ⟨S32x4096, .bf16⟩
  | .local _ .vmem, ⟨16, _⟩ => ⟨S32x4096, .bf16⟩
  | .local _ .vmem, ⟨17, _⟩ => ⟨S32x4096, .bf16⟩
  | .local _ .vmem, ⟨18, _⟩ => ⟨S64x4096, .bf16⟩
  | .local _ .vmem, ⟨19, _⟩ => ⟨S64x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference7Ideal.lean ====
abbrev S16384x4096 : Shape := ⟨2, ![16384, 4096]⟩
abbrev S4096x18432 : Shape := ⟨2, ![4096, 18432]⟩
abbrev S128 : Shape := ⟨1, ![128]⟩
abbrev S2048x4096 : Shape := ⟨2, ![2048, 4096]⟩
abbrev S4096x4096 : Shape := ⟨2, ![4096, 4096]⟩
abbrev S16384x2048 : Shape := ⟨2, ![16384, 2048]⟩
abbrev S16384x16x128 : Shape := ⟨3, ![16384, 16, 128]⟩
abbrev S_ : Shape := ⟨0, ![]⟩
abbrev S16384x16 : Shape := ⟨2, ![16384, 16]⟩
abbrev S16384x16x1 : Shape := ⟨3, ![16384, 16, 1]⟩
abbrev S1x1x128 : Shape := ⟨3, ![1, 1, 128]⟩

abbrev nBuf : Space → Nat
  | .hbm => 56
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x18432, .f32⟩
  | .hbm, ⟨2, _⟩ => ⟨S128, .f32⟩
  | .hbm, ⟨3, _⟩ => ⟨S128, .f32⟩
  | .hbm, ⟨4, _⟩ => ⟨S2048x4096, .f32⟩
  | .hbm, ⟨5, _⟩ => ⟨S2048x4096, .f32⟩
  | .hbm, ⟨6, _⟩ => ⟨S4096x4096, .f32⟩
  | .hbm, ⟨7, _⟩ => ⟨S16384x4096, .f32⟩
  | .hbm, ⟨8, _⟩ => ⟨S4096x4096, .f32⟩
  | .hbm, ⟨9, _⟩ => ⟨S16384x4096, .f32⟩
  | .hbm, ⟨10, _⟩ => ⟨S16384x2048, .f32⟩
  | .hbm, ⟨11, _⟩ => ⟨S16384x2048, .f32⟩
  | .hbm, ⟨12, _⟩ => ⟨S16384x16x128, .f32⟩
  | .hbm, ⟨13, _⟩ => ⟨S16384x16x128, .f32⟩
  | .hbm, ⟨14, _⟩ => ⟨S_, .f32⟩
  | .hbm, ⟨15, _⟩ => ⟨S16384x16, .f32⟩
  | .hbm, ⟨16, _⟩ => ⟨S16384x16x1, .f32⟩
  | .hbm, ⟨17, _⟩ => ⟨S_, .f32⟩
  | .hbm, ⟨18, _⟩ => ⟨S16384x16x1, .f32⟩
  | .hbm, ⟨19, _⟩ => ⟨S16384x16x1, .f32⟩
  | .hbm, ⟨20, _⟩ => ⟨S_, .f32⟩
  | .hbm, ⟨21, _⟩ => ⟨S16384x16x1, .f32⟩
  | .hbm, ⟨22, _⟩ => ⟨S16384x16x1, .f32⟩
  | .hbm, ⟨23, _⟩ => ⟨S16384x16x1, .f32⟩
  | .hbm, ⟨24, _⟩ => ⟨S16384x16x128, .f32⟩
  | .hbm, ⟨25, _⟩ => ⟨S16384x16x128, .f32⟩
  | .hbm, ⟨26, _⟩ => ⟨S1x1x128, .f32⟩
  | .hbm, ⟨27, _⟩ => ⟨S16384x16x128, .f32⟩
  | .hbm, ⟨28, _⟩ => ⟨S16384x16x128, .f32⟩
  | .hbm, ⟨29, _⟩ => ⟨S16384x2048, .f32⟩
  | .hbm, ⟨30, _⟩ => ⟨S_, .f32⟩
  | .hbm, ⟨31, _⟩ => ⟨S16384x2048, .f32⟩
  | .hbm, ⟨32, _⟩ => ⟨S16384x2048, .f32⟩
  | .hbm, ⟨33, _⟩ => ⟨S16384x16x128, .f32⟩
  | .hbm, ⟨34, _⟩ => ⟨S16384x16x128, .f32⟩
  | .hbm, ⟨35, _⟩ => ⟨S_, .f32⟩
  | .hbm, ⟨36, _⟩ => ⟨S16384x16, .f32⟩
  | .hbm, ⟨37, _⟩ => ⟨S16384x16x1, .f32⟩
  | .hbm, ⟨38, _⟩ => ⟨S_, .f32⟩
  | .hbm, ⟨39, _⟩ => ⟨S16384x16x1, .f32⟩
  | .hbm, ⟨40, _⟩ => ⟨S16384x16x1, .f32⟩
  | .hbm, ⟨41, _⟩ => ⟨S_, .f32⟩
  | .hbm, ⟨42, _⟩ => ⟨S16384x16x1, .f32⟩
  | .hbm, ⟨43, _⟩ => ⟨S16384x16x1, .f32⟩
  | .hbm, ⟨44, _⟩ => ⟨S16384x16x1, .f32⟩
  | .hbm, ⟨45, _⟩ => ⟨S16384x16x128, .f32⟩
  | .hbm, ⟨46, _⟩ => ⟨S16384x16x128, .f32⟩
  | .hbm, ⟨47, _⟩ => ⟨S1x1x128, .f32⟩
  | .hbm, ⟨48, _⟩ => ⟨S16384x16x128, .f32⟩
  | .hbm, ⟨49, _⟩ => ⟨S16384x16x128, .f32⟩
  | .hbm, ⟨50, _⟩ => ⟨S16384x2048, .f32⟩
  | .hbm, ⟨51, _⟩ => ⟨S16384x4096, .f32⟩
  | .hbm, ⟨52, _⟩ => ⟨S16384x4096, .bf16⟩
  | .hbm, ⟨53, _⟩ => ⟨S2048x4096, .bf16⟩
  | .hbm, ⟨54, _⟩ => ⟨S2048x4096, .bf16⟩
  | .hbm, ⟨55, _⟩ => ⟨S4096x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Proof.Run.lean ====
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Natten

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 2396000 in set_option sl_exec.squeezeSlice true in
/-- The body's run. On whole memrefs, the four inputs' at `x0` … `x3`, the output's at `f4` and the two score
    buffers at anything, the body ends with the inputs as they were, the score buffers at some contents and the output
    with a list of pieces written over `f4` (last first); the list is what the run finds. It is stated at the
    contents `f4` because the loop's triple carries them. -/
noncomputable def run (c : Dev nD) (i : grid0.Coords) (arg1 : Memref sig .tc .vmem S16384x128 .bf16) (harg1 : arg1.IsWhole) (arg2 : Memref sig .tc .vmem S16384x128 .bf16) (harg2 : arg2.IsWhole) (arg3 : Memref sig .tc .vmem S16384x128 .bf16) (harg3 : arg3.IsWhole) (arg4 : Memref sig .tc .vmem S1x16x64x128 .f32) (harg4 : arg4.IsWhole) (arg5 : Memref sig .tc .vmem S16384x128 .bf16) (harg5 : arg5.IsWhole) (arg6 : Memref sig .tc .vmem S4x256x768 .f32) (harg6 : arg6.IsWhole) (arg7 : Memref sig .tc .vmem S4x256x768 .f32) (harg7 : arg7.IsWhole)
    (x0 : Vec F S16384x128 .bf16) (x1 : Vec F S16384x128 .bf16) (x2 : Vec F S16384x128 .bf16) (x3 : Vec F S1x16x64x128 .f32) (f4 : BufTy.Contents (Elt F) arg5.view.ty) :
    { L4 : List (View.Piece (Elt F) S16384x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (arg5.view.loc (c : Thread nD τ) ↦[arg5.view.set]{fullShare} f4) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (arg5.view.loc (c : Thread nD τ) ↦[arg5.view.set]{fullShare} arg5.view.writes (Elt F) f4 L4) ∗ (∃ d, owns (c : Thread nD τ) arg6 fullShare d) ∗ (∃ d, owns (c : Thread nD τ) arg7 fullShare d)) -∗ K ⟨⟩))
          ⊢ wp frame (wpE (defs₀ (F := F)) Variants.none c none) E (cc0_natten i arg1 harg1 arg2 harg2 arg3 harg3 arg4 harg4 arg5 harg5 arg6 harg6 arg7 harg7) K } := by
  refine ⟨?_, fun E K => ?run⟩
  case run =>
    simp only [cc0_natten_eq_skeleton]; unfold cc0_natten_skel
    simp only [k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton]
    unfold owns
    iintro ⟨⟨%f0, %hf0, H0⟩, ⟨%f1, %hf1, H1⟩, ⟨%f2, %hf2, H2⟩, ⟨%f3, %hf3, H3⟩, H4, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexact H4
    isplitl [HS0]
    · iexists _, _; isplitr; swap; · iexact HS0
      ipureintro; rfl
    iexists _, _; isplitr; swap; · iexact HS1
    ipureintro; rfl

end Cert.KernelIdeal.Natten

end
-- ==== Proof.Strip.lean ====
module

public import proofs.«01_k».proof.Proof.Gen.KernelIdeal
public import Idealize.ShloMosaic.Lib.Pipeline.ValueKit
public import Idealize.ShloMosaic.Lib.Tactic

@[expose] public section

set_option maxRecDepth 16384

noncomputable section

namespace Cert.KernelIdeal.Natten

open Idealize.ShloMosaic Idealize.ShloMosaic.TcCoe
open Cert.KernelIdeal Cert.KernelIdeal.Gen

/-! ## One block of queries as the kernel's text writes it -/

section Text
variable {F : FTy → Type} [FloatOps F]

/-- A bias tile, its two unit axes dropped. -/
def tile (t : Vec F S1x1x64x128 .f32) : FVec F S64x128 .f32 := shapeCast S64x128 t shapeCasts_S1x1x64x128_S64x128

/-- Four bias tiles side by side. -/
def bias4 (a b c d : Vec F S1x1x64x128 .f32) : FVec F S64x512 .f32 :=
  concatenate S64x512 1 [⟨S64x128, tile a⟩, ⟨S64x128, tile b⟩, ⟨S64x128, tile c⟩, ⟨S64x128, tile d⟩]
    concatenates_S64x128_S64x128_S64x128_S64x128_S64x512_d1

/-- Five bias tiles side by side. -/
def bias5 (a b c d e : Vec F S1x1x64x128 .f32) : FVec F S64x640 .f32 :=
  concatenate S64x640 1 [⟨S64x128, tile a⟩, ⟨S64x128, tile b⟩, ⟨S64x128, tile c⟩, ⟨S64x128, tile d⟩, ⟨S64x128, tile e⟩]
    concatenates_S64x128_S64x128_S64x128_S64x128_S64x128_S64x640_d1

/-- The exponentials of a 512-lane strip less its row maximum. -/
def ex4 (w : FVec F S64x512 .f32) : FVec F S64x512 .f32 :=
  exp (subf w (broadcastTo S64x512 (shapeCast S64x1
    (multiReduction .maximumf [1] S64 w 0xFF800000#32 reduces_S64x512_S64 (.inl rfl) rfl) shapeCasts_S64_S64x1) broadcasts_S64x1_S64x512))

/-- The exponentials of a 640-lane strip less its row maximum. -/
def ex5 (w : FVec F S64x640 .f32) : FVec F S64x640 .f32 :=
  exp (subf w (broadcastTo S64x640 (shapeCast S64x1
    (multiReduction .maximumf [1] S64 w 0xFF800000#32 reduces_S64x640_S64 (.inl rfl) rfl) shapeCasts_S64_S64x1) broadcasts_S64x1_S64x640))

/-- The row sums of a 512-lane strip's exponentials. -/
def den4 (w : FVec F S64x512 .f32) : FVec F S64x1 .f32 :=
  shapeCast S64x1 (multiReduction .add [1] S64 (ex4 w) 0x00000000#32 reduces_S64x512_S64 (.inl rfl) rfl) shapeCasts_S64_S64x1

/-- The row sums of a 640-lane strip's exponentials. -/
def den5 (w : FVec F S64x640 .f32) : FVec F S64x1 .f32 :=
  shapeCast S64x1 (multiReduction .add [1] S64 (ex5 w) 0x00000000#32 reduces_S64x640_S64 (.inl rfl) rfl) shapeCasts_S64_S64x1

/-- A 512-lane strip's exponentials at lane 0 of the block's 768. -/
def pad04 (w : FVec F S64x512 .f32) : FVec F S64x768 .bf16 :=
  concatenate S64x768 1 [⟨S64x512, truncf .bf16 (ex4 w) bitsLt_bf16_f32⟩, ⟨S64x256, broadcast S64x256 (Scalar.ofBits .bf16 0x0000#16)⟩]
    concatenates_S64x512_S64x256_S64x768_d1

/-- A 640-lane strip's exponentials at lane 0. -/
def pad05 (w : FVec F S64x640 .f32) : FVec F S64x768 .bf16 :=
  concatenate S64x768 1 [⟨S64x640, truncf .bf16 (ex5 w) bitsLt_bf16_f32⟩, ⟨S64x128, broadcast S64x128 (Scalar.ofBits .bf16 0x0000#16)⟩]
    concatenates_S64x640_S64x128_S64x768_d1

/-- A 512-lane strip's exponentials at lane 128. -/
def pad15 (w : FVec F S64x512 .f32) : FVec F S64x768 .bf16 :=
  concatenate S64x768 1 [⟨S64x128, broadcast S64x128 (Scalar.ofBits .bf16 0x0000#16)⟩, ⟨S64x512, truncf .bf16 (ex4 w) bitsLt_bf16_f32⟩,
    ⟨S64x128, broadcast S64x128 (Scalar.ofBits .bf16 0x0000#16)⟩] concatenates_S64x128_S64x512_S64x128_S64x768_d1

/-- A 640-lane strip's exponentials at lane 128. -/
def pad16 (w : FVec F S64x640 .f32) : FVec F S64x768 .bf16 :=
  concatenate S64x768 1 [⟨S64x128, broadcast S64x128 (Scalar.ofBits .bf16 0x0000#16)⟩, ⟨S64x640, truncf .bf16 (ex5 w) bitsLt_bf16_f32⟩]
    concatenates_S64x128_S64x640_S64x768_d1

/-- A 512-lane strip's exponentials at lane 256. -/
def pad26 (w : FVec F S64x512 .f32) : FVec F S64x768 .bf16 :=
  concatenate S64x768 1 [⟨S64x256, broadcast S64x256 (Scalar.ofBits .bf16 0x0000#16)⟩, ⟨S64x512, truncf .bf16 (ex4 w) bitsLt_bf16_f32⟩]
    concatenates_S64x256_S64x512_S64x768_d1

/-- The block's output: the four strips' exponentials over the values, divided by the four strips' sums. -/
def fin (V : Vec F S768x128 .bf16) (p0 p1 p2 p3 : FVec F S64x768 .bf16) (l0 l1 l2 l3 : FVec F S64x1 .f32) : FVec F S256x128 .bf16 :=
  truncf .bf16 (divf
    (matmul dot_S256x768_S768x128_S256x128_1_0_0_1_n_n none
      (concatenate S256x768 0 [⟨S64x768, p0⟩, ⟨S64x768, p1⟩, ⟨S64x768, p2⟩, ⟨S64x768, p3⟩]
        concatenates_S64x768_S64x768_S64x768_S64x768_S256x768_d0) V (constant S256x128 .f32 0x00000000#32))
    (broadcastTo S256x128 (concatenate S256x1 0 [⟨S64x1, l0⟩, ⟨S64x1, l1⟩, ⟨S64x1, l2⟩, ⟨S64x1, l3⟩]
      concatenates_S64x1_S64x1_S64x1_S64x1_S256x1_d0) broadcasts_S256x1_S256x128)) bitsLt_bf16_f32

end Text

/-! ## The same at the ideal values, read at an index -/

theorem ofBits_negInf : Ideal.ofBits FTy.f32 4286578688#32 = ⊥ := by simp [Ideal.ofBits, Ideal.ieee]

/-- A strip's exponential at a lane: less the greatest entry of its row. -/
theorem ex4_apply (w : FVec Ideal S64x512 .f32) (r : Fin 64) (j : Fin 512) :
    ex4 w (ix2 r j) = Ideal.exp (w (ix2 r j) - Finset.univ.sup fun k : Fin 512 => w (ix2 r k)) := by
  pointwise [ex4]
  rw [ofBits_negInf]; rfl

/-- The same of 640 lanes. -/
theorem ex5_apply (w : FVec Ideal S64x640 .f32) (r : Fin 64) (j : Fin 640) :
    ex5 w (ix2 r j) = Ideal.exp (w (ix2 r j) - Finset.univ.sup fun k : Fin 640 => w (ix2 r k)) := by
  pointwise [ex5]
  rw [ofBits_negInf]; rfl

/-- A strip's denominator is the sum of its row's exponentials. -/
theorem den4_apply (w : FVec Ideal S64x512 .f32) (r : Fin 64) : den4 w (ix2 r 0) = ∑ j : Fin 512, ex4 w (ix2 r j) := by
  pointwise [den4]

/-- The same of 640 lanes. -/
theorem den5_apply (w : FVec Ideal S64x640 .f32) (r : Fin 64) : den5 w (ix2 r 0) = ∑ j : Fin 640, ex5 w (ix2 r j) := by
  pointwise [den5]

/-! ### A row of a strip among the block's 768 key lanes -/

/-- `n` entries at lane `o` of 768; minus infinity at the other lanes. -/
def lay {n : ℕ} (o : ℕ) (w : Fin n → EReal) (c : Fin 768) : EReal :=
  if h : o ≤ c.val ∧ c.val - o < n then w ⟨c.val - o, h.2⟩ else ⊥

/-- The greatest entry is that of the row laid out. -/
theorem sup_lay {n : ℕ} (o : ℕ) (ho : o + n ≤ 768) (w : Fin n → EReal) : Finset.univ.sup (lay o w) = Finset.univ.sup w := by
  apply le_antisymm
  · refine Finset.sup_le fun c _ => ?_
    unfold lay; split
    · exact Finset.le_sup (f := w) (Finset.mem_univ _)
    · exact bot_le
  · refine Finset.sup_le fun j _ => ?_
    have : w j = lay o w ⟨o + j.val, by omega⟩ := by
      unfold lay; rw [dif_pos ⟨by simp, by simp⟩]; congr 1; ext; simp
    rw [this]; exact Finset.le_sup (f := lay o w) (Finset.mem_univ _)

theorem exp_bot_sub (M : EReal) : Ideal.exp (⊥ - M) = 0 := by
  rw [EReal.bot_sub]; rfl

/-- The weight of lane `c` in a row of 768 scores: its exponential less the greatest score. -/
def wt (s : Fin 768 → EReal) (c : Fin 768) : EReal := Ideal.exp (s c - Finset.univ.sup s)

theorem wt_lay {n : ℕ} (o : ℕ) (ho : o + n ≤ 768) (w : Fin n → EReal) (c : Fin 768) :
    wt (lay o w) c = if h : o ≤ c.val ∧ c.val - o < n then Ideal.exp (w ⟨c.val - o, h.2⟩ - Finset.univ.sup w) else 0 := by
  unfold wt; rw [sup_lay o ho]; unfold lay
  split
  · rfl
  · exact exp_bot_sub _

/-- The sum of the weights is the sum over the strip's own lanes. -/
theorem sum_wt_lay {n : ℕ} (o : ℕ) (ho : o + n ≤ 768) (w : Fin n → EReal) :
    ∑ c, wt (lay o w) c = ∑ j, Ideal.exp (w j - Finset.univ.sup w) := by
  symm
  refine Finset.sum_of_injOn (fun j : Fin n => (⟨o + j.val, by omega⟩ : Fin 768)) ?_ (by simp) ?_ ?_
  · intro a _ b _ h; simp at h; exact Fin.ext h
  · intro c _ hc
    rw [wt_lay o ho, dif_neg]
    rintro ⟨h1, h2⟩
    exact hc ⟨⟨c.val - o, h2⟩, by simp, Fin.ext (by simp; omega)⟩
  · intro j _
    rw [wt_lay o ho, dif_pos ⟨by simp, by simp⟩]
    congr 3; ext; simp

/-- A padded strip's row is the weights of the row laid out; its denominator their sum. -/
theorem pad04_apply (w : FVec Ideal S64x512 .f32) (r : Fin 64) (c : Fin 768) :
    pad04 w (ix2 r c) = wt (lay 0 fun j : Fin 512 => w (ix2 r j)) c := by
  rw [wt_lay 0 (by decide)]
  pointwise [pad04]
  split_ifs <;> first
    | (exfalso; omega)
    | exact ex4_apply w r _
    | (refine (ex4_apply w r _).trans (Eq.symm (dif_pos ?_)); constructor <;> omega)
    | exact (dif_neg (by omega)).symm
    | exact Eq.refl (0 : EReal)

theorem pad15_apply (w : FVec Ideal S64x512 .f32) (r : Fin 64) (c : Fin 768) :
    pad15 w (ix2 r c) = wt (lay 128 fun j : Fin 512 => w (ix2 r j)) c := by
  rw [wt_lay 128 (by decide)]
  pointwise [pad15]
  split_ifs <;> first
    | (exfalso; omega)
    | exact ex4_apply w r _
    | (refine (ex4_apply w r _).trans (Eq.symm (dif_pos ?_)); constructor <;> omega)
    | exact (dif_neg (by omega)).symm
    | exact Eq.refl (0 : EReal)

theorem pad26_apply (w : FVec Ideal S64x512 .f32) (r : Fin 64) (c : Fin 768) :
    pad26 w (ix2 r c) = wt (lay 256 fun j : Fin 512 => w (ix2 r j)) c := by
  rw [wt_lay 256 (by decide)]
  pointwise [pad26]
  split_ifs <;> first
    | (exfalso; omega)
    | exact ex4_apply w r _
    | (refine (ex4_apply w r _).trans (Eq.symm (dif_pos ?_)); constructor <;> omega)
    | exact (dif_neg (by omega)).symm
    | exact Eq.refl (0 : EReal)

theorem pad05_apply (w : FVec Ideal S64x640 .f32) (r : Fin 64) (c : Fin 768) :
    pad05 w (ix2 r c) = wt (lay 0 fun j : Fin 640 => w (ix2 r j)) c := by
  rw [wt_lay 0 (by decide)]
  pointwise [pad05]
  split_ifs <;> first
    | (exfalso; omega)
    | exact ex5_apply w r _
    | (refine (ex5_apply w r _).trans (Eq.symm (dif_pos ?_)); constructor <;> omega)
    | exact (dif_neg (by omega)).symm
    | exact Eq.refl (0 : EReal)

theorem pad16_apply (w : FVec Ideal S64x640 .f32) (r : Fin 64) (c : Fin 768) :
    pad16 w (ix2 r c) = wt (lay 128 fun j : Fin 640 => w (ix2 r j)) c := by
  rw [wt_lay 128 (by decide)]
  pointwise [pad16]
  split_ifs <;> first
    | (exfalso; omega)
    | exact ex5_apply w r _
    | (refine (ex5_apply w r _).trans (Eq.symm (dif_pos ?_)); constructor <;> omega)
    | exact (dif_neg (by omega)).symm
    | exact Eq.refl (0 : EReal)

theorem den4_lay (o : ℕ) (ho : o + 512 ≤ 768) (w : FVec Ideal S64x512 .f32) (r : Fin 64) :
    den4 w (ix2 r 0) = ∑ c, wt (lay o fun j : Fin 512 => w (ix2 r j)) c := by
  rw [den4_apply, sum_wt_lay o ho]
  exact Finset.sum_congr rfl fun j _ => ex4_apply w r j

theorem den5_lay (o : ℕ) (ho : o + 640 ≤ 768) (w : FVec Ideal S64x640 .f32) (r : Fin 64) :
    den5 w (ix2 r 0) = ∑ c, wt (lay o fun j : Fin 640 => w (ix2 r j)) c := by
  rw [den5_apply, sum_wt_lay o ho]
  exact Finset.sum_congr rfl fun j _ => ex5_apply w r j

/-- The weighted mean of `v` under the weights of the scores `s`. -/
def att (s v : Fin 768 → EReal) : EReal := Ideal.div (∑ c, wt s c * v c) (∑ c, wt s c)

/-- The block's output at a row of strip `rl`: the weighted mean under the strip's row, whichever of the four it is. -/
theorem fin_apply (V : Vec Ideal S768x128 .bf16) (p0 p1 p2 p3 : FVec Ideal S64x768 .bf16) (l0 l1 l2 l3 : FVec Ideal S64x1 .f32)
    (s : Fin 4 → Fin 64 → Fin 768 → EReal)
    (h0 : ∀ r c, p0 (ix2 r c) = wt (s 0 r) c) (h1 : ∀ r c, p1 (ix2 r c) = wt (s 1 r) c)
    (h2 : ∀ r c, p2 (ix2 r c) = wt (s 2 r) c) (h3 : ∀ r c, p3 (ix2 r c) = wt (s 3 r) c)
    (k0 : ∀ r, l0 (ix2 r 0) = ∑ c, wt (s 0 r) c) (k1 : ∀ r, l1 (ix2 r 0) = ∑ c, wt (s 1 r) c)
    (k2 : ∀ r, l2 (ix2 r 0) = ∑ c, wt (s 2 r) c) (k3 : ∀ r, l3 (ix2 r 0) = ∑ c, wt (s 3 r) c)
    (y : Fin 256) (d : Fin 128) :
    fin V p0 p1 p2 p3 l0 l1 l2 l3 (ix2 y d)
      = att (s ⟨y.val / 64, by omega⟩ ⟨y.val % 64, by omega⟩) fun c => V (ix2 c d) := by
  have e : ∀ (a : Fin 4) (b : Fin 64), y.val = a.val * 64 + b.val →
      (⟨y.val / 64, by omega⟩ : Fin 4) = a ∧ (⟨y.val % 64, by omega⟩ : Fin 64) = b :=
    fun a b h => ⟨Fin.ext (by show y.val / 64 = a.val; omega), Fin.ext (by show y.val % 64 = b.val; omega)⟩
  pointwise [fin]
  unfold att
  by_cases c0 : y.val < 64
  · obtain ⟨ea, eb⟩ := e 0 ⟨y.val, c0⟩ (by simp)
    rw [ea, eb]; simp only [c0, ↓reduceDIte, h0, k0]
  by_cases c1 : y.val - 64 < 64
  · obtain ⟨ea, eb⟩ := e 1 ⟨y.val - 64, c1⟩ (by simp; omega)
    rw [ea, eb]; simp only [c0, c1, ↓reduceDIte, h1, k1]
  by_cases c2 : y.val - 64 - 64 < 64
  · obtain ⟨ea, eb⟩ := e 2 ⟨y.val - 64 - 64, c2⟩ (by simp; omega)
    rw [ea, eb]; simp only [c0, c1, c2, ↓reduceDIte, h2, k2]
  · obtain ⟨ea, eb⟩ := e 3 ⟨y.val - 64 - 64 - 64, by omega⟩ (by simp; omega)
    rw [ea, eb]; simp only [c0, c1, c2, ↓reduceDIte, h3, k3]

/-- The bias tiles side by side, at a lane. -/
theorem bias4_apply (t : Fin 4 → Vec Ideal S1x1x64x128 .f32) (r : Fin 64) (j : Fin 512) :
    bias4 (t 0) (t 1) (t 2) (t 3) (ix2 r j) = t ⟨j.val / 128, by omega⟩ (ix4 0 0 r ⟨j.val % 128, by omega⟩) := by
  have e : ∀ (a : Fin 4) (b : Fin 128), j.val = a.val * 128 + b.val →
      (⟨j.val / 128, by omega⟩ : Fin 4) = a ∧ (⟨j.val % 128, by omega⟩ : Fin 128) = b :=
    fun a b h => ⟨Fin.ext (by show j.val / 128 = a.val; omega), Fin.ext (by show j.val % 128 = b.val; omega)⟩
  pointwise [bias4, tile]
  by_cases c0 : j.val < 128
  · obtain ⟨ea, eb⟩ := e 0 ⟨j.val, c0⟩ (by simp)
    rw [ea, eb]; simp only [c0, ↓reduceDIte]
  by_cases c1 : j.val - 128 < 128
  · obtain ⟨ea, eb⟩ := e 1 ⟨j.val - 128, c1⟩ (by simp; omega)
    rw [ea, eb]; simp only [c0, c1, ↓reduceDIte]
  by_cases c2 : j.val - 128 - 128 < 128
  · obtain ⟨ea, eb⟩ := e 2 ⟨j.val - 128 - 128, c2⟩ (by simp; omega)
    rw [ea, eb]; simp only [c0, c1, c2, ↓reduceDIte]
  · obtain ⟨ea, eb⟩ := e 3 ⟨j.val - 128 - 128 - 128, by omega⟩ (by simp; omega)
    rw [ea, eb]; simp only [c0, c1, c2, ↓reduceDIte]

/-- The same of five tiles. -/
theorem bias5_apply (t : Fin 5 → Vec Ideal S1x1x64x128 .f32) (r : Fin 64) (j : Fin 640) :
    bias5 (t 0) (t 1) (t 2) (t 3) (t 4) (ix2 r j) = t ⟨j.val / 128, by omega⟩ (ix4 0 0 r ⟨j.val % 128, by omega⟩) := by
  have e : ∀ (a : Fin 5) (b : Fin 128), j.val = a.val * 128 + b.val →
      (⟨j.val / 128, by omega⟩ : Fin 5) = a ∧ (⟨j.val % 128, by omega⟩ : Fin 128) = b :=
    fun a b h => ⟨Fin.ext (by show j.val / 128 = a.val; omega), Fin.ext (by show j.val % 128 = b.val; omega)⟩
  pointwise [bias5, tile]
  by_cases c0 : j.val < 128
  · obtain ⟨ea, eb⟩ := e 0 ⟨j.val, c0⟩ (by simp)
    rw [ea, eb]; simp only [c0, ↓reduceDIte]
  by_cases c1 : j.val - 128 < 128
  · obtain ⟨ea, eb⟩ := e 1 ⟨j.val - 128, c1⟩ (by simp; omega)
    rw [ea, eb]; simp only [c0, c1, ↓reduceDIte]
  by_cases c2 : j.val - 128 - 128 < 128
  · obtain ⟨ea, eb⟩ := e 2 ⟨j.val - 128 - 128, c2⟩ (by simp; omega)
    rw [ea, eb]; simp only [c0, c1, c2, ↓reduceDIte]
  by_cases c3 : j.val - 128 - 128 - 128 < 128
  · obtain ⟨ea, eb⟩ := e 3 ⟨j.val - 128 - 128 - 128, c3⟩ (by simp; omega)
    rw [ea, eb]; simp only [c0, c1, c2, c3, ↓reduceDIte]
  · obtain ⟨ea, eb⟩ := e 4 ⟨j.val - 128 - 128 - 128 - 128, by omega⟩ (by simp; omega)
    rw [ea, eb]; simp only [c0, c1, c2, c3, ↓reduceDIte]

end Cert.KernelIdeal.Natten

end
-- ==== Proof.Block.lean ====
module

public import proofs.«01_k».proof.Proof.Strip
public import Idealize.ShloMosaic.Lib.Pipeline.ReadBack

@[expose] public section

set_option maxRecDepth 16384

noncomputable section

namespace Cert.KernelIdeal.Natten

open Idealize.ShloMosaic Idealize.ShloMosaic.TcCoe
open Cert.KernelIdeal Cert.KernelIdeal.Gen

/-! ## The three kinds of block, as the kernel's text writes them -/

section Text
variable {F : FTy → Type} [FloatOps F]

/-- An interior block: its four strips with their bias tiles (the tiles by their number). -/
def blkI (V : Vec F S768x128 .bf16) (a0 a2 : FVec F S64x512 .f32) (a1 a3 : FVec F S64x640 .f32) (t : Fin 16 → Vec F S1x1x64x128 .f32) :
    FVec F S256x128 .bf16 :=
  let w0 := addf a0 (bias4 (t 10) (t 8) (t 0) (t 1))
  let w1 := addf a1 (bias5 (t 11) (t 9) (t 4) (t 5) (t 12))
  let w2 := addf a2 (bias4 (t 10) (t 8) (t 0) (t 1))
  let w3 := addf a3 (bias5 (t 11) (t 9) (t 4) (t 5) (t 12))
  fin V (pad04 w0) (pad05 w1) (pad15 w2) (pad16 w3) (den4 w0) (den5 w1) (den4 w2) (den5 w3)

/-- The first block. -/
def blkF (V : Vec F S768x128 .bf16) (a0 a1 a2 a3 : FVec F S64x512 .f32) (t : Fin 16 → Vec F S1x1x64x128 .f32) : FVec F S256x128 .bf16 :=
  let w0 := addf a0 (bias4 (t 0) (t 1) (t 2) (t 3))
  let w1 := addf a1 (bias4 (t 4) (t 5) (t 6) (t 7))
  let w2 := addf a2 (bias4 (t 8) (t 0) (t 1) (t 2))
  let w3 := addf a3 (bias4 (t 9) (t 4) (t 5) (t 6))
  fin V (pad04 w0) (pad04 w1) (pad04 w2) (pad04 w3) (den4 w0) (den4 w1) (den4 w2) (den4 w3)

/-- The last block. -/
def blkL (V : Vec F S768x128 .bf16) (a0 a1 a2 a3 : FVec F S64x512 .f32) (t : Fin 16 → Vec F S1x1x64x128 .f32) : FVec F S256x128 .bf16 :=
  let w0 := addf a0 (bias4 (t 10) (t 8) (t 0) (t 1))
  let w1 := addf a1 (bias4 (t 13) (t 9) (t 4) (t 5))
  let w2 := addf a2 (bias4 (t 14) (t 10) (t 8) (t 0))
  let w3 := addf a3 (bias4 (t 15) (t 13) (t 9) (t 4))
  fin V (pad26 w0) (pad26 w1) (pad26 w2) (pad26 w3) (den4 w0) (den4 w1) (den4 w2) (den4 w3)

end Text

/-! ## The value of a block -/

/-- Which bias tile covers lanes `128·j … 128·j+127` in strip `rl` of a block of kind 0 (first), 1 (interior) or 2 (last);
    none where the strip does not reach. -/
def tab (cls : Fin 3) (rl : Fin 4) (j : Fin 6) : Option (Fin 16) :=
  (![![![some 0, some 1, some 2, some 3, none, none], ![some 4, some 5, some 6, some 7, none, none],
      ![some 8, some 0, some 1, some 2, none, none], ![some 9, some 4, some 5, some 6, none, none]],
    ![![some 10, some 8, some 0, some 1, none, none], ![some 11, some 9, some 4, some 5, some 12, none],
      ![none, some 10, some 8, some 0, some 1, none], ![none, some 11, some 9, some 4, some 5, some 12]],
    ![![none, none, some 10, some 8, some 0, some 1], ![none, none, some 13, some 9, some 4, some 5],
      ![none, none, some 14, some 10, some 8, some 0], ![none, none, some 15, some 13, some 9, some 4]]]
    : Fin 3 → Fin 4 → Fin 6 → Option (Fin 16)) cls rl j

/-- The scores of row `r` of strip `rl` at the block's 768 key lanes: score plus bias where the strip reaches, else minus infinity. -/
def row (S : Fin 64 → Fin 768 → EReal) (B : Fin 16 → Fin 64 → Fin 128 → EReal) (cls : Fin 3) (rl : Fin 4) (r : Fin 64) (c : Fin 768) : EReal :=
  match tab cls rl ⟨c.val / 128, by omega⟩ with
  | some p => S r c + B p r ⟨c.val % 128, by omega⟩
  | none => ⊥

/-- A strip of `n` lanes at lane `128·lo` laid out is that row. -/
theorem lay_eq_row {n : ℕ} (lo m : ℕ) (hn : n = 128 * m) (hm : lo + m ≤ 6) (S : Fin 64 → Fin 768 → EReal) (B : Fin 16 → Fin 64 → Fin 128 → EReal)
    (cls : Fin 3) (rl : Fin 4) (r : Fin 64) (id : Fin m → Fin 16)
    (hin : ∀ j : Fin m, tab cls rl ⟨lo + j.val, by omega⟩ = some (id j))
    (hout : ∀ j : Fin 6, ¬ (lo ≤ j.val ∧ j.val - lo < m) → tab cls rl j = none)
    (w : Fin n → EReal)
    (hw : ∀ j : Fin n, w j = S r ⟨128 * lo + j.val, by omega⟩ + B (id ⟨j.val / 128, by omega⟩) r ⟨j.val % 128, by omega⟩) :
    lay (128 * lo) w = row S B cls rl r := by
  funext c
  unfold lay row
  by_cases h : 128 * lo ≤ c.val ∧ c.val - 128 * lo < n
  · rw [dif_pos h, hw]
    have e := hin ⟨(c.val - 128 * lo) / 128, by omega⟩
    have e2 : (⟨c.val / 128, by omega⟩ : Fin 6) = ⟨lo + (c.val - 128 * lo) / 128, by omega⟩ := Fin.ext (by simp; omega)
    rw [e2, e]
    have e3 : (⟨128 * lo + (c.val - 128 * lo), by omega⟩ : Fin 768) = c := Fin.ext (by simp; omega)
    have e4 : (⟨(c.val - 128 * lo) % 128, by omega⟩ : Fin 128) = ⟨c.val % 128, by omega⟩ := Fin.ext (by simp; omega)
    simp only [e3, e4]
  · rw [dif_neg h, hout _ (by simp; omega)]

section Value
variable (V : Vec Ideal S768x128 .bf16) (t : Fin 16 → Vec Ideal S1x1x64x128 .f32)
  (S : Fin 4 → Fin 64 → Fin 768 → EReal) (B : Fin 16 → Fin 64 → Fin 128 → EReal)
  (ht : ∀ p r j, t p (ix4 0 0 r j) = B p r j)
include ht

theorem strip4 (a : FVec Ideal S64x512 .f32) (lo : ℕ) (hlo : lo ≤ 2) (S' : Fin 64 → Fin 768 → EReal)
    (ha : ∀ (r : Fin 64) (j : Fin 512), a (ix2 r j) = S' r ⟨128 * lo + j.val, by omega⟩)
    (id : Fin 4 → Fin 16) (cls : Fin 3) (rl : Fin 4) (r : Fin 64)
    (hin : ∀ j : Fin 4, tab cls rl ⟨lo + j.val, by omega⟩ = some (id j))
    (hout : ∀ j : Fin 6, ¬ (lo ≤ j.val ∧ j.val - lo < 4) → tab cls rl j = none) :
    lay (128 * lo) (fun j : Fin 512 => addf a (bias4 (t (id 0)) (t (id 1)) (t (id 2)) (t (id 3))) (ix2 r j)) = row S' B cls rl r := by
  refine lay_eq_row lo 4 rfl (by omega) S' B cls rl r id hin hout _ fun j => ?_
  rw [show addf a (bias4 (t (id 0)) (t (id 1)) (t (id 2)) (t (id 3))) (ix2 r j)
    = a (ix2 r j) + bias4 (t (id 0)) (t (id 1)) (t (id 2)) (t (id 3)) (ix2 r j) from rfl, ha,
    bias4_apply (fun x => t (id x)) r j, ht]

theorem strip5 (a : FVec Ideal S64x640 .f32) (lo : ℕ) (hlo : lo ≤ 1) (S' : Fin 64 → Fin 768 → EReal)
    (ha : ∀ (r : Fin 64) (j : Fin 640), a (ix2 r j) = S' r ⟨128 * lo + j.val, by omega⟩)
    (id : Fin 5 → Fin 16) (cls : Fin 3) (rl : Fin 4) (r : Fin 64)
    (hin : ∀ j : Fin 5, tab cls rl ⟨lo + j.val, by omega⟩ = some (id j))
    (hout : ∀ j : Fin 6, ¬ (lo ≤ j.val ∧ j.val - lo < 5) → tab cls rl j = none) :
    lay (128 * lo) (fun j : Fin 640 => addf a (bias5 (t (id 0)) (t (id 1)) (t (id 2)) (t (id 3)) (t (id 4))) (ix2 r j)) = row S' B cls rl r := by
  refine lay_eq_row lo 5 rfl (by omega) S' B cls rl r id hin hout _ fun j => ?_
  rw [show addf a (bias5 (t (id 0)) (t (id 1)) (t (id 2)) (t (id 3)) (t (id 4))) (ix2 r j)
    = a (ix2 r j) + bias5 (t (id 0)) (t (id 1)) (t (id 2)) (t (id 3)) (t (id 4)) (ix2 r j) from rfl, ha,
    bias5_apply (fun x => t (id x)) r j, ht]

/-- The value of an interior block at query `y` of its 256: the weighted mean under the query's row of scores. -/
theorem blkI_apply (a0 a2 : FVec Ideal S64x512 .f32) (a1 a3 : FVec Ideal S64x640 .f32)
    (h0 : ∀ r (j : Fin 512), a0 (ix2 r j) = S 0 r ⟨128 * 0 + j.val, by omega⟩) (h1 : ∀ r (j : Fin 640), a1 (ix2 r j) = S 1 r ⟨128 * 0 + j.val, by omega⟩)
    (h2 : ∀ r (j : Fin 512), a2 (ix2 r j) = S 2 r ⟨128 * 1 + j.val, by omega⟩) (h3 : ∀ r (j : Fin 640), a3 (ix2 r j) = S 3 r ⟨128 * 1 + j.val, by omega⟩)
    (y : Fin 256) (d : Fin 128) :
    blkI V a0 a2 a1 a3 t (ix2 y d)
      = att (row (S ⟨y.val / 64, by omega⟩) B 1 ⟨y.val / 64, by omega⟩ ⟨y.val % 64, by omega⟩) fun c => V (ix2 c d) := by
  have e0 := fun r => strip4 t B ht a0 0 (by omega) (S 0) h0 ![10, 8, 0, 1] 1 0 r (by decide) (by decide)
  have e1 := fun r => strip5 t B ht a1 0 (by omega) (S 1) h1 ![11, 9, 4, 5, 12] 1 1 r (by decide) (by decide)
  have e2 := fun r => strip4 t B ht a2 1 (by omega) (S 2) h2 ![10, 8, 0, 1] 1 2 r (by decide) (by decide)
  have e3 := fun r => strip5 t B ht a3 1 (by omega) (S 3) h3 ![11, 9, 4, 5, 12] 1 3 r (by decide) (by decide)
  unfold blkI
  refine fin_apply V _ _ _ _ _ _ _ _ (fun rl r => row (S rl) B 1 rl r) ?_ ?_ ?_ ?_ ?_ ?_ ?_ ?_ y d
  · intro r c; rw [← e0 r]; exact pad04_apply _ r c
  · intro r c; rw [← e1 r]; exact pad05_apply _ r c
  · intro r c; rw [← e2 r]; exact pad15_apply _ r c
  · intro r c; rw [← e3 r]; exact pad16_apply _ r c
  · intro r; rw [← e0 r]; exact den4_lay 0 (by omega) _ r
  · intro r; rw [← e1 r]; exact den5_lay 0 (by omega) _ r
  · intro r; rw [← e2 r]; exact den4_lay 128 (by omega) _ r
  · intro r; rw [← e3 r]; exact den5_lay 128 (by omega) _ r

/-- The value of the first block. -/
theorem blkF_apply (a0 a1 a2 a3 : FVec Ideal S64x512 .f32)
    (h0 : ∀ r (j : Fin 512), a0 (ix2 r j) = S 0 r ⟨128 * 0 + j.val, by omega⟩) (h1 : ∀ r (j : Fin 512), a1 (ix2 r j) = S 1 r ⟨128 * 0 + j.val, by omega⟩)
    (h2 : ∀ r (j : Fin 512), a2 (ix2 r j) = S 2 r ⟨128 * 0 + j.val, by omega⟩) (h3 : ∀ r (j : Fin 512), a3 (ix2 r j) = S 3 r ⟨128 * 0 + j.val, by omega⟩)
    (y : Fin 256) (d : Fin 128) :
    blkF V a0 a1 a2 a3 t (ix2 y d)
      = att (row (S ⟨y.val / 64, by omega⟩) B 0 ⟨y.val / 64, by omega⟩ ⟨y.val % 64, by omega⟩) fun c => V (ix2 c d) := by
  have e0 := fun r => strip4 t B ht a0 0 (by omega) (S 0) h0 ![0, 1, 2, 3] 0 0 r (by decide) (by decide)
  have e1 := fun r => strip4 t B ht a1 0 (by omega) (S 1) h1 ![4, 5, 6, 7] 0 1 r (by decide) (by decide)
  have e2 := fun r => strip4 t B ht a2 0 (by omega) (S 2) h2 ![8, 0, 1, 2] 0 2 r (by decide) (by decide)
  have e3 := fun r => strip4 t B ht a3 0 (by omega) (S 3) h3 ![9, 4, 5, 6] 0 3 r (by decide) (by decide)
  unfold blkF
  refine fin_apply V _ _ _ _ _ _ _ _ (fun rl r => row (S rl) B 0 rl r) ?_ ?_ ?_ ?_ ?_ ?_ ?_ ?_ y d
  · intro r c; rw [← e0 r]; exact pad04_apply _ r c
  · intro r c; rw [← e1 r]; exact pad04_apply _ r c
  · intro r c; rw [← e2 r]; exact pad04_apply _ r c
  · intro r c; rw [← e3 r]; exact pad04_apply _ r c
  · intro r; rw [← e0 r]; exact den4_lay 0 (by omega) _ r
  · intro r; rw [← e1 r]; exact den4_lay 0 (by omega) _ r
  · intro r; rw [← e2 r]; exact den4_lay 0 (by omega) _ r
  · intro r; rw [← e3 r]; exact den4_lay 0 (by omega) _ r

/-- The value of the last block. -/
theorem blkL_apply (a0 a1 a2 a3 : FVec Ideal S64x512 .f32)
    (h0 : ∀ r (j : Fin 512), a0 (ix2 r j) = S 0 r ⟨128 * 2 + j.val, by omega⟩) (h1 : ∀ r (j : Fin 512), a1 (ix2 r j) = S 1 r ⟨128 * 2 + j.val, by omega⟩)
    (h2 : ∀ r (j : Fin 512), a2 (ix2 r j) = S 2 r ⟨128 * 2 + j.val, by omega⟩) (h3 : ∀ r (j : Fin 512), a3 (ix2 r j) = S 3 r ⟨128 * 2 + j.val, by omega⟩)
    (y : Fin 256) (d : Fin 128) :
    blkL V a0 a1 a2 a3 t (ix2 y d)
      = att (row (S ⟨y.val / 64, by omega⟩) B 2 ⟨y.val / 64, by omega⟩ ⟨y.val % 64, by omega⟩) fun c => V (ix2 c d) := by
  have e0 := fun r => strip4 t B ht a0 2 (by omega) (S 0) h0 ![10, 8, 0, 1] 2 0 r (by decide) (by decide)
  have e1 := fun r => strip4 t B ht a1 2 (by omega) (S 1) h1 ![13, 9, 4, 5] 2 1 r (by decide) (by decide)
  have e2 := fun r => strip4 t B ht a2 2 (by omega) (S 2) h2 ![14, 10, 8, 0] 2 2 r (by decide) (by decide)
  have e3 := fun r => strip4 t B ht a3 2 (by omega) (S 3) h3 ![15, 13, 9, 4] 2 3 r (by decide) (by decide)
  unfold blkL
  refine fin_apply V _ _ _ _ _ _ _ _ (fun rl r => row (S rl) B 2 rl r) ?_ ?_ ?_ ?_ ?_ ?_ ?_ ?_ y d
  · intro r c; rw [← e0 r]; exact pad26_apply _ r c
  · intro r c; rw [← e1 r]; exact pad26_apply _ r c
  · intro r c; rw [← e2 r]; exact pad26_apply _ r c
  · intro r c; rw [← e3 r]; exact pad26_apply _ r c
  · intro r; rw [← e0 r]; exact den4_lay 256 (by omega) _ r
  · intro r; rw [← e1 r]; exact den4_lay 256 (by omega) _ r
  · intro r; rw [← e2 r]; exact den4_lay 256 (by omega) _ r
  · intro r; rw [← e3 r]; exact den4_lay 256 (by omega) _ r

end Value

end Cert.KernelIdeal.Natten

end
-- ==== Proof.Pieces.lean ====
module

public import proofs.«01_k».proof.Proof.Block
public import proofs.«01_k».proof.Proof.Gen.KernelIdeal.Loops
public import Idealize.ShloMosaic.Lib.Pipeline.ReadBack
public import Idealize.ShloMosaic.Lib.Ring

@[expose] public section

set_option maxRecDepth 16384

noncomputable section

namespace Cert.KernelIdeal.Natten

open Idealize.ShloMosaic Idealize.ShloMosaic.TcCoe Idealize.ShloMosaic.Tactic
open Cert.KernelIdeal Cert.KernelIdeal.Gen

/-! ## What a grid point leaves in its output, as one function of its four inputs -/

/-- The first grid row group a block reads: keys `256·kb …`. -/
def kb (qb : ℕ) : ℕ := min (qb - 1) 61

/-- The kind of a block: the first, the last, or between. -/
def kind (qb : ℕ) : Fin 3 := if qb = 0 then 0 else if qb = 63 then 2 else 1

/-- The score of query `y` of block `qb` with the block's key `c`. -/
def Sc (x0 x1 : Vec Ideal S16384x128 .bf16) (qb : Fin 64) (y : Fin 256) (c : Fin 768) : EReal :=
  ∑ e : Fin 128, (x0 (ix2 ⟨256 * qb.val + y.val, by omega⟩ e) : EReal) * x1 (ix2 ⟨256 * kb qb.val + c.val, by unfold kb; omega⟩ e)

/-- Block `qb` at query `y` and feature `d`. -/
def blockAt (x0 x1 x2 : Vec Ideal S16384x128 .bf16) (x3 : Vec Ideal S1x16x64x128 .f32) (qb : Fin 64) (y : Fin 256) (d : Fin 128) : EReal :=
  att (row (fun r c => Sc x0 x1 qb ⟨64 * (y.val / 64) + r.val, by omega⟩ c) (fun p r j => x3 (ix4 0 p r j)) (kind qb.val)
      ⟨y.val / 64, by omega⟩ ⟨y.val % 64, by omega⟩)
    fun c => x2 (ix2 ⟨256 * kb qb.val + c.val, by unfold kb; omega⟩ d)

/-- The whole output of a grid point. -/
def outT (x0 x1 x2 : Vec Ideal S16384x128 .bf16) (x3 : Vec Ideal S1x16x64x128 .f32) : Vec Ideal S16384x128 .bf16 := fun y =>
  blockAt x0 x1 x2 x3 ⟨(y 0).val / 256, by have := (y 0).isLt; change _ < 16384 at this; omega⟩ ⟨(y 0).val % 256, by omega⟩ (y 1)

/-- The scores of the four blocks of group `g`. -/
def grp (x0 x1 : Vec Ideal S16384x128 .bf16) (g : Fin 16) : Vec Ideal S4x256x768 .f32 := fun y =>
  Sc x0 x1 ⟨4 * g.val + (y 0).val, by have := (y 0).isLt; change _ < 4 at this; omega⟩ (y 1) (y 2)

/-- A stored block of 256 rows that agrees with `blockAt` agrees with the output there. -/
theorem piece (x0 x1 x2 : Vec Ideal S16384x128 .bf16) (x3 : Vec Ideal S1x16x64x128 .f32) (qb : Fin 64)
    {off : Fin S16384x128.rank → ℕ} (inb : ∀ a, off a + S256x128.size a ≤ S16384x128.size a) (h0 : off 0 = 256 * qb.val) (h1 : off 1 = 0)
    (pl : S256x128.Idx → EReal) (h : ∀ y d, pl (ix2 y d) = blockAt x0 x1 x2 x3 qb y d) :
    ∀ x, pl x = outT x0 x1 x2 x3 ((Rect.unit (s := S16384x128) off S256x128.size inb).emb x) := by
  intro x
  obtain ⟨y, d, rfl⟩ : ∃ (y : Fin 256) (d : Fin 128), x = ix2 y d := ⟨x 0, x 1, funext fun a => by fin_cases a <;> rfl⟩
  refine (h y d).trans ?_
  have e0 : (((Rect.unit (s := S16384x128) off S256x128.size inb).emb (ix2 y d)) 0).val = 256 * qb.val + y.val := by
    show off 0 + 1 * y.val = _; omega
  have e1 : ((Rect.unit (s := S16384x128) off S256x128.size inb).emb (ix2 y d)) 1 = d := by
    apply Fin.ext; show off 1 + 1 * d.val = _; omega
  unfold outT
  congr 1
  · apply Fin.ext; show qb.val = _ / 256; rw [e0]; omega
  · apply Fin.ext; show y.val = _ % 256; rw [e0]; omega
  · exact e1.symm

/-! ## The loads -/

/-- Rows `o …` of an input of 16384 rows. -/
theorem load2 {v : View sig .tc .vmem S16384x128 .bf16} {f : v.ty.Contents (Elt Ideal)} {X : Vec Ideal S16384x128 .bf16} (hX : v.read (Elt Ideal) f = X)
    {n : ℕ} {off : Fin S16384x128.rank → ℕ} (inb : ∀ a, off a + (![n, 128] : Fin 2 → ℕ) a ≤ S16384x128.size a) (o : ℕ) (h0 : off 0 = o) (h1 : off 1 = 0)
    (c : Fin n) (d : Fin 128) (hc : o + c.val < 16384) :
    v.readAt (Elt Ideal) (Rect.unit (s := S16384x128) off ![n, 128] inb).toLoadRect f (ix2 c d) = X (ix2 ⟨o + c.val, hc⟩ d) := by
  subst hX
  rw [View.readAt_apply]
  congr 1
  funext a; apply Fin.ext
  fin_cases a
  · show off 0 + 1 * c.val = o + c.val; omega
  · show off 1 + 1 * d.val = d.val; omega

/-- A bias tile. -/
theorem load4 {v : View sig .tc .vmem S1x16x64x128 .f32} {f : v.ty.Contents (Elt Ideal)} {X : Vec Ideal S1x16x64x128 .f32} (hX : v.read (Elt Ideal) f = X)
    (p : Fin 16) {off : Fin 4 → ℕ} (hoff : off = ![0, p.val, 0, 0]) (inb : ∀ a, off a + S1x1x64x128.size a ≤ S1x16x64x128.size a) (r : Fin 64) (j : Fin 128) :
    v.readAt (Elt Ideal) (Rect.unit (s := S1x16x64x128) off S1x1x64x128.size inb).toLoadRect f (ix4 0 0 r j) = X (ix4 0 p r j) := by
  subst hX hoff
  rw [View.readAt_apply]
  congr 1
  funext a; apply Fin.ext
  fin_cases a
  · rfl
  · rfl
  · show 0 + 1 * r.val = r.val; omega
  · show 0 + 1 * j.val = j.val; omega

/-- Tile `p` of the bias tiles, as the kernel loads it. -/
def tiles {F : FTy → Type} (v : View sig .tc .vmem S1x16x64x128 .f32) (f : v.ty.Contents (Elt F)) (p : Fin 16) : Vec F S1x1x64x128 .f32 :=
  v.readAt (Elt F) (Rect.unit (s := S1x16x64x128) ![0, p.val, 0, 0] S1x1x64x128.size
    (fun a => by fin_cases a <;> first | exact p.isLt | simp)).toLoadRect f

/-- A tile, entry by entry. -/
theorem tiles_apply {v : View sig .tc .vmem S1x16x64x128 .f32} {f : v.ty.Contents (Elt Ideal)} {X : Vec Ideal S1x16x64x128 .f32} (hX : v.read (Elt Ideal) f = X)
    (p : Fin 16) (r : Fin 64) (j : Fin 128) : tiles v f p (ix4 0 0 r j) = X (ix4 0 p r j) :=
  load4 hX p rfl _ r j

/-- A strip of one of the four blocks of scores held in a buffer. -/
theorem strip_load {v : View sig .tc .vmem S4x256x768 .f32} {f : v.ty.Contents (Elt Ideal)} {X : Vec Ideal S4x256x768 .f32} (hX : v.read (Elt Ideal) f = X)
    {u a b n : ℕ} (inb0 : ∀ x, (![u, 0, 0] : Fin 3 → ℕ) x + S1x256x768.size x ≤ S4x256x768.size x)
    (inb1 : ∀ x, (![a, b] : Fin 2 → ℕ) x + (![64, n] : Fin 2 → ℕ) x ≤ S256x768.size x)
    (h0 : (![1, 256, 768] : Fin 3 → ℕ) 0 = 1) (hs : ∀ i, (![1, 256, 768] : Fin 3 → ℕ) i.succ = S256x768.size i)
    (h : ∀ x, (Rect.unit (s := S4x256x768) ![u, 0, 0] S1x256x768.size inb0).stride x = 1)
    (hR : (Rect.unit (s := S256x768) ![a, b] ![64, n] inb1).toLoadRect.shape.numel
      = ((Rect.unit (s := S4x256x768) ![u, 0, 0] S1x256x768.size inb0).withinL
          ((Rect.unit (s := S256x768) ![a, b] ![64, n] inb1).toLoadRect.consLift ![1, 256, 768] h0 hs) h).shape.numel)
    (hu : u < 4) (r : Fin 64) (j : Fin n) (hr : a + r.val < 256) (hj : b + j.val < 768) :
    LoadRect.valAlong hR (v.readAt (Elt Ideal) ((Rect.unit (s := S4x256x768) ![u, 0, 0] S1x256x768.size inb0).withinL
          ((Rect.unit (s := S256x768) ![a, b] ![64, n] inb1).toLoadRect.consLift ![1, 256, 768] h0 hs) h) f) (ix2 r j)
      = X (ix3 ⟨u, hu⟩ ⟨a + r.val, hr⟩ ⟨b + j.val, hj⟩) := by
  subst hX
  have e : Shape.reshapeEquiv hR (ix2 r j) = Fin.cons ⟨0, Nat.one_pos⟩ (ix2 r j) := Shape.reshapeEquiv_cons_one _ _
  show v.read (Elt Ideal) f (LoadRect.idx _ (Shape.reshapeEquiv hR (ix2 r j))) = _
  rw [e]
  congr 1
  funext x; apply Fin.ext
  fin_cases x
  · show u + 0 + 1 * 0 = u; omega
  · show 0 + a + 1 * r.val = a + r.val; omega
  · show 0 + b + 1 * j.val = b + j.val; omega

/-! ## The scores of a group -/

/-- The scores of one block, as the kernel's text writes them. -/
def scT {F : FTy → Type} [FloatOps F] (q : Vec F S256x128 .bf16) (k : Vec F S768x128 .bf16) : FVec F S1x256x768 .f32 :=
  shapeCast S1x256x768 (matmul dot_S256x128_S768x128_S256x768_1_1_0_0_n_n none q k (constant S256x768 .f32 0x00000000#32)) shapeCasts_S256x768_S1x256x768

theorem scT_apply (q : Vec Ideal S256x128 .bf16) (k : Vec Ideal S768x128 .bf16) (y : Fin 256) (c : Fin 768) :
    scT q k (ix3 0 y c) = ∑ e : Fin 128, (q (ix2 y e) : EReal) * k (ix2 c e) := by
  pointwise [scT]

/-- A stored block of scores agrees with its group's. -/
theorem score_piece (x0 x1 : Vec Ideal S16384x128 .bf16) (g : Fin 16) (u : Fin 4) (q : Vec Ideal S256x128 .bf16) (k : Vec Ideal S768x128 .bf16)
    (inb : ∀ x, (![u.val, 0, 0] : Fin 3 → ℕ) x + S1x256x768.size x ≤ S4x256x768.size x)
    (pl : S1x256x768.Idx → EReal) (e : pl = scT q k)
    (hq : ∀ (y : Fin 256) d, q (ix2 y d) = x0 (ix2 ⟨256 * (4 * g.val + u.val) + y.val, by omega⟩ d))
    (hk : ∀ (c : Fin 768) d, k (ix2 c d) = x1 (ix2 ⟨256 * kb (4 * g.val + u.val) + c.val, by unfold kb; omega⟩ d)) :
    ∀ x, pl x = grp x0 x1 g ((Rect.unit (s := S4x256x768) ![u.val, 0, 0] S1x256x768.size inb).emb x) := by
  intro x
  obtain ⟨y, c, rfl⟩ : ∃ (y : Fin 256) (c : Fin 768), x = ix3 0 y c :=
    ⟨x 1, x 2, funext fun a => by fin_cases a <;> first | rfl | exact Subsingleton.elim (α := Fin 1) _ _⟩
  rw [e]
  refine (scT_apply q k y c).trans ?_
  simp only [hq, hk]
  have ey : ((Rect.unit (s := S4x256x768) ![u.val, 0, 0] S1x256x768.size inb).emb (ix3 0 y c)) = ix3 u y c := by
    funext a; apply Fin.ext
    fin_cases a
    · show u.val + 1 * 0 = u.val; omega
    · show 0 + 1 * y.val = y.val; omega
    · show 0 + 1 * c.val = c.val; omega
  rw [ey]; rfl

/-! ### Where a trip loads and stores -/

theorem off2_eq : ∀ (k : Fin k0_t1_loop.trips) (u : Fin 4), k0_off2 k (BitVec.ofNat 32 u.val) = ![256 * kb (4 * (1 + 2 * k.val) + u.val), 0] := by decide +kernel
theorem off3_eq : ∀ (k : Fin k0_t1_loop.trips) (u : Fin 4), k0_off3 k (BitVec.ofNat 32 u.val) = ![256 * (4 * (1 + 2 * k.val) + u.val), 0] := by decide +kernel
theorem off4_eq : ∀ (k : Fin k0_t1_loop.trips) (u : Fin 4), k0_off4 k (BitVec.ofNat 32 u.val) = ![256 * (4 * (2 + 2 * k.val) + u.val), 0] := by decide +kernel
theorem off5_eq : ∀ (k : Fin k0_t1_loop.trips) (u : Fin 4), k0_off5 k (BitVec.ofNat 32 u.val) = ![256 * kb (4 * (2 + 2 * k.val) + u.val), 0] := by decide +kernel
theorem off6_eq : ∀ (k : Fin k0_t1_loop.trips) (u : Fin 4), k0_off6 k (BitVec.ofNat 32 u.val) = ![256 * (4 * (3 + 2 * k.val) + u.val), 0] := by decide +kernel
theorem off7_eq : ∀ (k : Fin k0_t1_loop.trips) (u : Fin 4), k0_off7 k (BitVec.ofNat 32 u.val) = ![256 * kb (4 * (3 + 2 * k.val) + u.val), 0] := by decide +kernel

section Trip

variable (𝒱 : Variants) (c : Dev nD) (bd : Option 𝒱.V) (i : grid0.Coords) (arg1 : Memref sig .tc .vmem S16384x128 .bf16) (harg1 : arg1.IsWhole) (arg2 : Memref sig .tc .vmem S16384x128 .bf16) (harg2 : arg2.IsWhole) (arg3 : Memref sig .tc .vmem S16384x128 .bf16) (harg3 : arg3.IsWhole) (arg4 : Memref sig .tc .vmem S1x16x64x128 .f32) (harg4 : arg4.IsWhole) (arg5 : Memref sig .tc .vmem S16384x128 .bf16) (harg5 : arg5.IsWhole) (arg6 : Memref sig .tc .vmem S4x256x768 .f32) (harg6 : arg6.IsWhole) (arg7 : Memref sig .tc .vmem S4x256x768 .f32) (harg7 : arg7.IsWhole)
  (v540 : Vec Ideal S256x128 .bf16) (x0 x1 x2 : Vec Ideal S16384x128 .bf16) (x3 : Vec Ideal S1x16x64x128 .f32)

theorem kind_mid (q : ℕ) (h0 : q ≠ 0) (h1 : q ≠ 63) : kind q = 1 := by
  unfold kind; rw [if_neg h0, if_neg h1]

/-- A stored interior block agrees with the output. -/
theorem blkI_piece (qb : Fin 64) (hk : kind qb.val = 1) (V : Vec Ideal S768x128 .bf16) (a0 a2 : FVec Ideal S64x512 .f32) (a1 a3 : FVec Ideal S64x640 .f32)
    (t : Fin 16 → Vec Ideal S1x1x64x128 .f32)
    {off : Fin S16384x128.rank → ℕ} (inb : ∀ a, off a + S256x128.size a ≤ S16384x128.size a)
    (pl : S256x128.Idx → EReal) (e : pl = blkI V a0 a2 a1 a3 t) (hoff : off = ![256 * qb.val, 0])
    (hV : ∀ c d, V (ix2 c d) = x2 (ix2 ⟨256 * kb qb.val + c.val, by unfold kb; omega⟩ d))
    (ht : ∀ p r j, t p (ix4 0 0 r j) = x3 (ix4 0 p r j))
    (h0 : ∀ r (j : Fin 512), a0 (ix2 r j) = Sc x0 x1 qb ⟨64 * 0 + r.val, by omega⟩ ⟨128 * 0 + j.val, by omega⟩)
    (h1 : ∀ r (j : Fin 640), a1 (ix2 r j) = Sc x0 x1 qb ⟨64 * 1 + r.val, by omega⟩ ⟨128 * 0 + j.val, by omega⟩)
    (h2 : ∀ r (j : Fin 512), a2 (ix2 r j) = Sc x0 x1 qb ⟨64 * 2 + r.val, by omega⟩ ⟨128 * 1 + j.val, by omega⟩)
    (h3 : ∀ r (j : Fin 640), a3 (ix2 r j) = Sc x0 x1 qb ⟨64 * 3 + r.val, by omega⟩ ⟨128 * 1 + j.val, by omega⟩) :
    ∀ x, pl x = outT x0 x1 x2 x3 ((Rect.unit (s := S16384x128) off S256x128.size inb).emb x) := by
  subst hoff
  refine piece x0 x1 x2 x3 qb inb rfl rfl pl fun y d => ?_
  rw [e, blkI_apply V t (fun rl r c => Sc x0 x1 qb ⟨64 * rl.val + r.val, by omega⟩ c) (fun p r j => x3 (ix4 0 p r j)) ht a0 a2 a1 a3 h0 h1 h2 h3 y d]
  unfold blockAt
  rw [hk]
  congr 1
  funext c; exact hV c d

/-- The four blocks of scores a trip stores in the first buffer are those of group `2 + 2k`. -/
theorem trip_scores6 (k : Fin k0_t1_loop.trips) (hk : k.val < 7) (f : BufTy.Contents (Elt Ideal) arg6.view.ty) :
    arg6.view.read (Elt Ideal) (arg6.view.writes (Elt Ideal) f
      (trip_k0_t1.sl.HW_arg6_4 arg1 arg2 (harg1.unread x0) (harg2.unread x1) k)) = grp x0 x1 ⟨2 + 2 * k.val, by omega⟩ := by
  funext y
  refine View.read_writes_apply_of_pieces (G := grp x0 x1 _) _ _ _ (View.PiecesOf.mem ?_) y
    (View.cover_of_tiledL (s := S4x256x768) _ S1x256x768.size (by sl_kernel_rfl) y)
  unfold trip_k0_t1.sl.HW_arg6_4
  refine ⟨?_, ?_, ?_, ?_, trivial⟩
  · exact score_piece x0 x1 _ 3 _ _ (by decide) _ rfl
      (fun y d => load2 (harg1.read_unread x0) _ _ (congrFun (off4_eq k 3) 0) (congrFun (off4_eq k 3) 1) y d _)
      (fun c d => load2 (harg2.read_unread x1) _ _ (congrFun (off5_eq k 3) 0) (congrFun (off5_eq k 3) 1) c d _)
  · exact score_piece x0 x1 _ 2 _ _ (by decide) _ rfl
      (fun y d => load2 (harg1.read_unread x0) _ _ (congrFun (off4_eq k 2) 0) (congrFun (off4_eq k 2) 1) y d _)
      (fun c d => load2 (harg2.read_unread x1) _ _ (congrFun (off5_eq k 2) 0) (congrFun (off5_eq k 2) 1) c d _)
  · exact score_piece x0 x1 _ 1 _ _ (by decide) _ rfl
      (fun y d => load2 (harg1.read_unread x0) _ _ (congrFun (off4_eq k 1) 0) (congrFun (off4_eq k 1) 1) y d _)
      (fun c d => load2 (harg2.read_unread x1) _ _ (congrFun (off5_eq k 1) 0) (congrFun (off5_eq k 1) 1) c d _)
  · exact score_piece x0 x1 _ 0 _ _ (by decide) _ rfl
      (fun y d => load2 (harg1.read_unread x0) _ _ (congrFun (off4_eq k 0) 0) (congrFun (off4_eq k 0) 1) y d _)
      (fun c d => load2 (harg2.read_unread x1) _ _ (congrFun (off5_eq k 0) 0) (congrFun (off5_eq k 0) 1) c d _)

/-- The four blocks of scores a trip stores in the second buffer are those of group `3 + 2k`. -/
theorem trip_scores7 (k : Fin k0_t1_loop.trips) (hk : k.val < 7) (f5 : BufTy.Contents (Elt Ideal) arg5.view.ty)
    (f6 : BufTy.Contents (Elt Ideal) arg6.view.ty) (f7 f : BufTy.Contents (Elt Ideal) arg7.view.ty) :
    arg7.view.read (Elt Ideal) (arg7.view.writes (Elt Ideal) f
      ((trip_k0_t1 (F := Ideal) 𝒱 c bd i arg1 harg1 arg2 harg2 arg3 harg3 arg4 harg4 arg5 harg5 arg6 harg6 arg7 harg7 v540
        (harg1.unread x0) (harg2.unread x1) (harg3.unread x2) (harg4.unread x3) k).2.2.1 f5 f6 f7)) = grp x0 x1 ⟨3 + 2 * k.val, by omega⟩ := by
  unfold trip_k0_t1
  funext y
  refine View.read_writes_apply_of_pieces (G := grp x0 x1 _) _ _ _ (View.PiecesOf.mem ?_) y
    (View.cover_of_tiledL (s := S4x256x768) _ S1x256x768.size (by sl_kernel_rfl) y)
  refine ⟨?_, ?_, ?_, ?_, trivial⟩
  · exact score_piece x0 x1 _ 3 _ _ (by decide) _ rfl
      (fun y d => load2 (harg1.read_unread x0) _ _ (congrFun (off6_eq k 3) 0) (congrFun (off6_eq k 3) 1) y d _)
      (fun c d => load2 (harg2.read_unread x1) _ _ (congrFun (off7_eq k 3) 0) (congrFun (off7_eq k 3) 1) c d _)
  · exact score_piece x0 x1 _ 2 _ _ (by decide) _ rfl
      (fun y d => load2 (harg1.read_unread x0) _ _ (congrFun (off6_eq k 2) 0) (congrFun (off6_eq k 2) 1) y d _)
      (fun c d => load2 (harg2.read_unread x1) _ _ (congrFun (off7_eq k 2) 0) (congrFun (off7_eq k 2) 1) c d _)
  · exact score_piece x0 x1 _ 1 _ _ (by decide) _ rfl
      (fun y d => load2 (harg1.read_unread x0) _ _ (congrFun (off6_eq k 1) 0) (congrFun (off6_eq k 1) 1) y d _)
      (fun c d => load2 (harg2.read_unread x1) _ _ (congrFun (off7_eq k 1) 0) (congrFun (off7_eq k 1) 1) c d _)
  · exact score_piece x0 x1 _ 0 _ _ (by decide) _ rfl
      (fun y d => load2 (harg1.read_unread x0) _ _ (congrFun (off6_eq k 0) 0) (congrFun (off6_eq k 0) 1) y d _)
      (fun c d => load2 (harg2.read_unread x1) _ _ (congrFun (off7_eq k 0) 0) (congrFun (off7_eq k 0) 1) c d _)

/-- Every block of outputs a trip stores agrees with the output, if the second buffer holds the scores of group `1 + 2k`. -/
theorem trip_out (k : Fin k0_t1_loop.trips) (hk : k.val < 7) (f5 : BufTy.Contents (Elt Ideal) arg5.view.ty)
    (f6 : BufTy.Contents (Elt Ideal) arg6.view.ty) (f7 : BufTy.Contents (Elt Ideal) arg7.view.ty)
    (h7 : arg7.view.read (Elt Ideal) f7 = grp x0 x1 ⟨1 + 2 * k.val, by omega⟩) :
    View.PiecesOf (outT x0 x1 x2 x3) ((trip_k0_t1 (F := Ideal) 𝒱 c bd i arg1 harg1 arg2 harg2 arg3 harg3 arg4 harg4 arg5 harg5 arg6 harg6 arg7 harg7 v540
      (harg1.unread x0) (harg2.unread x1) (harg3.unread x2) (harg4.unread x3) k).1 f5 f6 f7) := by
  have h6 := trip_scores6 arg1 harg1 arg2 harg2 arg6 x0 x1 k hk arg6.view.junk
  unfold trip_k0_t1
  refine ⟨?_, ?_, ?_, ?_, ?_, ?_, ?_, ?_, trivial⟩
  · refine blkI_piece x0 x1 x2 x3 ⟨4 * (2 + 2 * k.val) + 3, by omega⟩ (kind_mid _ (by simp; try omega) (by simp; omega)) _ _ _ _ _
      (tiles arg4.view (harg4.unread x3)) (k0_off4_inb k 3) _ rfl (off4_eq k 3) ?_ (tiles_apply (harg4.read_unread x3)) ?_ ?_ ?_ ?_
    · exact fun c d => load2 (harg3.read_unread x2) _ _ (congrFun (off5_eq k 3) 0) (congrFun (off5_eq k 3) 1) c d _
    all_goals exact fun r j => strip_load h6 _ _ _ _ _ _ (by decide) r j _ _
  · refine blkI_piece x0 x1 x2 x3 ⟨4 * (2 + 2 * k.val) + 2, by omega⟩ (kind_mid _ (by simp; try omega) (by simp; omega)) _ _ _ _ _
      (tiles arg4.view (harg4.unread x3)) (k0_off4_inb k 2) _ rfl (off4_eq k 2) ?_ (tiles_apply (harg4.read_unread x3)) ?_ ?_ ?_ ?_
    · exact fun c d => load2 (harg3.read_unread x2) _ _ (congrFun (off5_eq k 2) 0) (congrFun (off5_eq k 2) 1) c d _
    all_goals exact fun r j => strip_load h6 _ _ _ _ _ _ (by decide) r j _ _
  · refine blkI_piece x0 x1 x2 x3 ⟨4 * (2 + 2 * k.val) + 1, by omega⟩ (kind_mid _ (by simp; try omega) (by simp; omega)) _ _ _ _ _
      (tiles arg4.view (harg4.unread x3)) (k0_off4_inb k 1) _ rfl (off4_eq k 1) ?_ (tiles_apply (harg4.read_unread x3)) ?_ ?_ ?_ ?_
    · exact fun c d => load2 (harg3.read_unread x2) _ _ (congrFun (off5_eq k 1) 0) (congrFun (off5_eq k 1) 1) c d _
    all_goals exact fun r j => strip_load h6 _ _ _ _ _ _ (by decide) r j _ _
  · refine blkI_piece x0 x1 x2 x3 ⟨4 * (2 + 2 * k.val) + 0, by omega⟩ (kind_mid _ (by simp; try omega) (by simp; omega)) _ _ _ _ _
      (tiles arg4.view (harg4.unread x3)) (k0_off4_inb k 0) _ rfl (off4_eq k 0) ?_ (tiles_apply (harg4.read_unread x3)) ?_ ?_ ?_ ?_
    · exact fun c d => load2 (harg3.read_unread x2) _ _ (congrFun (off5_eq k 0) 0) (congrFun (off5_eq k 0) 1) c d _
    all_goals exact fun r j => strip_load h6 _ _ _ _ _ _ (by decide) r j _ _
  · refine blkI_piece x0 x1 x2 x3 ⟨4 * (1 + 2 * k.val) + 3, by omega⟩ (kind_mid _ (by simp; try omega) (by simp; omega)) _ _ _ _ _
      (tiles arg4.view (harg4.unread x3)) (k0_off3_inb k 3) _ rfl (off3_eq k 3) ?_ (tiles_apply (harg4.read_unread x3)) ?_ ?_ ?_ ?_
    · exact fun c d => load2 (harg3.read_unread x2) _ _ (congrFun (off2_eq k 3) 0) (congrFun (off2_eq k 3) 1) c d _
    all_goals exact fun r j => strip_load h7 _ _ _ _ _ _ (by decide) r j _ _
  · refine blkI_piece x0 x1 x2 x3 ⟨4 * (1 + 2 * k.val) + 2, by omega⟩ (kind_mid _ (by simp; try omega) (by simp; omega)) _ _ _ _ _
      (tiles arg4.view (harg4.unread x3)) (k0_off3_inb k 2) _ rfl (off3_eq k 2) ?_ (tiles_apply (harg4.read_unread x3)) ?_ ?_ ?_ ?_
    · exact fun c d => load2 (harg3.read_unread x2) _ _ (congrFun (off2_eq k 2) 0) (congrFun (off2_eq k 2) 1) c d _
    all_goals exact fun r j => strip_load h7 _ _ _ _ _ _ (by decide) r j _ _
  · refine blkI_piece x0 x1 x2 x3 ⟨4 * (1 + 2 * k.val) + 1, by omega⟩ (kind_mid _ (by simp; try omega) (by simp; omega)) _ _ _ _ _
      (tiles arg4.view (harg4.unread x3)) (k0_off3_inb k 1) _ rfl (off3_eq k 1) ?_ (tiles_apply (harg4.read_unread x3)) ?_ ?_ ?_ ?_
    · exact fun c d => load2 (harg3.read_unread x2) _ _ (congrFun (off2_eq k 1) 0) (congrFun (off2_eq k 1) 1) c d _
    all_goals exact fun r j => strip_load h7 _ _ _ _ _ _ (by decide) r j _ _
  · refine blkI_piece x0 x1 x2 x3 ⟨4 * (1 + 2 * k.val) + 0, by omega⟩ (kind_mid _ (by simp; try omega) (by simp; omega)) _ _ _ _ _
      (tiles arg4.view (harg4.unread x3)) (k0_off3_inb k 0) _ rfl (off3_eq k 0) ?_ (tiles_apply (harg4.read_unread x3)) ?_ ?_ ?_ ?_
    · exact fun c d => load2 (harg3.read_unread x2) _ _ (congrFun (off2_eq k 0) 0) (congrFun (off2_eq k 0) 1) c d _
    all_goals exact fun r j => strip_load h7 _ _ _ _ _ _ (by decide) r j _ _

end Trip
end Cert.KernelIdeal.Natten

end
-- ==== Proof.Total.lean ====
module

public import proofs.«01_k».proof.Proof.Run
public import proofs.«01_k».proof.Proof.Pieces

@[expose] public section

set_option maxRecDepth 16384

noncomputable section

namespace Cert.KernelIdeal.Natten

open Idealize.ShloMosaic Idealize.ShloMosaic.TcCoe Idealize.ShloMosaic.Tactic
open Cert.KernelIdeal Cert.KernelIdeal.Gen

/-- Two lists of pieces that agree with a function, one after the other. -/
theorem pieces_append {s : Shape} {e : EltTy} {Val : EltTy → Type} {G : s.Idx → Val e} :
    ∀ {L' L : List (View.Piece Val s e)}, View.PiecesOf G L' → View.PiecesOf G L → View.PiecesOf G (L' ++ L)
  | [], _, _, h => h
  | _ :: _, _, h', h => ⟨h'.1, pieces_append h'.2 h⟩

section Ends

variable (x0 x1 x2 : Vec Ideal S16384x128 .bf16) (x3 : Vec Ideal S1x16x64x128 .f32) (V : Vec Ideal S768x128 .bf16) (a0 a1 a2 a3 : FVec Ideal S64x512 .f32)
  (t : Fin 16 → Vec Ideal S1x1x64x128 .f32) (pl : S256x128.Idx → EReal)

/-- The first stored block agrees with the output. -/
theorem blkF_piece {off : Fin S16384x128.rank → ℕ} (inb : ∀ a, off a + S256x128.size a ≤ S16384x128.size a) (e : pl = blkF V a0 a1 a2 a3 t)
    (hoff : off = ![256 * (0 : Fin 64).val, 0])
    (hV : ∀ c d, V (ix2 c d) = x2 (ix2 ⟨256 * kb (0 : Fin 64).val + c.val, by unfold kb; omega⟩ d))
    (ht : ∀ p r j, t p (ix4 0 0 r j) = x3 (ix4 0 p r j))
    (h0 : ∀ r (j : Fin 512), a0 (ix2 r j) = Sc x0 x1 0 ⟨64 * 0 + r.val, by omega⟩ ⟨128 * 0 + j.val, by omega⟩)
    (h1 : ∀ r (j : Fin 512), a1 (ix2 r j) = Sc x0 x1 0 ⟨64 * 1 + r.val, by omega⟩ ⟨128 * 0 + j.val, by omega⟩)
    (h2 : ∀ r (j : Fin 512), a2 (ix2 r j) = Sc x0 x1 0 ⟨64 * 2 + r.val, by omega⟩ ⟨128 * 0 + j.val, by omega⟩)
    (h3 : ∀ r (j : Fin 512), a3 (ix2 r j) = Sc x0 x1 0 ⟨64 * 3 + r.val, by omega⟩ ⟨128 * 0 + j.val, by omega⟩) :
    ∀ x, pl x = outT x0 x1 x2 x3 ((Rect.unit (s := S16384x128) off S256x128.size inb).emb x) := by
  subst hoff
  refine piece x0 x1 x2 x3 0 inb rfl rfl pl fun y d => ?_
  rw [e, blkF_apply V t (fun rl r c => Sc x0 x1 0 ⟨64 * rl.val + r.val, by omega⟩ c) (fun p r j => x3 (ix4 0 p r j)) ht a0 a1 a2 a3 h0 h1 h2 h3 y d]
  exact congrArg (att _) (funext fun c => hV c d)

/-- The last stored block agrees with the output. -/
theorem blkL_piece {off : Fin S16384x128.rank → ℕ} (inb : ∀ a, off a + S256x128.size a ≤ S16384x128.size a) (e : pl = blkL V a0 a1 a2 a3 t)
    (hoff : off = ![256 * (63 : Fin 64).val, 0])
    (hV : ∀ c d, V (ix2 c d) = x2 (ix2 ⟨256 * kb (63 : Fin 64).val + c.val, by unfold kb; omega⟩ d))
    (ht : ∀ p r j, t p (ix4 0 0 r j) = x3 (ix4 0 p r j))
    (h0 : ∀ r (j : Fin 512), a0 (ix2 r j) = Sc x0 x1 63 ⟨64 * 0 + r.val, by omega⟩ ⟨128 * 2 + j.val, by omega⟩)
    (h1 : ∀ r (j : Fin 512), a1 (ix2 r j) = Sc x0 x1 63 ⟨64 * 1 + r.val, by omega⟩ ⟨128 * 2 + j.val, by omega⟩)
    (h2 : ∀ r (j : Fin 512), a2 (ix2 r j) = Sc x0 x1 63 ⟨64 * 2 + r.val, by omega⟩ ⟨128 * 2 + j.val, by omega⟩)
    (h3 : ∀ r (j : Fin 512), a3 (ix2 r j) = Sc x0 x1 63 ⟨64 * 3 + r.val, by omega⟩ ⟨128 * 2 + j.val, by omega⟩) :
    ∀ x, pl x = outT x0 x1 x2 x3 ((Rect.unit (s := S16384x128) off S256x128.size inb).emb x) := by
  subst hoff
  refine piece x0 x1 x2 x3 63 inb rfl rfl pl fun y d => ?_
  rw [e, blkL_apply V t (fun rl r c => Sc x0 x1 63 ⟨64 * rl.val + r.val, by omega⟩ c) (fun p r j => x3 (ix4 0 p r j)) ht a0 a1 a2 a3 h0 h1 h2 h3 y d]
  exact congrArg (att _) (funext fun c => hV c d)

end Ends

section Loop

variable (c : Dev nD) (i : grid0.Coords) (arg1 : Memref sig .tc .vmem S16384x128 .bf16) (harg1 : arg1.IsWhole) (arg2 : Memref sig .tc .vmem S16384x128 .bf16) (harg2 : arg2.IsWhole) (arg3 : Memref sig .tc .vmem S16384x128 .bf16) (harg3 : arg3.IsWhole) (arg4 : Memref sig .tc .vmem S1x16x64x128 .f32) (harg4 : arg4.IsWhole) (arg5 : Memref sig .tc .vmem S16384x128 .bf16) (harg5 : arg5.IsWhole) (arg6 : Memref sig .tc .vmem S4x256x768 .f32) (harg6 : arg6.IsWhole) (arg7 : Memref sig .tc .vmem S4x256x768 .f32) (harg7 : arg7.IsWhole)
  (x0 x1 x2 : Vec Ideal S16384x128 .bf16) (x3 : Vec Ideal S1x16x64x128 .f32)

/-- Before trip `n` the stored blocks agree with the output and the second buffer holds the scores of group `1 + 2n`. -/
theorem loop_out (𝒱 : Variants) (bd : Option 𝒱.V) (v540 : Vec Ideal S256x128 .bf16) (G5 : BufTy.Contents (Elt Ideal) arg5.view.ty)
    (G6 : BufTy.Contents (Elt Ideal) arg6.view.ty) (G7 : BufTy.Contents (Elt Ideal) arg7.view.ty) (h7 : arg7.view.read (Elt Ideal) G7 = grp x0 x1 1) :
    ∀ (n : ℕ) (hn : n ≤ 7), View.PiecesOf (outT x0 x1 x2 x3) (pb_k0_t1 (F := Ideal) 𝒱 c bd i arg1 harg1 arg2 harg2 arg3 harg3 arg4 harg4 arg5 harg5 arg6 harg6 arg7 harg7 v540
        (harg1.unread x0) (harg2.unread x1) (harg3.unread x2) (harg4.unread x3) G5 G6 G7 n).1
      ∧ arg7.view.read (Elt Ideal) (arg7.view.writes (Elt Ideal) G7 (pb_k0_t1 (F := Ideal) 𝒱 c bd i arg1 harg1 arg2 harg2 arg3 harg3 arg4 harg4 arg5 harg5 arg6 harg6 arg7 harg7 v540
        (harg1.unread x0) (harg2.unread x1) (harg3.unread x2) (harg4.unread x3) G5 G6 G7 n).2.2) = grp x0 x1 ⟨1 + 2 * n, by omega⟩ := by
  intro n
  induction n with
  | zero => exact fun _ => ⟨trivial, h7⟩
  | succ n ih =>
    intro hn
    have hT : n < k0_t1_loop.trips := lt_of_lt_of_le (show n < 7 by omega) (show 7 ≤ k0_t1_loop.trips by decide +kernel)
    rw [pb_k0_t1_succ (k := ⟨n, hT⟩)]
    constructor
    · exact pieces_append (trip_out 𝒱 c bd i arg1 harg1 arg2 harg2 arg3 harg3 arg4 harg4 arg5 harg5 arg6 harg6 arg7 harg7 v540 x0 x1 x2 x3 ⟨n, hT⟩ (by show n < 7; omega) _ _ _ (ih (by omega)).2) (ih (by omega)).1
    · dsimp only
      rw [View.writes_append]
      refine (trip_scores7 𝒱 c bd i arg1 harg1 arg2 harg2 arg3 harg3 arg4 harg4 arg5 harg5 arg6 harg6 arg7 harg7 v540 x0 x1 x2 x3 ⟨n, hT⟩ (by show n < 7; omega) _ _ _ _).trans ?_
      congr 1
      apply Fin.ext
      show 3 + 2 * n = 1 + 2 * (n + 1); omega

/-- The scores of the first group, in the first buffer. -/
theorem first_scores (f : BufTy.Contents (Elt Ideal) arg6.view.ty) :
    arg6.view.read (Elt Ideal) (arg6.view.writes (Elt Ideal) f (run.sl.HS0_4 c arg1 harg1 arg2 harg2 x0 x1)) = grp x0 x1 0 := by
  funext y
  refine View.read_writes_apply_of_pieces (G := grp x0 x1 _) _ _ _ (View.PiecesOf.mem ?_) y
    (View.cover_of_tiledL (s := S4x256x768) _ S1x256x768.size (by sl_kernel_rfl) y)
  unfold run.sl.HS0_4
  refine ⟨?_, ?_, ?_, ?_, trivial⟩
  · exact score_piece x0 x1 _ 3 _ _ (by decide) _ rfl (fun y d => load2 (harg1.read_unread x0) _ _ rfl rfl y d _)
      (fun c d => load2 (harg2.read_unread x1) _ _ rfl rfl c d _)
  · exact score_piece x0 x1 _ 2 _ _ (by decide) _ rfl (fun y d => load2 (harg1.read_unread x0) _ _ rfl rfl y d _)
      (fun c d => load2 (harg2.read_unread x1) _ _ rfl rfl c d _)
  · exact score_piece x0 x1 _ 1 _ _ (by decide) _ rfl (fun y d => load2 (harg1.read_unread x0) _ _ rfl rfl y d _)
      (fun c d => load2 (harg2.read_unread x1) _ _ rfl rfl c d _)
  · exact score_piece x0 x1 _ 0 _ _ (by decide) _ rfl (fun y d => load2 (harg1.read_unread x0) _ _ rfl rfl y d _)
      (fun c d => load2 (harg2.read_unread x1) _ _ rfl rfl c d _)

/-- The scores of the second group, in the second buffer. -/
theorem second_scores (f : BufTy.Contents (Elt Ideal) arg7.view.ty) :
    arg7.view.read (Elt Ideal) (arg7.view.writes (Elt Ideal) f (run.sl.HS1_4 c arg1 harg1 arg2 harg2 x0 x1)) = grp x0 x1 1 := by
  funext y
  refine View.read_writes_apply_of_pieces (G := grp x0 x1 _) _ _ _ (View.PiecesOf.mem ?_) y
    (View.cover_of_tiledL (s := S4x256x768) _ S1x256x768.size (by sl_kernel_rfl) y)
  unfold run.sl.HS1_4
  refine ⟨?_, ?_, ?_, ?_, trivial⟩
  · exact score_piece x0 x1 _ 3 _ _ (by decide) _ rfl (fun y d => load2 (harg1.read_unread x0) _ _ rfl rfl y d _)
      (fun c d => load2 (harg2.read_unread x1) _ _ rfl rfl c d _)
  · exact score_piece x0 x1 _ 2 _ _ (by decide) _ rfl (fun y d => load2 (harg1.read_unread x0) _ _ rfl rfl y d _)
      (fun c d => load2 (harg2.read_unread x1) _ _ rfl rfl c d _)
  · exact score_piece x0 x1 _ 1 _ _ (by decide) _ rfl (fun y d => load2 (harg1.read_unread x0) _ _ rfl rfl y d _)
      (fun c d => load2 (harg2.read_unread x1) _ _ rfl rfl c d _)
  · exact score_piece x0 x1 _ 0 _ _ (by decide) _ rfl (fun y d => load2 (harg1.read_unread x0) _ _ rfl rfl y d _)
      (fun c d => load2 (harg2.read_unread x1) _ _ rfl rfl c d _)

set_option maxHeartbeats 2000000 in
/-- What the body leaves in its output. -/
theorem run_out (f4 : BufTy.Contents (Elt Ideal) arg5.view.ty) :
    arg5.view.read (Elt Ideal) (arg5.view.writes (Elt Ideal) f4 (run (F := Ideal) c i arg1 harg1 arg2 harg2 arg3 harg3 arg4 harg4 arg5 harg5 arg6 harg6 arg7 harg7 x0 x1 x2 x3 f4).1) = outT x0 x1 x2 x3 := by
  funext y
  refine View.read_writes_apply_of_pieces (G := outT x0 x1 x2 x3) _ _ _ (View.PiecesOf.mem ?_) y
    (View.cover_of_tiledL (s := S16384x128) _ S256x128.size (by sl_kernel_rfl) y)
  have h6 := first_scores c arg1 harg1 arg2 harg2 arg6 x0 x1 arg6.view.junk
  unfold run
  dsimp only
  have hn : Scf.trips (0#32) (Scalar.addi 0#32 7#32) 1#32 = 7 := by decide +kernel
  have hl := fun G5 => loop_out c i arg1 harg1 arg2 harg2 arg3 harg3 arg4 harg4 arg5 harg5 arg6 harg6 arg7 harg7 x0 x1 x2 x3 Variants.none none
    (run.sl.r_48 c arg1 harg1 x0) G5 (arg6.view.writes (Elt Ideal) arg6.view.junk (run.sl.HS0_4 c arg1 harg1 arg2 harg2 x0 x1))
    (arg7.view.writes (Elt Ideal) arg7.view.junk (run.sl.HS1_4 c arg1 harg1 arg2 harg2 x0 x1))
    (second_scores c arg1 harg1 arg2 harg2 arg7 x0 x1 arg7.view.junk) _ hn.le
  have h7 := fun G5 => (hl G5).2.trans (congrArg (grp x0 x1) (Fin.ext (by show 1 + 2 * _ = (15 : Fin 16).val; rw [hn]; rfl)))
  simp only [← View.writes_append] at h7
  refine ⟨?_, ?_, ?_, ?_, pieces_append (hl _).1 ?_⟩
  rotate_left 4
  · refine ⟨?_, ?_, ?_, ?_, trivial⟩
    · refine blkI_piece x0 x1 x2 x3 3 rfl _ _ _ _ _ (tiles arg4.view (harg4.unread x3)) (by decide) _ rfl rfl ?_ (tiles_apply (harg4.read_unread x3)) ?_ ?_ ?_ ?_
      · exact fun c d => load2 (harg3.read_unread x2) _ _ rfl rfl c d _
      all_goals exact fun r j => strip_load h6 _ _ _ _ _ _ (by decide) r j _ _
    · refine blkI_piece x0 x1 x2 x3 2 rfl _ _ _ _ _ (tiles arg4.view (harg4.unread x3)) (by decide) _ rfl rfl ?_ (tiles_apply (harg4.read_unread x3)) ?_ ?_ ?_ ?_
      · exact fun c d => load2 (harg3.read_unread x2) _ _ rfl rfl c d _
      all_goals exact fun r j => strip_load h6 _ _ _ _ _ _ (by decide) r j _ _
    · refine blkI_piece x0 x1 x2 x3 1 rfl _ _ _ _ _ (tiles arg4.view (harg4.unread x3)) (by decide) _ rfl rfl ?_ (tiles_apply (harg4.read_unread x3)) ?_ ?_ ?_ ?_
      · exact fun c d => load2 (harg3.read_unread x2) _ _ rfl rfl c d _
      all_goals exact fun r j => strip_load h6 _ _ _ _ _ _ (by decide) r j _ _
    · refine blkF_piece x0 x1 x2 x3 _ _ _ _ _ (tiles arg4.view (harg4.unread x3)) _ (by decide) rfl rfl ?_ (tiles_apply (harg4.read_unread x3)) ?_ ?_ ?_ ?_
      · exact fun c d => load2 (harg3.read_unread x2) _ _ rfl rfl c d _
      all_goals exact fun r j => strip_load h6 _ _ _ _ _ _ (by decide) r j _ _
  · refine blkL_piece x0 x1 x2 x3 _ _ _ _ _ (tiles arg4.view (harg4.unread x3)) _ (by decide) rfl rfl ?_ (tiles_apply (harg4.read_unread x3)) ?_ ?_ ?_ ?_
    · exact fun c d => load2 (harg3.read_unread x2) _ _ rfl rfl c d _
    all_goals exact fun r j => strip_load (h7 _) _ _ _ _ _ _ (by decide) r j _ _
  · refine blkI_piece x0 x1 x2 x3 62 rfl _ _ _ _ _ (tiles arg4.view (harg4.unread x3)) (by decide) _ rfl rfl ?_ (tiles_apply (harg4.read_unread x3)) ?_ ?_ ?_ ?_
    · exact fun c d => load2 (harg3.read_unread x2) _ _ rfl rfl c d _
    all_goals exact fun r j => strip_load (h7 _) _ _ _ _ _ _ (by decide) r j _ _
  · refine blkI_piece x0 x1 x2 x3 61 rfl _ _ _ _ _ (tiles arg4.view (harg4.unread x3)) (by decide) _ rfl rfl ?_ (tiles_apply (harg4.read_unread x3)) ?_ ?_ ?_ ?_
    · exact fun c d => load2 (harg3.read_unread x2) _ _ rfl rfl c d _
    all_goals exact fun r j => strip_load (h7 _) _ _ _ _ _ _ (by decide) r j _ _
  · refine blkI_piece x0 x1 x2 x3 60 rfl _ _ _ _ _ (tiles arg4.view (harg4.unread x3)) (by decide) _ rfl rfl ?_ (tiles_apply (harg4.read_unread x3)) ?_ ?_ ?_ ?_
    · exact fun c d => load2 (harg3.read_unread x2) _ _ rfl rfl c d _
    all_goals exact fun r j => strip_load (h7 _) _ _ _ _ _ _ (by decide) r j _ _

end Loop
end Cert.KernelIdeal.Natten

end
-- ==== Proof.Launch.lean ====
module

public import proofs.«01_k».proof.Proof.Total
public import Idealize.ShloMosaic.Lib.Claim
public import Idealize.ShloMosaic.Lib.Pipeline.Value

@[expose] public section

set_option maxRecDepth 16384

noncomputable section

namespace Cert.KernelIdeal.Natten

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What a body leaves does not depend on what its output held -/

section Indep

variable (c : Dev nD) (i : grid0.Coords) (arg1 : Memref sig .tc .vmem S16384x128 .bf16) (harg1 : arg1.IsWhole) (arg2 : Memref sig .tc .vmem S16384x128 .bf16) (harg2 : arg2.IsWhole) (arg3 : Memref sig .tc .vmem S16384x128 .bf16) (harg3 : arg3.IsWhole) (arg4 : Memref sig .tc .vmem S1x16x64x128 .f32) (harg4 : arg4.IsWhole) (arg5 : Memref sig .tc .vmem S16384x128 .bf16) (harg5 : arg5.IsWhole) (arg6 : Memref sig .tc .vmem S4x256x768 .f32) (harg6 : arg6.IsWhole) (arg7 : Memref sig .tc .vmem S4x256x768 .f32) (harg7 : arg7.IsWhole)

/-- A trip's pieces do not read the output buffer. -/
theorem trip_indep (𝒱 : Variants) (bd : Option 𝒱.V) (v540 : Vec F S256x128 .bf16) (X1 : BufTy.Contents (Elt F) arg1.view.ty) (X2 : BufTy.Contents (Elt F) arg2.view.ty)
    (X3 : BufTy.Contents (Elt F) arg3.view.ty) (X4 : BufTy.Contents (Elt F) arg4.view.ty) (k : Fin k0_t1_loop.trips) (f5 f5' : BufTy.Contents (Elt F) arg5.view.ty)
    (f6 : BufTy.Contents (Elt F) arg6.view.ty) (f7 : BufTy.Contents (Elt F) arg7.view.ty) :
    tripL_k0_t1 (F := F) 𝒱 c bd i arg1 harg1 arg2 harg2 arg3 harg3 arg4 harg4 arg5 harg5 arg6 harg6 arg7 harg7 v540 X1 X2 X3 X4 k f5 f6 f7
      = tripL_k0_t1 (F := F) 𝒱 c bd i arg1 harg1 arg2 harg2 arg3 harg3 arg4 harg4 arg5 harg5 arg6 harg6 arg7 harg7 v540 X1 X2 X3 X4 k f5' f6 f7 := by sl_kernel_rfl

/-- Nor do the loop's. -/
theorem loop_indep (𝒱 : Variants) (bd : Option 𝒱.V) (v540 : Vec F S256x128 .bf16) (X1 : BufTy.Contents (Elt F) arg1.view.ty) (X2 : BufTy.Contents (Elt F) arg2.view.ty)
    (X3 : BufTy.Contents (Elt F) arg3.view.ty) (X4 : BufTy.Contents (Elt F) arg4.view.ty) (G5 G5' : BufTy.Contents (Elt F) arg5.view.ty)
    (G6 : BufTy.Contents (Elt F) arg6.view.ty) (G7 : BufTy.Contents (Elt F) arg7.view.ty) (n : ℕ) :
    pb_k0_t1 (F := F) 𝒱 c bd i arg1 harg1 arg2 harg2 arg3 harg3 arg4 harg4 arg5 harg5 arg6 harg6 arg7 harg7 v540 X1 X2 X3 X4 G5 G6 G7 n
      = pb_k0_t1 (F := F) 𝒱 c bd i arg1 harg1 arg2 harg2 arg3 harg3 arg4 harg4 arg5 harg5 arg6 harg6 arg7 harg7 v540 X1 X2 X3 X4 G5' G6 G7 n := by
  induction n with
  | zero => rfl
  | succ n ih =>
    unfold pb_k0_t1 pb_k0_t1Step
    rw [ih]
    split
    · rw [trip_indep c i arg1 harg1 arg2 harg2 arg3 harg3 arg4 harg4 arg5 harg5 arg6 harg6 arg7 harg7 𝒱 bd v540 X1 X2 X3 X4 _ (arg5.view.writes (Elt F) G5 _) (arg5.view.writes (Elt F) G5' _)]
    · rfl

variable (x0 x1 x2 : Vec F S16384x128 .bf16) (x3 : Vec F S1x16x64x128 .f32)

/-- Nor do the body's. -/
theorem run_indep (f f' : BufTy.Contents (Elt F) arg5.view.ty) :
    (run c i arg1 harg1 arg2 harg2 arg3 harg3 arg4 harg4 arg5 harg5 arg6 harg6 arg7 harg7 x0 x1 x2 x3 f).1 = (run c i arg1 harg1 arg2 harg2 arg3 harg3 arg4 harg4 arg5 harg5 arg6 harg6 arg7 harg7 x0 x1 x2 x3 f').1 := by
  unfold run
  dsimp only
  have h := fun v540 X1 X2 X3 X4 L G6 G7 n => loop_indep c i arg1 harg1 arg2 harg2 arg3 harg3 arg4 harg4 arg5 harg5 arg6 harg6 arg7 harg7 Variants.none none v540 X1 X2 X3 X4
    (arg5.view.writes (Elt F) f L) (arg5.view.writes (Elt F) f' L) G6 G7 n
  simp only [h, run.sl.r_49, run.sl.r_50, run.sl.r_51, run.sl.r_52, run.sl.r_53, run.sl.r_54, run.sl.r_55, run.sl.r_56, run.sl.r_57, run.sl.r_58, run.sl.r_59, run.sl.r_60, run.sl.r_61, run.sl.r_62, run.sl.r_63, run.sl.r_64, run.sl.r_65, run.sl.r_66, run.sl.r_67, run.sl.r_68, run.sl.r_69, run.sl.r_70, run.sl.r_71, run.sl.r_72, run.sl.r_73, run.sl.r_74, run.sl.r_75, run.sl.r_76, run.sl.r_77, run.sl.r_78, run.sl.r_79, run.sl.r_80, run.sl.r_81, run.sl.r_82, run.sl.r_83, run.sl.r_84, run.sl.r_85, run.sl.r_86, run.sl.r_87, run.sl.r_88, run.sl.r_89, run.sl.r_90, run.sl.r_91, run.sl.r_92, run.sl.r_93, run.sl.r_94, run.sl.r_95, run.sl.r_96, run.sl.r_97, run.sl.r_98, run.sl.v566, run.sl.v591, run.sl.v614, run.sl.v640, run.sl.v678, run.sl.v703, run.sl.v726, run.sl.v752, run.sl.v790, run.sl.v815, run.sl.v838, run.sl.v864, run.sl.v902, run.sl.v925, run.sl.v948, run.sl.v971]

/-- The body's pieces cover the output block. -/
theorem run_cover (f : BufTy.Contents (Elt F) arg5.view.ty) (y : S16384x128.Idx) :
    ∃ pc ∈ (run c i arg1 harg1 arg2 harg2 arg3 harg3 arg4 harg4 arg5 harg5 arg6 harg6 arg7 harg7 x0 x1 x2 x3 f).1, y ∈ pc.1.set :=
  View.cover_of_tiledL (s := S16384x128) _ S256x128.size (by sl_kernel_rfl) y

/-- What the body leaves in its output, over anything. -/
theorem run_read (f f' : BufTy.Contents (Elt F) arg5.view.ty) :
    arg5.view.read (Elt F) (arg5.view.writes (Elt F) f (run c i arg1 harg1 arg2 harg2 arg3 harg3 arg4 harg4 arg5 harg5 arg6 harg6 arg7 harg7 x0 x1 x2 x3 f).1)
      = arg5.view.read (Elt F) (arg5.view.writes (Elt F) f' (run c i arg1 harg1 arg2 harg2 arg3 harg3 arg4 harg4 arg5 harg5 arg6 harg6 arg7 harg7 x0 x1 x2 x3 f').1) := by
  rw [run_indep c i arg1 harg1 arg2 harg2 arg3 harg3 arg4 harg4 arg5 harg5 arg6 harg6 arg7 harg7 x0 x1 x2 x3 f f']
  exact View.read_writes_of_cover _ _ _ _ _ (run_cover c i arg1 harg1 arg2 harg2 arg3 harg3 arg4 harg4 arg5 harg5 arg6 harg6 arg7 harg7 x0 x1 x2 x3 f')

end Indep

variable (m : (ℓ : Loc nD τ sig) → Buf (Elt F) ℓ) (ρ : Dev nD → PrngReg)

/-! ## The launch -/

/-- The output block of grid point `t`: what the body leaves of its input blocks. -/
def outAt (c : Dev nD) (t : Fin cfg0.N) : Vec F S16384x128 .bf16 :=
  (ms0_4 t).view.read (Elt F) ((ms0_4 t).view.writes (Elt F) (ms0_4 t).view.junk
    (run c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _)
      (iblk m c 0 t) (iblk m c 1 t) (iblk m c 2 t) (iblk m c 3 t) (ms0_4 t).view.junk).1)

/-- The pipeline's data: inputs keep their blocks, the output ends at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- The body at any point, before and after. -/
theorem sound_body (c : Dev nD) (t : Fin cfg0.N) :
    iprop((dats m 0 c).Φ t.castSucc ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (ms0_0 t) fullShare ((dats m 0 c).after 0 t)
        ∗ owns (c : Thread nD τ) (ms0_1 t) fullShare ((dats m 0 c).after 1 t)
        ∗ owns (c : Thread nD τ) (ms0_2 t) fullShare ((dats m 0 c).after 2 t)
        ∗ owns (c : Thread nD τ) (ms0_3 t) fullShare ((dats m 0 c).after 3 t)
        ∗ owns (c : Thread nD τ) (ms0_4 t) fullShare ((dats m 0 c).after 4 t))) := by
  unfold bodyAt0
  have b0 : ∀ d, (dats m 0 c).before 0 t d = iblk m c 0 t := before0_0_of m (dats m 0 c) (A_eq m c 0) (after0 m c) t
  have b1 : ∀ d, (dats m 0 c).before 1 t d = iblk m c 1 t := before0_1_of m (dats m 0 c) (A_eq m c 1) (after1 m c) t
  have b2 : ∀ d, (dats m 0 c).before 2 t d = iblk m c 2 t := before0_2_of m (dats m 0 c) (A_eq m c 2) (after2 m c) t
  have b3 : ∀ d, (dats m 0 c).before 3 t d = iblk m c 3 t := before0_3_of m (dats m 0 c) (A_eq m c 3) (after3 m c) t
  simp only [b0, b1, b2, b3]
  rw [show (dats m 0 c).Φ t.succ = (dats m 0 c).Φ t.castSucc from rfl,
    show (dats m 0 c).owesAt () t.succ = (dats m 0 c).owesAt () t.castSucc from rfl,
    after0, after1, after2, after3, after4]
  rw [show (dats m 0 c).Φ t.castSucc = Pipeline.ΦA spec0 c from rfl, PhiA0_eq]
  unfold outAt
  iintro ⟨⟨⟨HS0, HS1⟩, Hg⟩, Ho, ⟨%d0, H0⟩, ⟨%d1, H1⟩, ⟨%d2, H2⟩, ⟨%d3, H3⟩, ⟨%d4, H4⟩⟩
  unfold owns
  icases H4 with ⟨%f4, -, H4⟩
  iapply ((run c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _)
    (iblk m c 0 t) (iblk m c 1 t) (iblk m c 2 t) (iblk m c 3 t) f4).2 Set.univ _)
  unfold owns
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  iexists _; isplitr
  swap; · iexact H4
  ipureintro; exact run_read c _ _ _ _ _ _ _ _ _ _ _ _ _ _ _ _ _ _ _ f4 _

/-- The library's body obligation, at every point. -/
theorem body_obligation (c : Dev nD) : BodyObligation (dats m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (sound_body m c t) rfl .rfl fun _ => .rfl

-- the launch theorem's implicit arguments are found by unifying its conclusion
set_option backward.isDefEq.respectTransparency.types false in
/-- The launch: it terminates with every array of the pipeline at what its data say and every counter at zero. -/
theorem launch : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (launch m ρ))) ((θ_run defs _ _).mono (fun _ h => h.2) (launch m ρ))

/-! ## The output array -/

/-- Distinct grid points write distinct blocks. -/
theorem idx_inj : ∀ t t' : Fin cfg0.N, win0_4.index t = win0_4.index t' → t = t' :=
  (by decide +kernel : ∀ t t' : Fin grid0.N, win0_4.index t = win0_4.index t' → t = t')

/-- Block `t` of the final output array is what point `t` left. -/
theorem block (c : Dev nD) (t : Fin cfg0.N) (hf : (cfg0.win 4).flush t = true) :
    ((cfg0.win 4).blk t).view.read (Elt F) ((dats m 0 c).arrAt 4 cfg0.N) = (cfg0.win 4).cut (grid0.coords t) (outAt m c t) := by
  refine ((dats m 0 c).read_blk_arrAt_eq_flushed 4 (fun t t' _ _ hne => (cfg0.win 4).disjoint_blk fun h => hne (idx_inj t t' h)) cfg0.N t t.isLt hf).trans ?_
  show (cfg0.win 4).cut (grid0.coords t) ((dats m 0 c).after 4 t) = _
  rw [after4]

/-- At exact arithmetic a point leaves `outT` of its input blocks. -/
theorem outAt_eq (m : (ℓ : Loc nD τ sig) → Buf (Elt Ideal) ℓ) (c : Dev nD) (t : Fin cfg0.N) :
    outAt m c t = outT (iblk m c 0 t) (iblk m c 1 t) (iblk m c 2 t) (iblk m c 3 t) := by
  unfold outAt; exact run_out c _ _ _ _ _ _ _ _ _ _ _ _ _ _ _ _ _ _ _ _

end Cert.KernelIdeal.Natten

end
-- ==== Proof.Tiles.lean ====
module

public import proofs.«01_k».proof.Proof.Gen.KernelIdeal.Frame.Runs
public import Idealize.ShloMosaic.Lib.Pointwise
public import Idealize.ShloMosaic.Lib.StableHlo.RunRead
public import Idealize.ShloMosaic.Lib.Tactic

@[expose] public section

set_option maxRecDepth 16384

noncomputable section

namespace Cert.KernelIdeal.Tiles

open Idealize.ShloMosaic Idealize.ShloMosaic.TcCoe Idealize.ShloMosaic.Tactic
open Cert.KernelIdeal Cert.KernelIdeal.Gen

/-! ## The bias tiles the host prepares -/

/-- The masked bias of one grid-row offset, or minus infinity throughout. -/
def half (t : FVec Ideal S16x15x64x64 .f32) : Option (Fin 15) → FVec Ideal S16x64x64 .f32
  | some a => shapeCast _ (extractStridedSlice S16x1x64x64 ![0, a.val, 0, 0] t
      ⟨rfl, fun d => by match d with | ⟨0, _⟩ => exact (by decide : 0 + 16 ≤ 16) | ⟨1, _⟩ => exact (by omega : a.val + 1 ≤ 15) | ⟨2, _⟩ => exact (by decide : 0 + 64 ≤ 64) | ⟨3, _⟩ => exact (by decide : 0 + 64 ≤ 64)⟩) shapeCasts_S16x1x64x64_S16x64x64
  | none => broadcastInDim S16x64x64 ![] bcast_S_S16x64x64 (constant S_ .f32 0xFF800000#32)

/-- The offset of a tile's left half. -/
def left : Fin 16 → Option (Fin 15) := ![some 7, some 9, some 11, some 13, some 6, some 8, some 10, some 12, some 5, some 4, some 3, none, some 10, some 2, some 1, some 0]
/-- The offset of a tile's right half. -/
def right : Fin 16 → Option (Fin 15) := ![some 8, some 10, some 12, some 14, some 7, some 9, some 11, some 13, some 6, some 5, some 4, some 3, none, some 3, some 2, some 1]

/-- A tile: two halves side by side. -/
def tile (t : FVec Ideal S16x15x64x64 .f32) (p : Fin 16) : FVec Ideal S16x1x64x128 .f32 :=
  broadcastInDim S16x1x64x128 ![0, 2, 3] bcast_S16x64x128_S16x1x64x128_0_2_3
    (concatenate S16x64x128 2 [⟨S16x64x64, half t (left p)⟩, ⟨S16x64x64, half t (right p)⟩] concatenates_S16x64x64_S16x64x64_S16x64x128_d2)

/-- The sixteen tiles stacked. -/
def stack (u : Fin 16 → FVec Ideal S16x1x64x128 .f32) : FVec Ideal S16x16x64x128 .f32 :=
  concatenate S16x16x64x128 1 [⟨S16x1x64x128, u 0⟩, ⟨S16x1x64x128, u 1⟩, ⟨S16x1x64x128, u 2⟩, ⟨S16x1x64x128, u 3⟩, ⟨S16x1x64x128, u 4⟩, ⟨S16x1x64x128, u 5⟩, ⟨S16x1x64x128, u 6⟩, ⟨S16x1x64x128, u 7⟩, ⟨S16x1x64x128, u 8⟩, ⟨S16x1x64x128, u 9⟩, ⟨S16x1x64x128, u 10⟩, ⟨S16x1x64x128, u 11⟩, ⟨S16x1x64x128, u 12⟩, ⟨S16x1x64x128, u 13⟩, ⟨S16x1x64x128, u 14⟩, ⟨S16x1x64x128, u 15⟩]
    concatenates_S16x1x64x128_S16x1x64x128_S16x1x64x128_S16x1x64x128_S16x1x64x128_S16x1x64x128_S16x1x64x128_S16x1x64x128_S16x1x64x128_S16x1x64x128_S16x1x64x128_S16x1x64x128_S16x1x64x128_S16x1x64x128_S16x1x64x128_S16x1x64x128_S16x16x64x128_d1

/-! ### The masked bias per offset -/

/-- The grid columns. -/
def cols : IVec S64 32 := iotaInDim S64 32 0
/-- The first key column of each query column. -/
def lo : IVec S64 32 := minsi (broadcastInDim S64 ![] bcast_S_S64 (id (constantI S_ 32 48#32))) (maxsi (broadcastInDim S64 ![] bcast_S_S64 (id (constantI S_ 32 0#32))) (subi cols (broadcastInDim S64 ![] bcast_S_S64 (constantI S_ 32 8#32))))
/-- The key column of every pair of columns. -/
def kcol : IVec S64x64 32 := broadcastInDim S64x64 ![0, 1] bcast_S1x64_S64x64_0_1 (broadcastInDim S1x64 ![1] bcast_S64_S1x64_1 cols)
/-- The query column of every pair of columns. -/
def qcol : IVec S64x64 32 := broadcastInDim S64x64 ![0, 1] bcast_S64x1_S64x64_0_1 (broadcastInDim S64x1 ![0] bcast_S64_S64x1_0 cols)
/-- Which key columns are in the window of a query column. -/
def colOk : IVec S64x64 1 :=
  andi (cmpi .sge kcol (broadcastInDim S64x64 ![0, 1] bcast_S64x1_S64x64_0_1 (broadcastInDim S64x1 ![0] bcast_S64_S64x1_0 lo)))
    (cmpi .slt kcol (broadcastInDim S64x64 ![0, 1] bcast_S64x1_S64x64_0_1 (addi (broadcastInDim S64x1 ![0] bcast_S64_S64x1_0 lo) (broadcastInDim S64x1 ![] bcast_S_S64x1 (constantI S_ 32 16#32)))))
/-- The relative column of every pair of columns. -/
def rel : IVec S64x64 32 := addi (subi kcol qcol) (broadcastInDim S64x64 ![] bcast_S_S64x64 (constantI S_ 32 15#32))
/-- Which relative column each pair of columns in the window has. -/
def hot : IVec S31x64x64 1 :=
  andi (cmpi .eq (broadcastInDim S31x64x64 ![0, 1, 2] bcast_S1x64x64_S31x64x64_0_1_2 (broadcastInDim S1x64x64 ![1, 2] bcast_S64x64_S1x64x64_1_2 rel))
      (broadcastInDim S31x64x64 ![0, 1, 2] bcast_S31x1x1_S31x64x64_0_1_2 (broadcastInDim S31x1x1 ![0] bcast_S31_S31x1x1_0 (iotaInDim S31 32 0))))
    (broadcastInDim S31x64x64 ![0, 1, 2] bcast_S1x64x64_S31x64x64_0_1_2 (broadcastInDim S1x64x64 ![1, 2] bcast_S64x64_S1x64x64_1_2 colOk))
/-- The same as a table of ones and zeros. -/
def hotf : FVec Ideal S31x64x64 .f32 :=
  select hot (broadcastInDim S31x64x64 ![] bcast_S_S31x64x64 (constant S_ .f32 0x3F800000#32)) (broadcastInDim S31x64x64 ![] bcast_S_S31x64x64 (constant S_ .f32 0x00000000#32))
/-- The bias read through the table. -/
def prod (b : FVec Ideal S16x15x31 .f32) : FVec Ideal S16x15x31x64x64 .f32 :=
  mulf (broadcastInDim S16x15x31x64x64 ![0, 1, 2, 3, 4] bcast_S16x15x31x1x1_S16x15x31x64x64_0_1_2_3_4 (broadcastInDim S16x15x31x1x1 ![0, 1, 2] bcast_S16x15x31_S16x15x31x1x1_0_1_2 b))
    (broadcastInDim S16x15x31x64x64 ![0, 1, 2, 3, 4] bcast_S1x1x31x64x64_S16x15x31x64x64_0_1_2_3_4 (broadcastInDim S1x1x31x64x64 ![2, 3, 4] bcast_S31x64x64_S1x1x31x64x64_2_3_4 hotf))
/-- The bias of every grid-row offset and pair of columns, minus infinity off the window. -/
def bias (b : FVec Ideal S16x15x31 .f32) : FVec Ideal S16x15x64x64 .f32 :=
  select (broadcastInDim S16x15x64x64 ![0, 1, 2, 3] bcast_S1x1x64x64_S16x15x64x64_0_1_2_3 (broadcastInDim S1x1x64x64 ![2, 3] bcast_S64x64_S1x1x64x64_2_3 colOk))
    (Host.reduceAdd (prod b) (constant S_ .f32 0x00000000#32) reducesTo_S16x15x31x64x64_S16x15x64x64_d2 h_S_)
    (broadcastInDim S16x15x64x64 ![] bcast_S_S16x15x64x64 (constant S_ .f32 0xFF800000#32))

/-- The tiles the kernel finds. -/
theorem V_tiles (m : (ℓ : Loc nD τ sig) → Buf (Elt Ideal) ℓ) (c : Dev nD) :
    V m c main_v135 = stack (tile (bias (m ((c : Thread nD τ).loc main_arg2)))) := by
  sl_kernel_rfl

end Cert.KernelIdeal.Tiles
-- ==== Proof.TileVal.lean ====
module

public import proofs.«01_k».proof.Proof.Tiles
public import Idealize.ShloMosaic.Lib.IdealHost

@[expose] public section

set_option maxRecDepth 16384

noncomputable section

namespace Cert.KernelIdeal.Tiles

open Idealize.ShloMosaic Idealize.ShloMosaic.TcCoe
open Cert.KernelIdeal Cert.KernelIdeal.Gen
open scoped BigOperators

/-! ## The bias tiles at an index -/

/-- The first key column of a query column. -/
def cs (w : ℕ) : ℕ := min (w - 8) 48
/-- A key column is in the window of a query column. -/
abbrev InCol (w w' : ℕ) : Prop := cs w ≤ w' ∧ w' < cs w + 16

theorem ninf : Ideal.ofBits FTy.f32 0xFF800000#32 = ⊥ := by simp [Ideal.ofBits, Ideal.ieee]

theorem colOk_apply : ∀ w w' : Fin 64, colOk (ix2 w w') = if InCol w w' then 1#1 else 0#1 := by decide +kernel

theorem rel_apply : ∀ w w' : Fin 64, InCol w w' → rel (ix2 w w') = BitVec.ofNat 32 (w'.val + 15 - w.val) := by decide +kernel

theorem ci_lt (w w' : Fin 64) (h : InCol w w') : w'.val + 15 - w.val < 31 := by unfold InCol cs at h; omega

theorem hot_open (k : Fin 31) (w w' : Fin 64) :
    hot (ix3 k w w') = IntOp.andi (IntOp.cmpi .eq (rel (ix2 w w')) (BitVec.ofNat 32 k.val)) (colOk (ix2 w w')) := by
  unfold hot
  generalize rel = R
  generalize colOk = C
  pointwise

theorem hot_apply (k : Fin 31) (w w' : Fin 64) (h : InCol w w') : hot (ix3 k w w') = if k = ⟨_, ci_lt w w' h⟩ then 1#1 else 0#1 := by
  rw [hot_open, colOk_apply, if_pos h, rel_apply w w' h]
  have e : (BitVec.ofNat 32 (w'.val + 15 - w.val) = BitVec.ofNat 32 k.val) ↔ k = ⟨_, ci_lt w w' h⟩ := by
    rw [Fin.ext_iff, ← BitVec.toNat_inj]
    simp only [BitVec.toNat_ofNat]
    have := ci_lt w w' h
    have := k.isLt
    omega
  by_cases hk : k = ⟨_, ci_lt w w' h⟩
  · rw [if_pos hk, e.mpr hk]; simp [IntOp.andi, IntOp.cmpi]
  · rw [if_neg hk]
    have hne : (BitVec.ofNat 32 (w'.val + 15 - w.val) == BitVec.ofNat 32 k.val) = false := beq_eq_false_iff_ne.mpr fun z => hk (e.mp z)
    simp [IntOp.andi, IntOp.cmpi, hne]

theorem hotf_apply (k : Fin 31) (w w' : Fin 64) (h : InCol w w') : hotf (ix3 k w w') = if k = ⟨_, ci_lt w w' h⟩ then (1 : EReal) else 0 := by
  have e := hot_apply k w w' h
  unfold hotf
  generalize hot = H at e ⊢
  pointwise [e]
  split <;> rfl

theorem prod_apply (b : FVec Ideal S16x15x31 .f32) (i : Fin 16) (a : Fin 15) (k : Fin 31) (w w' : Fin 64) :
    (prod b (ix5 i a k w w') : EReal) = b (ix3 i a k) * hotf (ix3 k w w') := by
  unfold prod
  generalize hotf = H
  pointwise

theorem red_apply (P : FVec Ideal S16x15x31x64x64 .f32) (i : Fin 16) (a : Fin 15) (w w' : Fin 64) :
    (Host.reduceAdd P (constant S_ .f32 0x00000000#32) reducesTo_S16x15x31x64x64_S16x15x64x64_d2 h_S_ (ix4 i a w w') : EReal) = ∑ k : Fin 31, P (ix5 i a k w w') := by
  pointwise

theorem bias_open (b : FVec Ideal S16x15x31 .f32) (i : Fin 16) (a : Fin 15) (w w' : Fin 64) :
    (bias b (ix4 i a w w') : EReal) = if InCol w w' then ∑ k : Fin 31, prod b (ix5 i a k w w') else ⊥ := by
  have e := colOk_apply w w'
  have e' := red_apply (prod b) i a w w'
  unfold bias
  generalize colOk = C at e ⊢
  generalize Host.reduceAdd (F := Ideal) (prod b) (constant S_ .f32 0x00000000#32) reducesTo_S16x15x31x64x64_S16x15x64x64_d2 h_S_ = P at e' ⊢
  pointwise [e, e']
  rw [ninf]
  split <;> rfl

theorem bias_apply (b : FVec Ideal S16x15x31 .f32) (i : Fin 16) (a : Fin 15) (w w' : Fin 64) :
    (bias b (ix4 i a w w') : EReal) = if h : InCol w w' then b (ix3 i a ⟨_, ci_lt w w' h⟩) else ⊥ := by
  rw [bias_open]
  by_cases h : InCol w w'
  · rw [if_pos h, dif_pos h]
    rw [Finset.sum_eq_single_of_mem (⟨_, ci_lt w w' h⟩ : Fin 31) (Finset.mem_univ _)]
    · rw [prod_apply, hotf_apply _ _ _ h, if_pos rfl, mul_one]
    · intro k _ hk
      rw [prod_apply, hotf_apply _ _ _ h, if_neg hk, mul_zero]
  · rw [if_neg h, dif_neg h]

/-- One half of a tile at an index. -/
def halfV (b : FVec Ideal S16x15x31 .f32) (i : Fin 16) (o : Option (Fin 15)) (w w' : Fin 64) : EReal :=
  match o with
  | some a => if h : InCol w w' then b (ix3 i a ⟨_, ci_lt w w' h⟩) else ⊥
  | none => ⊥

theorem half_apply (b : FVec Ideal S16x15x31 .f32) (i : Fin 16) (o : Option (Fin 15)) (w w' : Fin 64) :
    (half (bias b) o (ix3 i w w') : EReal) = halfV b i o w w' := by
  match o with
  | none => unfold half halfV; pointwise; exact ninf
  | some a =>
    refine Eq.trans ?_ (bias_apply b i a w w')
    unfold half
    generalize bias b = B
    pointwise

theorem tile_apply (t : FVec Ideal S16x15x64x64 .f32) (i p : Fin 16) (r : Fin 64) (j : Fin 128) :
    tile t p (ix4 i 0 r j) = if h : j.val < 64 then half t (left p) (ix3 i r ⟨j.val, h⟩) else half t (right p) (ix3 i r ⟨j.val - 64, by omega⟩) := by
  unfold tile
  generalize half t (left p) = A
  generalize half t (right p) = B
  pointwise

theorem stack_apply (u : Fin 16 → FVec Ideal S16x1x64x128 .f32) (i p : Fin 16) (r : Fin 64) (j : Fin 128) :
    stack u (ix4 i p r j) = u p (ix4 i 0 r j) := by
  unfold stack
  fin_cases p <;> pointwise

/-- The tiles the kernel finds, at an index. -/
theorem tiles_apply (b : FVec Ideal S16x15x31 .f32) (i p : Fin 16) (r : Fin 64) (j : Fin 128) :
    (stack (tile (bias b)) (ix4 i p r j) : EReal) = if h : j.val < 64 then halfV b i (left p) r ⟨j.val, h⟩ else halfV b i (right p) r ⟨j.val - 64, by omega⟩ := by
  rw [stack_apply, tile_apply]
  split <;> exact half_apply _ _ _ _ _

end Cert.KernelIdeal.Tiles
-- ==== Proof.Windows.lean ====
module

public import proofs.«01_k».proof.Proof.Launch
public import proofs.«01_k».proof.Proof.TileVal

@[expose] public section

set_option maxRecDepth 16384

noncomputable section

namespace Cert.KernelIdeal.Natten

open Idealize.ShloMosaic Idealize.ShloMosaic.TcCoe
open Cert.KernelIdeal Cert.KernelIdeal.Gen

variable (m : (ℓ : Loc nD τ sig) → Buf (Elt Ideal) ℓ) (c : Dev nD)

/-! ## The blocks a grid point fetches and writes -/

/-- The block indices of point `t`. -/
theorem idx (t : Fin cfg0.N) : win0_0.index t = ![0, t.val] ∧ win0_1.index t = ![0, 16 + t.val] ∧ win0_2.index t = ![0, t.val]
    ∧ win0_3.index t = ![t.val, 0, 0, 0] ∧ win0_4.index t = ![0, t.val] :=
  (by decide +kernel : ∀ t : Fin grid0.N, win0_0.index t = ![0, t.val] ∧ win0_1.index t = ![0, 16 + t.val] ∧ win0_2.index t = ![0, t.val]
    ∧ win0_3.index t = ![t.val, 0, 0, 0] ∧ win0_4.index t = ![0, t.val]) t

/-- The queries' block. -/
theorem iblk0 (t : Fin cfg0.N) (n : Fin 16384) (e : Fin 128) (h : t.val * 128 + e.val < 4096) :
    iblk m c 0 t (ix2 n e) = m ((c : Thread nD τ).loc main_arg0) (ix2 n ⟨t.val * 128 + e.val, h⟩) := by
  refine Eq.trans ?_ (congrFun (V_main_arg0 m c) _)
  show V m c main_arg0 (((cfg0.win 0).blk t).view.emb (ix2 n e)) = _
  refine congrArg _ (funext fun a => Fin.ext ?_)
  have hi := (idx t).1
  match a with
  | ⟨0, _⟩ => show win0_0.index t (0 : Fin 2) * 16384 + 1 * n.val = n.val; rw [hi]; simp
  | ⟨1, _⟩ => show win0_0.index t (1 : Fin 2) * 128 + 1 * e.val = t.val * 128 + e.val; rw [hi]; simp

/-- The keys' block. -/
theorem iblk1 (t : Fin cfg0.N) (n : Fin 16384) (e : Fin 128) (h : (16 + t.val) * 128 + e.val < 4096) :
    iblk m c 1 t (ix2 n e) = m ((c : Thread nD τ).loc main_arg0) (ix2 n ⟨(16 + t.val) * 128 + e.val, h⟩) := by
  refine Eq.trans ?_ (congrFun (V_main_arg0 m c) _)
  show V m c main_arg0 (((cfg0.win 1).blk t).view.emb (ix2 n e)) = _
  refine congrArg _ (funext fun a => Fin.ext ?_)
  have hi := (idx t).2.1
  match a with
  | ⟨0, _⟩ => show win0_1.index t (0 : Fin 2) * 16384 + 1 * n.val = n.val; rw [hi]; simp
  | ⟨1, _⟩ => show win0_1.index t (1 : Fin 2) * 128 + 1 * e.val = (16 + t.val) * 128 + e.val; rw [hi]; simp

/-- The values' block. -/
theorem iblk2 (t : Fin cfg0.N) (n : Fin 16384) (e : Fin 128) (h : t.val * 128 + e.val < 2048) :
    iblk m c 2 t (ix2 n e) = m ((c : Thread nD τ).loc main_arg1) (ix2 n ⟨t.val * 128 + e.val, h⟩) := by
  refine Eq.trans ?_ (congrFun (V_main_arg1 m c) _)
  show V m c main_arg1 (((cfg0.win 2).blk t).view.emb (ix2 n e)) = _
  refine congrArg _ (funext fun a => Fin.ext ?_)
  have hi := (idx t).2.2.1
  match a with
  | ⟨0, _⟩ => show win0_2.index t (0 : Fin 2) * 16384 + 1 * n.val = n.val; rw [hi]; simp
  | ⟨1, _⟩ => show win0_2.index t (1 : Fin 2) * 128 + 1 * e.val = t.val * 128 + e.val; rw [hi]; simp

/-- The bias tiles' block. -/
theorem iblk3 (t : Fin cfg0.N) (z : Fin 1) (p : Fin 16) (r : Fin 64) (j : Fin 128) (h : t.val < 16) :
    iblk m c 3 t (ix4 z p r j) = Tiles.stack (Tiles.tile (Tiles.bias (m ((c : Thread nD τ).loc main_arg2)))) (ix4 ⟨t.val, h⟩ p r j) := by
  refine Eq.trans ?_ (congrFun (Tiles.V_tiles m c) _)
  show V m c main_v135 (((cfg0.win 3).blk t).view.emb (ix4 z p r j)) = _
  refine congrArg _ (funext fun a => Fin.ext ?_)
  have hi := (idx t).2.2.2.1
  match a with
  | ⟨0, _⟩ => show win0_3.index t (0 : Fin 4) * 1 + 1 * z.val = t.val; rw [hi]; simp
  | ⟨1, _⟩ => show win0_3.index t (1 : Fin 4) * 16 + 1 * p.val = p.val; rw [hi]; simp
  | ⟨2, _⟩ => show win0_3.index t (2 : Fin 4) * 64 + 1 * r.val = r.val; rw [hi]; simp
  | ⟨3, _⟩ => show win0_3.index t (3 : Fin 4) * 128 + 1 * j.val = j.val; rw [hi]; simp

/-- The output array after the run. -/
theorem out4 (t : Fin cfg0.N) (n : Fin 16384) (d : Fin 128) (h : t.val * 128 + d.val < 2048) :
    (dats m 0 c).arrAt 4 cfg0.N (ix2 n ⟨t.val * 128 + d.val, h⟩) = outT (iblk m c 0 t) (iblk m c 1 t) (iblk m c 2 t) (iblk m c 3 t) (ix2 n d) := by
  have hf : (cfg0.win 4).flush t = true := (by decide +kernel : ∀ t : Fin grid0.N, win0_4.flush t = true) t
  rw [← outAt_eq]
  have hb := congrFun (block m c t hf) (ix2 n d)
  generalize (dats m 0 c).arrAt 4 cfg0.N = A at hb ⊢
  generalize outAt m c t = o at hb ⊢
  have hc : (cfg0.win 4).cut (grid0.coords t) o (ix2 n d) = o (ix2 n d) := rfl
  refine Eq.trans ?_ (hb.trans hc)
  show A _ = A (((cfg0.win 4).blk t).view.emb (ix2 n d))
  refine congrArg _ (funext fun a => Fin.ext ?_)
  have hi := (idx t).2.2.2.2
  match a with
  | ⟨0, _⟩ => show n.val = win0_4.index t (0 : Fin 2) * 16384 + 1 * n.val; rw [hi]; simp
  | ⟨1, _⟩ => show t.val * 128 + d.val = win0_4.index t (1 : Fin 2) * 128 + 1 * d.val; rw [hi]; simp

end Cert.KernelIdeal.Natten

end
-- ==== Proof.Soft.lean ====
module

public import proofs.«01_k».proof.Proof.Strip

@[expose] public section

noncomputable section

namespace Cert.KernelIdeal.Natten

open Idealize.ShloMosaic

/-! ## Weighted means over a row of which all but a window is masked -/

section Window

variable {K : Type} [Fintype K] (e : K → Fin 768) (he : Function.Injective e) (s : Fin 768 → EReal) (σ : K → EReal)
  (hin : ∀ k, s (e k) = σ k) (hout : ∀ c, (∀ k, e k ≠ c) → s c = ⊥)

include hin hout in
/-- The greatest score of the row is the window's. -/
theorem sup_window : Finset.univ.sup s = Finset.univ.sup σ := by
  refine le_antisymm (Finset.sup_le fun c _ => ?_) (Finset.sup_le fun k _ => ?_)
  · by_cases h : ∃ k, e k = c
    · obtain ⟨k, rfl⟩ := h
      rw [hin]; exact Finset.le_sup (f := σ) (Finset.mem_univ k)
    · rw [hout c fun k hk => h ⟨k, hk⟩]; exact bot_le
  · rw [← hin]; exact Finset.le_sup (f := s) (Finset.mem_univ (e k))

include he hin hout in
/-- A weighted sum over the row is the sum over the window. -/
theorem sum_window (f : Fin 768 → EReal) : ∑ c, wt s c * f c = ∑ k, Ideal.exp (σ k - Finset.univ.sup σ) * f (e k) := by
  have hs := sup_window e s σ hin hout
  have hk : ∀ k, wt s (e k) * f (e k) = Ideal.exp (σ k - Finset.univ.sup σ) * f (e k) := fun k => by
    unfold wt; rw [hs, hin]
  rw [← Finset.sum_congr rfl fun k _ => hk k]
  symm
  refine Finset.sum_of_injOn e he.injOn (fun _ _ => Finset.mem_coe.mpr (Finset.mem_univ _)) (fun c _ hc => ?_) fun _ _ => rfl
  have h : ∀ k, e k ≠ c := fun k hk => hc ⟨k, Finset.mem_coe.mpr (Finset.mem_univ k), hk⟩
  unfold wt
  rw [hout c h, exp_bot_sub, zero_mul]

end Window

/-! ## A weighted mean with finite scores, divided first or last -/

/-- A finite sum times a nonnegative real. -/
theorem sum_mul_real {K : Type} (S : Finset K) (f : K → EReal) (a : ℝ) (ha : 0 ≤ a) : (∑ k ∈ S, f k) * (a : EReal) = ∑ k ∈ S, f k * (a : EReal) := by
  classical
  induction S using Finset.induction_on with
  | empty => simp
  | insert k S hk ih =>
    rw [Finset.sum_insert hk, Finset.sum_insert hk, ← ih,
      EReal.right_distrib_of_nonneg_of_ne_top (EReal.coe_nonneg.mpr ha) (EReal.coe_ne_top a)]

/-- A sum of reals. -/
theorem sum_real {K : Type} (S : Finset K) (f : K → ℝ) : ∑ k ∈ S, (f k : EReal) = ((∑ k ∈ S, f k : ℝ) : EReal) := by
  classical
  induction S using Finset.induction_on with
  | empty => simp
  | insert k S hk ih => rw [Finset.sum_insert hk, Finset.sum_insert hk, ih, EReal.coe_add]

/-- With finite scores the sum of the weights is a positive real, so dividing each weight by it or the weighted sum is the same. -/
theorem mean {K : Type} [Fintype K] [Nonempty K] (σ v : K → EReal) (hσ : ∀ k, ∃ x : ℝ, σ k = x) :
    Ideal.div (∑ k, Ideal.exp (σ k - Finset.univ.sup σ) * v k) (∑ k, Ideal.exp (σ k - Finset.univ.sup σ))
      = ∑ k, Ideal.div (Ideal.exp (σ k - Finset.univ.sup σ)) (∑ k, Ideal.exp (σ k - Finset.univ.sup σ)) * v k := by
  choose x hx using hσ
  obtain ⟨k0, -, hk0⟩ := Finset.exists_mem_eq_sup Finset.univ Finset.univ_nonempty σ
  have hp : ∀ k, Ideal.exp (σ k - Finset.univ.sup σ) = ((Real.exp (x k - x k0) : ℝ) : EReal) := fun k => by
    rw [hk0, hx, hx, ← EReal.coe_sub]; rfl
  simp only [hp, sum_real]
  have hL : 0 < ∑ k, Real.exp (x k - x k0) := Finset.sum_pos (fun _ _ => Real.exp_pos _) Finset.univ_nonempty
  generalize ∑ k, Real.exp (x k - x k0) = L at hL
  have hd : ∀ z : EReal, Ideal.div z (L : EReal) = z * ((L⁻¹ : ℝ) : EReal) := fun z => by
    unfold Ideal.div
    rw [if_neg (by simpa using hL.ne')]
    rfl
  simp only [hd]
  rw [sum_mul_real _ _ _ (inv_nonneg.mpr hL.le)]
  exact Finset.sum_congr rfl fun k _ => by rw [mul_right_comm]

end Cert.KernelIdeal.Natten

end
-- ==== Proof.Ref.lean ====
module

public import proofs.«01_k».proof.Proof.Gen.ReferenceIdeal.Run
public import Idealize.ShloMosaic.Lib.Pointwise
public import Idealize.ShloMosaic.Lib.IdealHost
public import Idealize.ShloMosaic.Lib.MatmulPlain
public import Idealize.ShloMosaic.Lib.Tactic

@[expose] public section

set_option maxRecDepth 16384

noncomputable section

namespace Cert.ReferenceIdeal.Natten

open Idealize.ShloMosaic Idealize.ShloMosaic.TcCoe
open Cert.ReferenceIdeal Cert.ReferenceIdeal.Gen Cert.ReferenceIdeal.Value
open scoped BigOperators

/-! ## The reference's window indices -/

/-- The grid rows of every row's window. -/
def rowWin : IVec S256x8 32 := addi (broadcastInDim S256x8 ![0, 1] bcast_S256x1_S256x8_0_1 (broadcastInDim S256x1 ![0] bcast_S256_S256x1_0 (minsi (broadcastInDim S256 ![] bcast_S_S256 (id (constantI S_ 32 248#32))) (maxsi (broadcastInDim S256 ![] bcast_S_S256 (id (constantI S_ 32 0#32))) (subi (iotaInDim S256 32 0) (broadcastInDim S256 ![] bcast_S_S256 (constantI S_ 32 4#32))))))) (broadcastInDim S256x8 ![0, 1] bcast_S1x8_S256x8_0_1 (broadcastInDim S1x8 ![1] bcast_S8_S1x8_1 (iotaInDim S8 32 0)))
/-- The grid columns of every column's window. -/
def colWin : IVec S64x16 32 := addi (broadcastInDim S64x16 ![0, 1] bcast_S64x1_S64x16_0_1 (broadcastInDim S64x1 ![0] bcast_S64_S64x1_0 (minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32))))))) (broadcastInDim S64x16 ![0, 1] bcast_S1x16_S64x16_0_1 (broadcastInDim S1x16 ![1] bcast_S16_S1x16_1 (iotaInDim S16 32 0)))
/-- The same rows as start indices. -/
def rowIdx : IVec S256x8x1 32 := broadcastInDim S256x8x1 ![0, 1] bcast_S256x8_S256x8x1_0_1 rowWin
/-- The same columns as start indices. -/
def colIdx : IVec S64x16x1 32 := broadcastInDim S64x16x1 ![0, 1] bcast_S64x16_S64x16x1_0_1 colWin
/-- The rows' relative offsets into the bias table. -/
def rowOff : IVec S256x8x1 32 := broadcastInDim S256x8x1 ![0, 1] bcast_S256x8_S256x8x1_0_1 (addi (subi rowWin (broadcastInDim S256x8 ![0, 1] bcast_S256x1_S256x8_0_1 (broadcastInDim S256x1 ![0] bcast_S256_S256x1_0 (iotaInDim S256 32 0)))) (broadcastInDim S256x8 ![] bcast_S_S256x8 (constantI S_ 32 7#32)))
/-- The columns' relative offsets into the bias table. -/
def colOff : IVec S64x16x1 32 := broadcastInDim S64x16x1 ![0, 1] bcast_S64x16_S64x16x1_0_1 (addi (subi colWin (broadcastInDim S64x16 ![0, 1] bcast_S64x1_S64x16_0_1 (broadcastInDim S64x1 ![0] bcast_S64_S64x1_0 (iotaInDim S64 32 0)))) (broadcastInDim S64x16 ![] bcast_S_S64x16 (constantI S_ 32 15#32)))

/-- The first row of a row's window. -/
def r0 (r : ℕ) : ℕ := min (r - 4) 248
/-- The first column of a column's window. -/
def c0 (w : ℕ) : ℕ := min (w - 8) 48

theorem rowIdx_apply : ∀ (r : Fin 256) (i : Fin 8), min (rowIdx (ix3 r i 0)).toInt.toNat 255 = r0 r + i := by decide +kernel
theorem colIdx_apply : ∀ (w : Fin 64) (j : Fin 16), min (colIdx (ix3 w j 0)).toInt.toNat 63 = c0 w + j := by decide +kernel
theorem rowOff_apply : ∀ (r : Fin 256) (i : Fin 8), min (rowOff (ix3 r i 0)).toInt.toNat 14 = r0 r + i + 7 - r := by decide +kernel
theorem colOff_apply : ∀ (w : Fin 64) (j : Fin 16), min (colOff (ix3 w j 0)).toInt.toNat 30 = c0 w + j + 15 - w := by decide +kernel

theorem r0_lt (r : Fin 256) (i : Fin 8) : r0 r + i < 256 := by unfold r0; omega
theorem c0_lt (w : Fin 64) (j : Fin 16) : c0 w + j < 64 := by unfold c0; omega
theorem ro_lt (r : Fin 256) (i : Fin 8) : r0 r + i + 7 - r < 15 := by unfold r0; omega
theorem co_lt (w : Fin 64) (j : Fin 16) : c0 w + j + 15 - w < 31 := by unfold c0; omega

/-! ## The four gathers at an index -/

section Gathers
variable {α : Type}

theorem gather_rows (x : S256x64x16x128.Idx → α) (r : Fin 256) (i : Fin 8) (w : Fin 64) (h : Fin 16) (d : Fin 128) :
    Host.gather gather_S256x64x16x128_S256x8x1_S256x8x64x16x128_234_0_n_n_0_2_16416128 x rowIdx (ix5 r i w h d) = x (ix4 ⟨r0 r + i, r0_lt r i⟩ w h d) := by
  refine congrArg x ?_
  have e : GatherDims.siIdx gather_S256x64x16x128_S256x8x1_S256x8x64x16x128_234_0_n_n_0_2_16416128 (ix5 r i w h d) ⟨0, by decide⟩ = ix3 r i 0 := by
    funext b; apply Fin.ext
    match b with
    | ⟨0, _⟩ => rfl
    | ⟨1, _⟩ => rfl
    | ⟨2, _⟩ => rfl
  funext a; apply Fin.ext
  match a with
  | ⟨0, _⟩ => exact (congrArg (fun z => min (rowIdx z).toInt.toNat 255) e).trans (rowIdx_apply r i)
  | ⟨1, _⟩ => exact Nat.zero_add _
  | ⟨2, _⟩ => exact Nat.zero_add _
  | ⟨3, _⟩ => exact Nat.zero_add _

theorem gather_cols (x : S256x8x64x16x128.Idx → α) (r : Fin 256) (i : Fin 8) (w : Fin 64) (j : Fin 16) (h : Fin 16) (d : Fin 128) :
    Host.gather gather_S256x8x64x16x128_S64x16x1_S256x8x64x16x16x128_0145_2_n_n_2_2_2568116128 x colIdx (ix6 r i w j h d) = x (ix5 r i ⟨c0 w + j, c0_lt w j⟩ h d) := by
  refine congrArg x ?_
  have e : GatherDims.siIdx gather_S256x8x64x16x128_S64x16x1_S256x8x64x16x16x128_0145_2_n_n_2_2_2568116128 (ix6 r i w j h d) ⟨0, by decide⟩ = ix3 w j 0 := by
    funext b; apply Fin.ext
    match b with
    | ⟨0, _⟩ => rfl
    | ⟨1, _⟩ => rfl
    | ⟨2, _⟩ => rfl
  funext a; apply Fin.ext
  match a with
  | ⟨0, _⟩ => exact Nat.zero_add _
  | ⟨1, _⟩ => exact Nat.zero_add _
  | ⟨2, _⟩ => exact (congrArg (fun z => min (colIdx z).toInt.toNat 63) e).trans (colIdx_apply w j)
  | ⟨3, _⟩ => exact Nat.zero_add _
  | ⟨4, _⟩ => exact Nat.zero_add _

theorem gather_bias_rows (x : S16x15x31.Idx → α) (h : Fin 16) (r : Fin 256) (i : Fin 8) (k : Fin 31) :
    Host.gather gather_S16x15x31_S256x8x1_S16x256x8x31_03_1_n_n_1_2_16131 x rowOff (ix4 h r i k) = x (ix3 h ⟨r0 r + i + 7 - r, ro_lt r i⟩ k) := by
  refine congrArg x ?_
  have e : GatherDims.siIdx gather_S16x15x31_S256x8x1_S16x256x8x31_03_1_n_n_1_2_16131 (ix4 h r i k) ⟨0, by decide⟩ = ix3 r i 0 := by
    funext b; apply Fin.ext
    match b with
    | ⟨0, _⟩ => rfl
    | ⟨1, _⟩ => rfl
    | ⟨2, _⟩ => rfl
  funext a; apply Fin.ext
  match a with
  | ⟨0, _⟩ => exact Nat.zero_add _
  | ⟨1, _⟩ => exact (congrArg (fun z => min (rowOff z).toInt.toNat 14) e).trans (rowOff_apply r i)
  | ⟨2, _⟩ => exact Nat.zero_add _

theorem gather_bias_cols (x : S16x256x8x31.Idx → α) (h : Fin 16) (r : Fin 256) (i : Fin 8) (w : Fin 64) (j : Fin 16) :
    Host.gather gather_S16x256x8x31_S64x16x1_S16x256x8x64x16_012_3_n_n_3_2_1625681 x colOff (ix5 h r i w j) = x (ix4 h r i ⟨c0 w + j + 15 - w, co_lt w j⟩) := by
  refine congrArg x ?_
  have e : GatherDims.siIdx gather_S16x256x8x31_S64x16x1_S16x256x8x64x16_012_3_n_n_3_2_1625681 (ix5 h r i w j) ⟨0, by decide⟩ = ix3 w j 0 := by
    funext b; apply Fin.ext
    match b with
    | ⟨0, _⟩ => rfl
    | ⟨1, _⟩ => rfl
    | ⟨2, _⟩ => rfl
  funext a; apply Fin.ext
  match a with
  | ⟨0, _⟩ => exact Nat.zero_add _
  | ⟨1, _⟩ => exact Nat.zero_add _
  | ⟨2, _⟩ => exact Nat.zero_add _
  | ⟨3, _⟩ => exact (congrArg (fun z => min (colOff z).toInt.toNat 30) e).trans (colOff_apply w j)

end Gathers

/-! ## The scores, the softmax and the result -/

section Value
variable (x : S16384x4096.Idx → EReal) (v : S16384x2048.Idx → EReal) (b : S16x15x31.Idx → EReal)

/-- A grid's windows. -/
def win (t : FVec Ideal S256x64x16x128 .f32) : FVec Ideal S256x8x64x16x16x128 .f32 :=
  Host.gather gather_S256x8x64x16x128_S64x16x1_S256x8x64x16x16x128_0145_2_n_n_2_2_2568116128 (Host.gather gather_S256x64x16x128_S256x8x1_S256x8x64x16x128_234_0_n_n_0_2_16416128 t rowIdx) colIdx

/-- The queries as a grid. -/
def qgrid : FVec Ideal S256x64x16x128 .f32 :=
  shapeCast _ (extf .f32 (extractStridedSlice S16384x2048 ![0, 0] (x : FVec Ideal S16384x4096 .bf16) slices_S16384x4096_S16384x2048_0_0) bitsLt_bf16_f32) shapeCasts_S16384x2048_S256x64x16x128
/-- The keys as a grid. -/
def kgrid : FVec Ideal S256x64x16x128 .f32 :=
  shapeCast _ (extf .f32 (extractStridedSlice S16384x2048 ![0, 2048] (x : FVec Ideal S16384x4096 .bf16) slices_S16384x4096_S16384x2048_0_2048) bitsLt_bf16_f32) shapeCasts_S16384x2048_S256x64x16x128
/-- The values as a grid. -/
def vgrid : FVec Ideal S256x64x16x128 .f32 :=
  shapeCast _ (extf .f32 (v : FVec Ideal S16384x2048 .bf16) bitsLt_bf16_f32) shapeCasts_S16384x2048_S256x64x16x128

/-- The biased scores. -/
def scores : FVec Ideal S256x16x64x8x16 .f32 :=
  addf (Host.dotGeneral dot_S256x64x16x128_S256x8x64x16x16x128_S256x16x64x8x16_3_5_n_13_021_042 none (qgrid x) (win (kgrid x)))
    (transpose S256x16x64x8x16 [1, 0, 3, 2, 4] (Host.gather gather_S16x256x8x31_S64x16x1_S16x256x8x64x16_012_3_n_n_3_2_1625681 (Host.gather gather_S16x15x31_S256x8x1_S16x256x8x31_03_1_n_n_1_2_16131 (b : FVec Ideal S16x15x31 .f32) rowOff) colOff) transposes_S16x256x8x64x16_S256x16x64x8x16_1_0_3_2_4)

/-- The exponentials of the scores less their largest. -/
def expo (s : FVec Ideal S256x16x64x8x16 .f32) : FVec Ideal S256x16x64x8x16 .f32 :=
  Host.exp (subf s (broadcastInDim S256x16x64x8x16 ![0, 1, 2, 3, 4] bcast_S256x16x64x1x1_S256x16x64x8x16_0_1_2_3_4 (broadcastInDim S256x16x64x1x1 ![0, 1, 2] bcast_S256x16x64_S256x16x64x1x1_0_1_2 (maximumf (broadcastInDim S256x16x64 ![] bcast_S_S256x16x64 (constant S_ .f32 0xFF800000#32)) (Host.reduce FloatOps.maximumf s (constant S_ .f32 0xFF800000#32) reducesTo_S256x16x64x8x16_S256x16x64_d3_4 h_S_)))))

/-- The softmax of the exponentials. -/
def soft (e : FVec Ideal S256x16x64x8x16 .f32) : FVec Ideal S256x16x64x8x16 .f32 :=
  Host.divf e (broadcastInDim S256x16x64x8x16 ![0, 1, 2, 3, 4] bcast_S256x16x64x1x1_S256x16x64x8x16_0_1_2_3_4 (broadcastInDim S256x16x64x1x1 ![0, 1, 2] bcast_S256x16x64_S256x16x64x1x1_0_1_2 (Host.reduceAdd e (constant S_ .f32 0x00000000#32) reducesTo_S256x16x64x8x16_S256x16x64_d3_4 h_S_)))

/-- The result. -/
def resT : FVec Ideal S16384x2048 .bf16 :=
  truncf .bf16 (shapeCast _ (Host.dotGeneral dot_S256x16x64x8x16_S256x8x64x16x16x128_S256x64x16x128_34_13_n_5_021_024 none (soft (expo (scores x b))) (win (vgrid v))) shapeCasts_S256x64x16x128_S16384x2048) bitsLt_bf16_f32

theorem res_eq (m : (ℓ : Loc nD τ sig) → Buf (Elt Ideal) ℓ) (c : Dev nD) :
    res_main_v60 m c = resT (m ((c.tc : Thread nD τ).loc main_arg0)) (m ((c.tc : Thread nD τ).loc main_arg1)) (m ((c.tc : Thread nD τ).loc main_arg2)) := by
  unfold res_main_v60; rfl

end Value

end Cert.ReferenceIdeal.Natten
-- ==== Proof.RefDot.lean ====
module

public import proofs.«01_k».proof.Proof.Ref

@[expose] public section

set_option maxRecDepth 16384

noncomputable section

namespace Cert.ReferenceIdeal.Natten

open Idealize.ShloMosaic Idealize.ShloMosaic.TcCoe
open Idealize.ShloMosaic.ValueIdx (contrEquiv1 contrEquiv1_symm_val contrEquiv2 contrEquiv2_symm_val0 contrEquiv2_symm_val1 hostReduceAdd_apply)
open Cert.ReferenceIdeal Cert.ReferenceIdeal.Gen Cert.ReferenceIdeal.Value
open scoped BigOperators

/-! ## The reference's result at an index -/

theorem win_apply (t : FVec Ideal S256x64x16x128 .f32) (r : Fin 256) (i : Fin 8) (w : Fin 64) (j : Fin 16) (h : Fin 16) (d : Fin 128) :
    win t (ix6 r i w j h d) = t (ix4 ⟨r0 r + i, r0_lt r i⟩ ⟨c0 w + j, c0_lt w j⟩ h d) :=
  (gather_cols _ r i w j h d).trans (gather_rows t r i _ h d)

/-- The scores' product at an index. -/
theorem dot1_apply (L : FVec Ideal S256x64x16x128 .f32) (R : FVec Ideal S256x8x64x16x16x128 .f32) (r : Fin 256) (h : Fin 16) (w : Fin 64) (i : Fin 8) (j : Fin 16) :
    Host.dotGeneral dot_S256x64x16x128_S256x8x64x16x16x128_S256x16x64x8x16_3_5_n_13_021_042 none L R (ix5 r h w i j)
      = ∑ d : Fin 128, L (ix4 r w h d) * R (ix6 r i w j h d) := by
  simp only [Host.dotGeneral]
  have hr : (dot_S256x64x16x128_S256x8x64x16x16x128_S256x16x64x8x16_3_5_n_13_021_042).contr.rank = 1 := rfl
  have hs : (dot_S256x64x16x128_S256x8x64x16x16x128_S256x16x64x8x16_3_5_n_13_021_042).contr.size ⟨0, by rw [hr]; omega⟩ = 128 := rfl
  rw [Ideal.dotGeneral_apply, ← Equiv.sum_comp (contrEquiv1 _ 128 hr hs).symm]
  refine Finset.sum_congr rfl fun k _ => ?_
  have hk := contrEquiv1_symm_val _ 128 hr hs k
  refine congrArg₂ (· * ·) (congrArg L ?_) (congrArg R ?_)
  · funext a; apply Fin.ext
    match a with
    | ⟨0, _⟩ => rfl
    | ⟨1, _⟩ => rfl
    | ⟨2, _⟩ => rfl
    | ⟨3, _⟩ => exact hk
  · funext a; apply Fin.ext
    match a with
    | ⟨0, _⟩ => rfl
    | ⟨1, _⟩ => rfl
    | ⟨2, _⟩ => rfl
    | ⟨3, _⟩ => rfl
    | ⟨4, _⟩ => rfl
    | ⟨5, _⟩ => exact hk

/-- The weighted sum's product at an index. -/
theorem dot2_apply (L : FVec Ideal S256x16x64x8x16 .f32) (R : FVec Ideal S256x8x64x16x16x128 .f32) (r : Fin 256) (w : Fin 64) (h : Fin 16) (d : Fin 128) :
    Host.dotGeneral dot_S256x16x64x8x16_S256x8x64x16x16x128_S256x64x16x128_34_13_n_5_021_024 none L R (ix4 r w h d)
      = ∑ i : Fin 8, ∑ j : Fin 16, L (ix5 r h w i j) * R (ix6 r i w j h d) := by
  simp only [Host.dotGeneral]
  have hr : (dot_S256x16x64x8x16_S256x8x64x16x16x128_S256x64x16x128_34_13_n_5_021_024).contr.rank = 2 := rfl
  have e0 : (dot_S256x16x64x8x16_S256x8x64x16x16x128_S256x64x16x128_34_13_n_5_021_024).contr.size ⟨0, by rw [hr]; omega⟩ = 8 := rfl
  have e1 : (dot_S256x16x64x8x16_S256x8x64x16x16x128_S256x64x16x128_34_13_n_5_021_024).contr.size ⟨1, by rw [hr]; omega⟩ = 16 := rfl
  rw [Ideal.dotGeneral_apply, ← Equiv.sum_comp (contrEquiv2 _ 8 16 hr e0 e1).symm, Fintype.sum_prod_type]
  refine Finset.sum_congr rfl fun i _ => Finset.sum_congr rfl fun j _ => ?_
  have h0 := contrEquiv2_symm_val0 _ 8 16 hr e0 e1 (i, j)
  have h1 := contrEquiv2_symm_val1 _ 8 16 hr e0 e1 (i, j)
  refine congrArg₂ (· * ·) (congrArg L ?_) (congrArg R ?_)
  · funext a; apply Fin.ext
    match a with
    | ⟨0, _⟩ => rfl
    | ⟨1, _⟩ => rfl
    | ⟨2, _⟩ => rfl
    | ⟨3, _⟩ => exact h0
    | ⟨4, _⟩ => exact h1
  · funext a; apply Fin.ext
    match a with
    | ⟨0, _⟩ => rfl
    | ⟨1, _⟩ => exact h0
    | ⟨2, _⟩ => rfl
    | ⟨3, _⟩ => exact h1
    | ⟨4, _⟩ => rfl
    | ⟨5, _⟩ => rfl

/-- The scores that reduce to an index: one per window position. -/
theorem fiber (y : S256x16x64.Idx) (z : S256x16x64x8x16.Idx) :
    reducesTo_S256x16x64x8x16_S256x16x64_d3_4.drop z = y ↔ ∃ k : Fin 8 × Fin 16, (ix5 (y 0) (y 1) (y 2) k.1 k.2 : S256x16x64x8x16.Idx) = z := by
  constructor
  · rintro rfl
    refine ⟨(z 3, z 4), ?_⟩
    funext a
    match a with
    | ⟨0, _⟩ => rfl
    | ⟨1, _⟩ => rfl
    | ⟨2, _⟩ => rfl
    | ⟨3, _⟩ => rfl
    | ⟨4, _⟩ => rfl
  · rintro ⟨k, rfl⟩
    funext a
    match a with
    | ⟨0, _⟩ => rfl
    | ⟨1, _⟩ => rfl
    | ⟨2, _⟩ => rfl

theorem inj (y : S256x16x64.Idx) : Function.Injective fun k : Fin 8 × Fin 16 => (ix5 (y 0) (y 1) (y 2) k.1 k.2 : S256x16x64x8x16.Idx) :=
  fun _ _ e => Prod.ext (congrFun e 3) (congrFun e 4)

theorem sum34 (e : FVec Ideal S256x16x64x8x16 .f32) (y : S256x16x64.Idx) :
    Host.reduceAdd e (constant S_ .f32 0x00000000#32) reducesTo_S256x16x64x8x16_S256x16x64_d3_4 h_S_ y
      = ∑ k : Fin 8 × Fin 16, e (ix5 (y 0) (y 1) (y 2) k.1 k.2) := by
  rw [hostReduceAdd_apply]
  show (constant (F := Ideal) S_ .f32 0x00000000#32 _ : EReal) + _ = _
  rw [show (constant (F := Ideal) S_ .f32 0x00000000#32 (Shape.Idx.first h_S_) : EReal) = 0 from by pointwise, zero_add]
  exact Finset.sum_filter_eq_sum_of_fiber _ _ (inj y) (fiber y) _

theorem ofBits_bot : Ideal.ofBits FTy.f32 0xFF800000#32 = ⊥ := by simp [Ideal.ofBits, Ideal.ieee]

theorem max34 (s : FVec Ideal S256x16x64x8x16 .f32) (y : S256x16x64.Idx) :
    Host.reduce FloatOps.maximumf s (constant S_ .f32 0xFF800000#32) reducesTo_S256x16x64x8x16_S256x16x64_d3_4 h_S_ y
      = Finset.univ.sup fun k : Fin 8 × Fin 16 => (s (ix5 (y 0) (y 1) (y 2) k.1 k.2) : EReal) := by
  rw [Ideal.maximumf_eq_max, Host.reduce_eq_fold]
  rw [show (constant (F := Ideal) S_ .f32 0xFF800000#32 (Shape.Idx.first h_S_) : EReal) = ⊥ from ofBits_bot]
  exact Finset.fold_filter_eq_fold_of_fiber _ _ _ (inj y) (fiber y) _ _

end Cert.ReferenceIdeal.Natten
-- ==== Proof.RefVal.lean ====
module

public import proofs.«01_k».proof.Proof.RefDot

@[expose] public section

set_option maxRecDepth 16384

noncomputable section

namespace Cert.ReferenceIdeal.Natten

open Idealize.ShloMosaic Idealize.ShloMosaic.TcCoe
open Idealize.ShloMosaic.ValueIdx (contrEquiv1 contrEquiv1_symm_val contrEquiv2 contrEquiv2_symm_val0 contrEquiv2_symm_val1 hostReduceAdd_apply)
open Cert.ReferenceIdeal Cert.ReferenceIdeal.Gen Cert.ReferenceIdeal.Value
open scoped BigOperators

/-! ## The reference's result at an index -/

section Value
variable (x : S16384x4096.Idx → EReal) (v : S16384x2048.Idx → EReal) (b : S16x15x31.Idx → EReal)

/-- The token at a grid position. -/
def tok (r : Fin 256) (w : Fin 64) : Fin 16384 := ⟨r.val * 64 + w.val, by omega⟩
/-- The column of a head's feature. -/
def col (h : Fin 16) (d : Fin 128) : Fin 2048 := ⟨h.val * 128 + d.val, by omega⟩

theorem qgrid_apply (r : Fin 256) (w : Fin 64) (h : Fin 16) (d : Fin 128) :
    qgrid x (ix4 r w h d) = x (ix2 (tok r w) ⟨(col h d).val, by omega⟩) := by
  pointwise [qgrid, tok, col]
theorem kgrid_apply (r : Fin 256) (w : Fin 64) (h : Fin 16) (d : Fin 128) :
    kgrid x (ix4 r w h d) = x (ix2 (tok r w) ⟨2048 + (col h d).val, by omega⟩) := by
  pointwise [kgrid, tok, col]
theorem vgrid_apply (r : Fin 256) (w : Fin 64) (h : Fin 16) (d : Fin 128) :
    vgrid v (ix4 r w h d) = v (ix2 (tok r w) (col h d)) := by
  pointwise [vgrid, tok, col]

/-- The window position `(i, j)` of a grid position. -/
def nb (r : Fin 256) (w : Fin 64) (i : Fin 8) (j : Fin 16) : Fin 16384 := tok ⟨r0 r + i, r0_lt r i⟩ ⟨c0 w + j, c0_lt w j⟩

/-- The biased score of a query with its window position `(i, j)`. -/
def score (r : Fin 256) (w : Fin 64) (h : Fin 16) (k : Fin 8 × Fin 16) : EReal :=
  (∑ d : Fin 128, x (ix2 (tok r w) ⟨(col h d).val, by omega⟩) * x (ix2 (nb r w k.1 k.2) ⟨2048 + (col h d).val, by omega⟩))
    + b (ix3 h ⟨r0 r + k.1 + 7 - r, ro_lt r k.1⟩ ⟨c0 w + k.2 + 15 - w, co_lt w k.2⟩)

theorem transpose_bias (G : FVec Ideal S16x256x8x64x16 .f32) (r : Fin 256) (w : Fin 64) (h : Fin 16) (i : Fin 8) (j : Fin 16) :
    transpose S256x16x64x8x16 [1, 0, 3, 2, 4] G transposes_S16x256x8x64x16_S256x16x64x8x16_1_0_3_2_4 (ix5 r h w i j) = G (ix5 h r i w j) := by
  pointwise

theorem scores_apply (r : Fin 256) (w : Fin 64) (h : Fin 16) (i : Fin 8) (j : Fin 16) :
    scores x b (ix5 r h w i j) = score x b r w h (i, j) := by
  unfold scores score
  refine congrArg₂ (· + ·) ?_ ?_
  · rw [dot1_apply]
    refine Finset.sum_congr rfl fun d _ => ?_
    rw [win_apply, qgrid_apply, kgrid_apply, nb]
  · exact (transpose_bias _ r w h i j).trans ((gather_bias_cols _ h r i w j).trans (gather_bias_rows b h r i _))

/-- The softmax's numerator, for any largest scores `M`. -/
theorem expo_gen (s : FVec Ideal S256x16x64x8x16 .f32) (M : FVec Ideal S256x16x64 .f32) (r : Fin 256) (w : Fin 64) (h : Fin 16) (i : Fin 8) (j : Fin 16) :
    Host.exp (subf s (broadcastInDim S256x16x64x8x16 ![0, 1, 2, 3, 4] bcast_S256x16x64x1x1_S256x16x64x8x16_0_1_2_3_4 (broadcastInDim S256x16x64x1x1 ![0, 1, 2] bcast_S256x16x64_S256x16x64x1x1_0_1_2 (maximumf (broadcastInDim S256x16x64 ![] bcast_S_S256x16x64 (constant S_ .f32 0xFF800000#32)) M)))) (ix5 r h w i j)
      = Ideal.exp (s (ix5 r h w i j) - M (ix3 r h w)) := by
  pointwise [ofBits_bot]
  rw [max_eq_right bot_le]

/-- The softmax, for any sums `M`. -/
theorem soft_gen (e : FVec Ideal S256x16x64x8x16 .f32) (M : FVec Ideal S256x16x64 .f32) (r : Fin 256) (w : Fin 64) (h : Fin 16) (i : Fin 8) (j : Fin 16) :
    Host.divf e (broadcastInDim S256x16x64x8x16 ![0, 1, 2, 3, 4] bcast_S256x16x64x1x1_S256x16x64x8x16_0_1_2_3_4 (broadcastInDim S256x16x64x1x1 ![0, 1, 2] bcast_S256x16x64_S256x16x64x1x1_0_1_2 M)) (ix5 r h w i j)
      = Ideal.div (e (ix5 r h w i j)) (M (ix3 r h w)) := by
  pointwise

/-- The grid read back as tokens. -/
theorem flat_gen (M : FVec Ideal S256x64x16x128 .f32) (r : Fin 256) (w : Fin 64) (h : Fin 16) (d : Fin 128) :
    (truncf .bf16 (shapeCast _ M shapeCasts_S256x64x16x128_S16384x2048) bitsLt_bf16_f32 : FVec Ideal S16384x2048 .bf16) (ix2 (tok r w) (col h d)) = M (ix4 r w h d) := by
  pointwise [tok, col]

/-- The weight of a window position. -/
def ew (r : Fin 256) (w : Fin 64) (h : Fin 16) (k : Fin 8 × Fin 16) : EReal :=
  Ideal.exp (score x b r w h k - Finset.univ.sup (score x b r w h))

theorem expo_apply (r : Fin 256) (w : Fin 64) (h : Fin 16) (i : Fin 8) (j : Fin 16) :
    expo (scores x b) (ix5 r h w i j) = ew x b r w h (i, j) := by
  have hs : (fun k : Fin 8 × Fin 16 => (scores x b (ix5 r h w k.1 k.2) : EReal)) = score x b r w h := funext fun k => scores_apply x b r w h k.1 k.2
  refine (expo_gen (scores x b) _ r w h i j).trans ?_
  unfold ew
  rw [scores_apply]
  exact congrArg (fun z => Ideal.exp (score x b r w h (i, j) - z)) ((max34 (scores x b) (ix3 r h w)).trans (congrArg Finset.univ.sup hs))

theorem soft_apply (r : Fin 256) (w : Fin 64) (h : Fin 16) (i : Fin 8) (j : Fin 16) :
    soft (expo (scores x b)) (ix5 r h w i j) = Ideal.div (ew x b r w h (i, j)) (∑ k, ew x b r w h k) := by
  have hs : (fun k : Fin 8 × Fin 16 => (expo (scores x b) (ix5 r h w k.1 k.2) : EReal)) = ew x b r w h := funext fun k => expo_apply x b r w h k.1 k.2
  refine (soft_gen (expo (scores x b)) _ r w h i j).trans ?_
  rw [expo_apply, ← hs]
  exact congrArg (Ideal.div _) (sum34 (expo (scores x b)) (ix3 r h w))

/-- The reference's result at a grid position, head and feature. -/
theorem resT_apply (r : Fin 256) (w : Fin 64) (h : Fin 16) (d : Fin 128) :
    resT x v b (ix2 (tok r w) (col h d))
      = ∑ k : Fin 8 × Fin 16, Ideal.div (ew x b r w h k) (∑ k, ew x b r w h k) * v (ix2 (nb r w k.1 k.2) (col h d)) := by
  rw [Fintype.sum_prod_type]
  refine (flat_gen _ r w h d).trans ((dot2_apply (soft (expo (scores x b))) (win (vgrid v)) r w h d).trans (Finset.sum_congr rfl fun i _ => Finset.sum_congr rfl fun j _ => ?_))
  rw [soft_apply, win_apply, vgrid_apply, nb]

end Value

end Cert.ReferenceIdeal.Natten
-- ==== Proof.Equal.lean ====
module

public import proofs.«01_k».proof.Proof.Windows
public import proofs.«01_k».proof.Proof.Soft
public import proofs.«01_k».proof.Proof.RefVal

@[expose] public section

set_option maxRecDepth 16384

noncomputable section

namespace Cert.KernelIdeal.Natten

open Idealize.ShloMosaic Idealize.ShloMosaic.TcCoe
open Cert.KernelIdeal Cert.KernelIdeal.Gen
open Cert.ReferenceIdeal.Natten (r0 c0 r0_lt c0_lt ro_lt co_lt tok col nb score ew resT resT_apply)

/-! ## The masked row is the reference's window -/

/-- The bias offset, if any, that the block of row `r` adds in the grid row `g` of its keys. -/
def off (r : Fin 256) (g : Fin 12) : Option (Fin 15) :=
  (tab (kind (r.val / 4)) ⟨r.val % 4, by omega⟩ ⟨g.val / 2, by omega⟩).bind fun p => if g.val % 2 = 0 then Tiles.left p else Tiles.right p

/-- A key row's offset is its distance from the query's row, within the query's window. -/
theorem off_val : ∀ (r : Fin 256) (g : Fin 12), (off r g).map Fin.val
    = if r0 r.val ≤ 4 * kb (r.val / 4) + g.val ∧ 4 * kb (r.val / 4) + g.val < r0 r.val + 8 then some (4 * kb (r.val / 4) + g.val + 7 - r.val) else none := by
  decide +kernel

/-- A key in the query's row window. -/
theorem off_in (r : Fin 256) (g : Fin 12) (a : Fin 15) (h1 : r0 r.val ≤ 4 * kb (r.val / 4) + g.val) (h2 : 4 * kb (r.val / 4) + g.val < r0 r.val + 8)
    (ha : a.val = 4 * kb (r.val / 4) + g.val + 7 - r.val) : off r g = some a := by
  have h := off_val r g
  rw [if_pos ⟨h1, h2⟩, ← ha] at h
  cases ho : off r g with
  | none => rw [ho] at h; simp at h
  | some a' => rw [ho] at h; exact congrArg some (Fin.ext (by simpa using h))

/-- A key outside the query's row window. -/
theorem off_out (r : Fin 256) (g : Fin 12) (h : ¬(r0 r.val ≤ 4 * kb (r.val / 4) + g.val ∧ 4 * kb (r.val / 4) + g.val < r0 r.val + 8)) : off r g = none := by
  have h' := off_val r g
  rw [if_neg h] at h'
  simpa using h'

/-- The block's row at a lane: the score plus its half tile. -/
theorem row_eq (S : Fin 64 → Fin 768 → EReal) (b : FVec Ideal S16x15x31 .f32) (h : Fin 16) (r : Fin 256) (w : Fin 64) (c : Fin 768) :
    row S (fun p r j => Tiles.stack (Tiles.tile (Tiles.bias b)) (ix4 h p r j)) (kind (r.val / 4)) ⟨r.val % 4, by omega⟩ w c
      = S w c + Tiles.halfV b h (off r ⟨c.val / 64, by omega⟩) w ⟨c.val % 64, by omega⟩ := by
  have hdiv : (⟨c.val / 64 / 2, by omega⟩ : Fin 6) = ⟨c.val / 128, by omega⟩ := Fin.ext (by show c.val / 64 / 2 = c.val / 128; omega)
  unfold row off
  rw [hdiv]
  cases tab (kind (r.val / 4)) ⟨r.val % 4, by omega⟩ ⟨c.val / 128, by omega⟩ with
  | none => exact (EReal.add_bot _).symm
  | some p =>
    refine congrArg (S w c + ·) ?_
    refine (Tiles.tiles_apply b h p w _).trans ?_
    show (if h' : c.val % 128 < 64 then _ else _) = Tiles.halfV b h (if c.val / 64 % 2 = 0 then Tiles.left p else Tiles.right p) w _
    by_cases hc : c.val % 128 < 64
    · rw [dif_pos hc, if_pos (by omega)]
      exact congrArg _ (Fin.ext (by show c.val % 128 = c.val % 64; omega))
    · rw [dif_neg hc, if_neg (by omega)]
      exact congrArg _ (Fin.ext (by show c.val % 128 - 64 = c.val % 64; omega))

/-- The lane of a window position. -/
def lane (r : Fin 256) (w : Fin 64) (k : Fin 8 × Fin 16) : Fin 768 :=
  ⟨64 * (r0 r.val + k.1.val - 4 * kb (r.val / 4)) + (c0 w.val + k.2.val), by unfold r0 c0 kb; omega⟩

theorem lane_row (r : Fin 256) (w : Fin 64) (k : Fin 8 × Fin 16) : 4 * kb (r.val / 4) + (lane r w k).val / 64 = r0 r.val + k.1.val := by
  unfold lane r0 c0 kb; dsimp only; omega
theorem lane_col (r : Fin 256) (w : Fin 64) (k : Fin 8 × Fin 16) : (lane r w k).val % 64 = c0 w.val + k.2.val := by
  unfold lane r0 c0 kb; dsimp only; omega

theorem lane_inj (r : Fin 256) (w : Fin 64) : Function.Injective (lane r w) := fun k k' h => by
  have h1 := lane_row r w k; have h2 := lane_col r w k
  rw [h] at h1 h2
  have h3 := lane_row r w k'; have h4 := lane_col r w k'
  exact Prod.ext (Fin.ext (by omega)) (Fin.ext (by omega))

/-- A lane of the block in both windows is a window position's. -/
theorem lane_surj (r : Fin 256) (w : Fin 64) (c : Fin 768) (h1 : r0 r.val ≤ 4 * kb (r.val / 4) + c.val / 64) (h2 : 4 * kb (r.val / 4) + c.val / 64 < r0 r.val + 8)
    (h3 : c0 w.val ≤ c.val % 64) (h4 : c.val % 64 < c0 w.val + 16) : ∃ k, lane r w k = c :=
  ⟨(⟨4 * kb (r.val / 4) + c.val / 64 - r0 r.val, by omega⟩, ⟨c.val % 64 - c0 w.val, by omega⟩), Fin.ext (by unfold lane; dsimp only; omega)⟩

/-- Off the window the row is masked. -/
theorem row_out (S : Fin 64 → Fin 768 → EReal) (b : FVec Ideal S16x15x31 .f32) (h : Fin 16) (r : Fin 256) (w : Fin 64) (c : Fin 768) (hc : ∀ k, lane r w k ≠ c) :
    row S (fun p r j => Tiles.stack (Tiles.tile (Tiles.bias b)) (ix4 h p r j)) (kind (r.val / 4)) ⟨r.val % 4, by omega⟩ w c = ⊥ := by
  rw [row_eq]
  refine Eq.trans (congrArg _ ?_) (EReal.add_bot _)
  by_cases hr : r0 r.val ≤ 4 * kb (r.val / 4) + c.val / 64 ∧ 4 * kb (r.val / 4) + c.val / 64 < r0 r.val + 8
  · rw [off_in r ⟨c.val / 64, by omega⟩ ⟨4 * kb (r.val / 4) + c.val / 64 + 7 - r.val, by have := hr.2; unfold r0 at this; omega⟩ hr.1 hr.2 rfl]
    unfold Tiles.halfV; dsimp only
    rw [dif_neg]
    rintro ⟨h3, h4⟩
    obtain ⟨k, hk⟩ := lane_surj r w c hr.1 hr.2 h3 h4
    exact hc k hk
  · rw [off_out r ⟨c.val / 64, by omega⟩ hr]; rfl

/-- On the window the row is the score plus the bias. -/
theorem row_in (S : Fin 64 → Fin 768 → EReal) (b : FVec Ideal S16x15x31 .f32) (h : Fin 16) (r : Fin 256) (w : Fin 64) (k : Fin 8 × Fin 16) :
    row S (fun p r j => Tiles.stack (Tiles.tile (Tiles.bias b)) (ix4 h p r j)) (kind (r.val / 4)) ⟨r.val % 4, by omega⟩ w (lane r w k)
      = S w (lane r w k) + b (ix3 h ⟨r0 r.val + k.1.val + 7 - r.val, ro_lt r k.1⟩ ⟨c0 w.val + k.2.val + 15 - w.val, co_lt w k.2⟩) := by
  have hl := lane_row r w k
  have hc := lane_col r w k
  rw [row_eq, off_in r ⟨(lane r w k).val / 64, by omega⟩ ⟨r0 r.val + k.1.val + 7 - r.val, ro_lt r k.1⟩ (by show _ ≤ _ + _ / 64; omega) (by show _ + _ / 64 < _; omega)
    (by show r0 r.val + k.1.val + 7 - r.val = 4 * kb (r.val / 4) + (lane r w k).val / 64 + 7 - r.val; omega)]
  unfold Tiles.halfV; dsimp only
  rw [dif_pos (by show c0 w.val ≤ _ % 64 ∧ _ % 64 < c0 w.val + 16; omega)]
  exact congrArg (S w (lane r w k) + ·) (congrArg b (congrArg (ix3 h _) (Fin.ext (by show (lane r w k).val % 64 + 15 - w.val = _; rw [hc]))))

/-! ## The kernel's value is the reference's -/

/-- The output at a token, over the row of its block. -/
theorem out_row (x0 x1 x2 : Vec Ideal S16384x128 .bf16) (x3 : Vec Ideal S1x16x64x128 .f32) (r : Fin 256) (w : Fin 64) (d : Fin 128) :
    outT x0 x1 x2 x3 (ix2 (tok r w) d)
      = att (row (fun r' c => Sc x0 x1 ⟨r.val / 4, by omega⟩ ⟨64 * (r.val % 4) + r'.val, by omega⟩ c) (fun p r j => x3 (ix4 0 p r j)) (kind (r.val / 4)) ⟨r.val % 4, by omega⟩ w)
          fun c => x2 (ix2 ⟨256 * kb (r.val / 4) + c.val, by unfold kb; omega⟩ d) := by
  have h1 : (tok r w).val / 256 = r.val / 4 := by unfold tok; dsimp only; omega
  have h2 : (tok r w).val % 256 / 64 = r.val % 4 := by unfold tok; dsimp only; omega
  have h3 : (tok r w).val % 256 % 64 = w.val := by unfold tok; dsimp only; omega
  show blockAt x0 x1 x2 x3 ⟨(tok r w).val / 256, _⟩ ⟨(tok r w).val % 256, _⟩ d = _
  unfold blockAt
  simp only [h1, h2, h3]

variable (m : (ℓ : Loc nD τ sig) → Buf (Elt Ideal) ℓ) (c : Dev nD)

/-- The queries and keys. -/
abbrev qk : S16384x4096.Idx → EReal := m ((c : Thread nD τ).loc main_arg0)
/-- The values. -/
abbrev vv : S16384x2048.Idx → EReal := m ((c : Thread nD τ).loc main_arg1)
/-- The bias table. -/
abbrev rpb : S16x15x31.Idx → EReal := m ((c : Thread nD τ).loc main_arg2)

/-- The reference's score, read off the block's score at its lane. -/
theorem score_lane (t : Fin cfg0.N) (h : Fin 16) (ht : t.val = h.val) (r : Fin 256) (w : Fin 64) (k : Fin 8 × Fin 16) :
    Sc (iblk m c 0 t) (iblk m c 1 t) ⟨r.val / 4, by omega⟩ ⟨64 * (r.val % 4) + w.val, by omega⟩ (lane r w k)
      = ∑ d : Fin 128, qk m c (ix2 (tok r w) ⟨(col h d).val, by omega⟩)
          * qk m c (ix2 (nb r w k.1 k.2) ⟨2048 + (col h d).val, by omega⟩) := by
  unfold Sc
  refine Finset.sum_congr rfl fun d _ => congrArg₂ (· * ·) ?_ ?_
  · refine (iblk0 m c t _ d (by omega)).trans (congrArg _ (congrArg₂ ix2 (Fin.ext ?_) (Fin.ext ?_)))
    · show 256 * (r.val / 4) + (64 * (r.val % 4) + w.val) = r.val * 64 + w.val; omega
    · show t.val * 128 + d.val = h.val * 128 + d.val; omega
  · refine (iblk1 m c t _ d (by omega)).trans (congrArg _ (congrArg₂ ix2 (Fin.ext ?_) (Fin.ext ?_)))
    · have hl := lane_row r w k
      have hc := lane_col r w k
      show 256 * kb (r.val / 4) + (lane r w k).val = (r0 r.val + k.1.val) * 64 + (c0 w.val + k.2.val); omega
    · show (16 + t.val) * 128 + d.val = 2048 + (h.val * 128 + d.val); omega

/-- A score of finite entries is finite. -/
theorem score_real (x : S16384x4096.Idx → EReal) (b : S16x15x31.Idx → EReal) (hx : ∀ i, ∃ a : ℝ, x i = a) (hb : ∀ i, ∃ a : ℝ, b i = a)
    (r : Fin 256) (w : Fin 64) (h : Fin 16) (k : Fin 8 × Fin 16) : ∃ a : ℝ, score x b r w h k = a := by
  choose fx hfx using hx
  choose fb hfb using hb
  unfold score
  simp only [hfx, hfb, ← EReal.coe_mul, sum_real, ← EReal.coe_add]
  exact ⟨_, rfl⟩

/-- The output array after the run is the reference's result, where queries, keys and biases are finite. -/
theorem value (hx : ∀ i, ∃ a : ℝ, qk m c i = a) (hb : ∀ i, ∃ a : ℝ, rpb m c i = a) :
    (dats m 0 c).arrAt 4 cfg0.N
      = resT (qk m c) (vv m c) (rpb m c) := by
  have key : ∀ (r : Fin 256) (w : Fin 64) (h : Fin 16) (d : Fin 128), (dats m 0 c).arrAt 4 cfg0.N (ix2 (tok r w) (col h d))
      = resT (qk m c) (vv m c) (rpb m c) (ix2 (tok r w) (col h d)) := by
    intro r w h d
    have ht : h.val < grid0.N := lt_of_lt_of_eq h.isLt (by decide : 16 = grid0.N)
    rw [resT_apply]
    refine (out4 m c ⟨h.val, ht⟩ (tok r w) d (by show h.val * 128 + _ < _; omega)).trans ((out_row _ _ _ _ r w d).trans ?_)
    have h3 : (fun (p : Fin 16) (r : Fin 64) (j : Fin 128) => (iblk m c 3 ⟨h.val, ht⟩ (ix4 0 p r j) : EReal))
        = fun p r j => Tiles.stack (Tiles.tile (Tiles.bias (rpb m c))) (ix4 h p r j) :=
      funext fun p => funext fun r => funext fun j => iblk3 m c ⟨h.val, ht⟩ 0 p r j h.isLt
    rw [h3]
    unfold att
    have hin : ∀ k, row (fun r' c' => Sc (iblk m c 0 ⟨h.val, ht⟩) (iblk m c 1 ⟨h.val, ht⟩) ⟨r.val / 4, by omega⟩ ⟨64 * (r.val % 4) + r'.val, by omega⟩ c')
        (fun p r j => Tiles.stack (Tiles.tile (Tiles.bias (rpb m c))) (ix4 h p r j)) (kind (r.val / 4)) ⟨r.val % 4, by omega⟩ w (lane r w k)
        = score (qk m c) (rpb m c) r w h k := fun k => by
      refine (row_in _ _ h r w k).trans ?_
      unfold score
      exact congrArg (· + _) (score_lane m c ⟨h.val, ht⟩ h rfl r w k)
    have hout := fun c' => row_out (fun r' c' => Sc (iblk m c 0 ⟨h.val, ht⟩) (iblk m c 1 ⟨h.val, ht⟩) ⟨r.val / 4, by omega⟩ ⟨64 * (r.val % 4) + r'.val, by omega⟩ c')
      (rpb m c) h r w c'
    generalize row _ _ _ _ _ = s at hin hout ⊢
    have hs := sum_window (lane r w) (lane_inj r w) s _ hin hout
    have hd : ∑ c', wt s c' = _ := (Finset.sum_congr rfl fun c' _ => (mul_one (wt s c')).symm).trans (hs fun _ => 1)
    rw [hs, hd]
    simp only [mul_one]
    rw [mean _ _ fun k => score_real _ _ hx hb r w h k]
    refine Finset.sum_congr rfl fun k _ => congrArg₂ (· * ·) rfl ?_
    refine (iblk2 m c ⟨h.val, ht⟩ _ d (by show h.val * 128 + _ < _; omega)).trans (congrArg _ (congrArg₂ ix2 (Fin.ext ?_) rfl))
    have hl := lane_row r w k
    have hc := lane_col r w k
    show 256 * kb (r.val / 4) + (lane r w k).val = (r0 r.val + k.1.val) * 64 + (c0 w.val + k.2.val); omega
  funext y
  have h0 : (y 0).val < 16384 := (y 0).isLt
  have h1 : (y 1).val < 2048 := (y 1).isLt
  have hy : y = ix2 (tok ⟨(y 0).val / 64, by omega⟩ ⟨(y 0).val % 64, by omega⟩) (col ⟨(y 1).val / 128, by omega⟩ ⟨(y 1).val % 128, by omega⟩) := by
    funext a
    match a with
    | ⟨0, _⟩ => exact Fin.ext (by show (y 0).val = (y 0).val / 64 * 64 + (y 0).val % 64; omega)
    | ⟨1, _⟩ => exact Fin.ext (by show (y 1).val = (y 1).val / 128 * 128 + (y 1).val % 128; omega)
  rw [hy]
  exact key _ _ _ _

end Cert.KernelIdeal.Natten

end
-- ==== Proof.Finite.lean ====
module

public import proofs.«01_k».proof.Pre_finite_scores
public import Idealize.ShloMosaic.Lib.Pointwise
public import Idealize.ShloMosaic.Lib.IdealHost

@[expose] public section

noncomputable section

namespace Cert.Pre_finite_scores

open Idealize.ShloMosaic

/-! ## What the precondition says -/

instance facts : Facts := ⟨by decide, by decide⟩

/-- An extended real of absolute value less than infinity is a real. -/
theorem real_of_abs (x : EReal) (h : Ideal.cmp .olt (max x (-x)) ⊤ = 1#1) : ∃ a : ℝ, x = a := by
  have hlt : max x (-x) < ⊤ := by
    by_contra hn
    have h' : BitVec.ofBool (decide (max x (-x) < ⊤)) = 1#1 := h
    rw [decide_eq_false hn] at h'
    exact absurd h' (by decide)
  induction x with
  | bot => simp at hlt
  | top => simp at hlt
  | coe a => exact ⟨a, rfl⟩

theorem inf_bf16 : Ideal.ofBits FTy.bf16 0x7F80#16 = ⊤ := by simp [Ideal.ofBits, Ideal.ieee]
theorem inf_f32 : Ideal.ofBits FTy.f32 0x7F800000#32 = ⊤ := by simp [Ideal.ofBits, Ideal.ieee]

/-- Every query and key is a real. -/
theorem qk_real (x : S16384x4096.Idx → EReal) (v : S16384x2048.Idx → EReal) (b : S16x15x31.Idx → EReal)
    (h : (fn (F := Ideal) x v b).1 = fun _ => 1#1) (i : S16384x4096.Idx) : ∃ a : ℝ, x i = a := by
  refine real_of_abs _ ?_
  rw [← inf_bf16]
  exact congrFun h i

/-- Every bias is a real. -/
theorem rpb_real (x : S16384x4096.Idx → EReal) (v : S16384x2048.Idx → EReal) (b : S16x15x31.Idx → EReal)
    (h : (fn (F := Ideal) x v b).2 = fun _ => 1#1) (i : S16x15x31.Idx) : ∃ a : ℝ, b i = a := by
  refine real_of_abs _ ?_
  rw [← inf_f32]
  exact congrFun h i

end Cert.Pre_finite_scores

end
-- ==== Proof.Prod.lean ====
module

public import Idealize.ShloMosaic.Lib.MatmulPlain
public import Idealize.ShloMosaic.Lib.StackMember
public import Idealize.ShloMosaic.Lib.Pointwise
public import Idealize.ShloMosaic.Lib.IdealHost

@[expose] public section

noncomputable section

namespace Cert.Prod

open Idealize.ShloMosaic
open scoped BigOperators

/-- An index of a matrix is its row and its column. -/
theorem split {M N : ℕ} (i : (⟨2, ![M, N]⟩ : Shape).Idx) : ∃ (p : Fin M) (q : Fin N), i = ix2 p q :=
  ⟨i 0, i 1, funext fun a => by match a with | ⟨0, _⟩ => rfl | ⟨1, _⟩ => rfl⟩

/-- A kernel's plain product into a zero accumulator, at an entry. -/
theorem mm {M K N : ℕ} {φ₁ φ₂ : FTy} (L : FVec Ideal ⟨2, ![M, K]⟩ φ₁) (R : FVec Ideal ⟨2, ![K, N]⟩ φ₂) (i : Fin M) (j : Fin N) :
    (matmul (DotDims.plain M K N) none L R (constant _ .f32 0x00000000#32) (ix2 i j) : EReal) = ∑ k : Fin K, (L (ix2 i k) : EReal) * R (ix2 k j) := by
  refine (Ideal.matmul_plain_apply none L R _ i j).trans ?_
  have h : ((constant (F := Ideal) ⟨2, ![M, N]⟩ .f32 0x00000000#32) (ix2 i j) : EReal) = 0 := by
    show Ideal.ofBits FTy.f32 0x00000000#32 = 0
    simp [Ideal.ofBits, Ideal.ieee]
  exact (congrArg (· + _) h).trans (zero_add _)

/-- A host's plain product, at an entry. -/
theorem dg {M K N : ℕ} {φ₁ φ₂ : FTy} (L : FVec Ideal ⟨2, ![M, K]⟩ φ₁) (R : FVec Ideal ⟨2, ![K, N]⟩ φ₂) (i : Fin M) (j : Fin N) :
    (Host.dotGeneral (DotDims.plain M K N) none L R (ix2 i j) : EReal) = ∑ k : Fin K, (L (ix2 i k) : EReal) * R (ix2 k j) :=
  StackMember.dotGeneral_plain_apply none L R i j

end Cert.Prod

end
-- ==== Proof.Ffn.lean ====
module

public import proofs.«01_k».proof.Proof.Prod
public import proofs.«01_k».proof.Proof.Gen.Kernel2Ideal.Value
public import proofs.«01_k».proof.Proof.Gen.Reference2Ideal.Run
public import Idealize.ShloMosaic.Lib.Tactic

@[expose] public section

set_option maxRecDepth 16384

noncomputable section

/-! The feed-forward's down projection with its residual. -/

namespace Cert.Kernel2Ideal.Ffn

open Idealize.ShloMosaic Idealize.ShloMosaic.TcCoe
open Cert.Kernel2Ideal Cert.Kernel2Ideal.Gen
open scoped BigOperators

variable (m : (ℓ : Loc nD τ sig) → Buf (Elt Ideal) ℓ) (c : Dev nD)

/-- The activations. -/
abbrev act : S16384x11008.Idx → EReal := m ((c : Thread nD τ).loc main_arg0)
/-- The weights. -/
abbrev wgt : S11008x4096.Idx → EReal := m ((c : Thread nD τ).loc main_arg1)
/-- The residual. -/
abbrev hid : S16384x4096.Idx → EReal := m ((c : Thread nD τ).loc main_arg2)

/-- The block indices of point `t`: the token block moves fastest. -/
theorem idx (t : Fin cfg0.N) : win0_0.index t = ![t.val % 32, 0] ∧ win0_1.index t = ![0, t.val / 32] ∧ win0_2.index t = ![t.val % 32, t.val / 32]
    ∧ win0_3.index t = ![t.val % 32, t.val / 32] :=
  (by decide +kernel : ∀ t : Fin grid0.N, win0_0.index t = ![t.val % 32, 0] ∧ win0_1.index t = ![0, t.val / 32] ∧ win0_2.index t = ![t.val % 32, t.val / 32]
    ∧ win0_3.index t = ![t.val % 32, t.val / 32]) t

/-- The weights' cast is the identity at exact arithmetic. -/
theorem V_wgt : V m c main_v0 = wgt m c := by
  show StableHlo.after hostOps0 (fun b => m (c, b)) main_v0 = _
  unfold hostOps0
  after_results
  rfl

/-- The activations' block. -/
theorem iblk0 (t : Fin cfg0.N) (n : Fin 512) (e : Fin 11008) (h : t.val % 32 * 512 + n.val < 16384) :
    iblk m c 0 t (ix2 n e) = act m c (ix2 ⟨t.val % 32 * 512 + n.val, h⟩ e) := by
  refine Eq.trans ?_ (congrFun (V_main_arg0 m c) _)
  show V m c main_arg0 (((cfg0.win 0).blk t).view.emb (ix2 n e)) = _
  refine congrArg _ (funext fun a => Fin.ext ?_)
  have hi := (idx t).1
  match a with
  | ⟨0, _⟩ => show win0_0.index t (0 : Fin 2) * 512 + 1 * n.val = t.val % 32 * 512 + n.val; rw [hi]; simp
  | ⟨1, _⟩ => show win0_0.index t (1 : Fin 2) * 11008 + 1 * e.val = e.val; rw [hi]; simp

/-- The weights' block. -/
theorem iblk1 (t : Fin cfg0.N) (n : Fin 11008) (e : Fin 1024) (h : t.val / 32 * 1024 + e.val < 4096) :
    iblk m c 1 t (ix2 n e) = wgt m c (ix2 n ⟨t.val / 32 * 1024 + e.val, h⟩) := by
  refine Eq.trans ?_ (congrFun (V_wgt m c) _)
  show V m c main_v0 (((cfg0.win 1).blk t).view.emb (ix2 n e)) = _
  refine congrArg _ (funext fun a => Fin.ext ?_)
  have hi := (idx t).2.1
  match a with
  | ⟨0, _⟩ => show win0_1.index t (0 : Fin 2) * 11008 + 1 * n.val = n.val; rw [hi]; simp
  | ⟨1, _⟩ => show win0_1.index t (1 : Fin 2) * 1024 + 1 * e.val = t.val / 32 * 1024 + e.val; rw [hi]; simp

/-- The residual's block. -/
theorem iblk2 (t : Fin cfg0.N) (n : Fin 512) (e : Fin 1024) (h : t.val % 32 * 512 + n.val < 16384) (h' : t.val / 32 * 1024 + e.val < 4096) :
    iblk m c 2 t (ix2 n e) = hid m c (ix2 ⟨t.val % 32 * 512 + n.val, h⟩ ⟨t.val / 32 * 1024 + e.val, h'⟩) := by
  refine Eq.trans ?_ (congrFun (V_main_arg2 m c) _)
  show V m c main_arg2 (((cfg0.win 2).blk t).view.emb (ix2 n e)) = _
  refine congrArg _ (funext fun a => Fin.ext ?_)
  have hi := (idx t).2.2.1
  match a with
  | ⟨0, _⟩ => show win0_2.index t (0 : Fin 2) * 512 + 1 * n.val = t.val % 32 * 512 + n.val; rw [hi]; simp
  | ⟨1, _⟩ => show win0_2.index t (1 : Fin 2) * 1024 + 1 * e.val = t.val / 32 * 1024 + e.val; rw [hi]; simp

/-- The stored block at an entry. -/
theorem out_apply (x0 : Vec Ideal S512x11008 .bf16) (x1 : Vec Ideal S11008x1024 .bf16) (x2 : Vec Ideal S512x1024 .f32) (n : Fin 512) (e : Fin 1024) :
    (out0_3 x0 x1 x2 (ix2 n e) : EReal) = (x2 (ix2 n e) : EReal) + ∑ k : Fin 11008, (x0 (ix2 n k) : EReal) * x1 (ix2 k e) := by
  have hz : (![0, 0] : Fin 2 → Nat) = fun _ => 0 := by funext a; fin_cases a <;> rfl
  have h : out0_3 x0 x1 x2 = k0_pay1 x2 x0 x1 := by
    unfold out0_3
    rw [View.canon_unit_zero hz, View.ld_unit_zero hz, View.ld_unit_zero hz, View.ld_unit_zero hz]
  rw [h]
  unfold k0_pay1
  rw [shapeCast_self]
  exact congrArg (fun z : EReal => (x2 (ix2 n e) : EReal) + z) (Prod.mm (M := 512) (K := 11008) (N := 1024) x0 x1 n e)

/-- The output array after the run, at an entry of the block of point `t`. -/
theorem out3 (t : Fin cfg0.N) (n : Fin 512) (e : Fin 1024) (h : t.val % 32 * 512 + n.val < 16384) (h' : t.val / 32 * 1024 + e.val < 4096) :
    (dats m 0 c).arrAt 3 cfg0.N (ix2 ⟨t.val % 32 * 512 + n.val, h⟩ ⟨t.val / 32 * 1024 + e.val, h'⟩)
      = out0_3 (iblk m c 0 t) (iblk m c 1 t) (iblk m c 2 t) (ix2 n e) := by
  have hf : (cfg0.win 3).flush t = true := (by decide +kernel : ∀ t : Fin grid0.N, win0_3.flush t = true) t
  have hb := congrFun ((Value.blocks3 m c t hf).trans (Value.flushed3 m c t)) (ix2 n e)
  generalize (dats m 0 c).arrAt 3 cfg0.N = A at hb ⊢
  generalize out0_3 (iblk m c 0 t) (iblk m c 1 t) (iblk m c 2 t) = o at hb ⊢
  have hc : (cfg0.win 3).cut (grid0.coords t) o (ix2 n e) = o (ix2 n e) := rfl
  refine Eq.trans ?_ (hb.trans hc)
  show A _ = A (((cfg0.win 3).blk t).view.emb (ix2 n e))
  refine congrArg _ (funext fun a => Fin.ext ?_)
  have hi := (idx t).2.2.2
  match a with
  | ⟨0, _⟩ => show t.val % 32 * 512 + n.val = win0_3.index t (0 : Fin 2) * 512 + 1 * n.val; rw [hi]; simp
  | ⟨1, _⟩ => show t.val / 32 * 1024 + e.val = win0_3.index t (1 : Fin 2) * 1024 + 1 * e.val; rw [hi]; simp

/-- The reference's term of the three arguments. -/
abbrev res (a : FVec Ideal S16384x11008 .bf16) (w : FVec Ideal S11008x4096 .f32) (h : FVec Ideal S16384x4096 .f32) : FVec Ideal S16384x4096 .f32 :=
  addf h (Host.dotGeneral Cert.Reference2Ideal.dot_S16384x11008_S11008x4096_S16384x4096_1_0_0_1_n_n none (extf .f32 a bitsLt_bf16_f32) w)

/-- The kernel's output array is the reference's term. -/
theorem value : (dats m 0 c).arrAt 3 cfg0.N = res (act m c) (wgt m c) (hid m c) := by
  funext i
  obtain ⟨p, q, rfl⟩ := Prod.split i
  let t : Fin cfg0.N := ⟨q.val / 1024 * 32 + p.val / 512, by show _ < 128; omega⟩
  have ht : t.val = q.val / 1024 * 32 + p.val / 512 := rfl
  let n : Fin 512 := ⟨p.val % 512, by omega⟩
  let e : Fin 1024 := ⟨q.val % 1024, by omega⟩
  have hn : n.val = p.val % 512 := rfl
  have he : e.val = q.val % 1024 := rfl
  have h : t.val % 32 * 512 + n.val < 16384 := by omega
  have h' : t.val / 32 * 1024 + e.val < 4096 := by omega
  have hp : p = ⟨t.val % 32 * 512 + n.val, h⟩ := Fin.ext (by show p.val = t.val % 32 * 512 + n.val; omega)
  have hq : q = ⟨t.val / 32 * 1024 + e.val, h'⟩ := Fin.ext (by show q.val = t.val / 32 * 1024 + e.val; omega)
  clear_value t n e
  subst hp hq
  refine (out3 m c t n e h h').trans ((out_apply _ _ _ n e).trans ?_)
  refine Eq.trans ?_ (congrArg (fun z : EReal => hid m c (ix2 _ _) + z)
    (Prod.dg (M := 16384) (K := 11008) (N := 4096) (extf .f32 (act m c : FVec Ideal S16384x11008 .bf16) bitsLt_bf16_f32) (wgt m c : FVec Ideal S11008x4096 .f32) _ _)).symm
  refine congrArg₂ (· + ·) (iblk2 m c t n e h h') (Finset.sum_congr rfl fun k _ => ?_)
  exact congrArg₂ (· * ·) (iblk0 m c t n k h) (iblk1 m c t k e h')

end Cert.Kernel2Ideal.Ffn

end
-- ==== Proof.Out.lean ====
module

public import proofs.«01_k».proof.Proof.Prod
public import proofs.«01_k».proof.Proof.Gen.Kernel3Ideal.Value
public import proofs.«01_k».proof.Proof.Gen.Reference3Ideal.Run
public import Idealize.ShloMosaic.Lib.Tactic

@[expose] public section

set_option maxRecDepth 16384

noncomputable section

/-! The attention's output projection with its residual. -/

namespace Cert.Kernel3Ideal.Out

open Idealize.ShloMosaic Idealize.ShloMosaic.TcCoe
open Cert.Kernel3Ideal Cert.Kernel3Ideal.Gen
open scoped BigOperators

variable (m : (ℓ : Loc nD τ sig) → Buf (Elt Ideal) ℓ) (c : Dev nD)

/-- The merged branches. -/
abbrev mrg : S16384x4096.Idx → EReal := m ((c : Thread nD τ).loc main_arg0)
/-- The weights. -/
abbrev wgt : S4096x4096.Idx → EReal := m ((c : Thread nD τ).loc main_arg1)
/-- The residual. -/
abbrev hid : S16384x4096.Idx → EReal := m ((c : Thread nD τ).loc main_arg2)

/-- The block indices of point `t`: the column block moves fastest. -/
theorem idx (t : Fin cfg0.N) : win0_0.index t = ![t.val / 4, 0] ∧ win0_1.index t = ![0, t.val % 4] ∧ win0_2.index t = ![t.val / 4, t.val % 4]
    ∧ win0_3.index t = ![t.val / 4, t.val % 4] :=
  (by decide +kernel : ∀ t : Fin grid0.N, win0_0.index t = ![t.val / 4, 0] ∧ win0_1.index t = ![0, t.val % 4] ∧ win0_2.index t = ![t.val / 4, t.val % 4]
    ∧ win0_3.index t = ![t.val / 4, t.val % 4]) t

/-- The weights' cast is the identity at exact arithmetic. -/
theorem V_wgt : V m c main_v0 = wgt m c := by
  show StableHlo.after hostOps0 (fun b => m (c, b)) main_v0 = _
  unfold hostOps0
  after_results
  rfl

/-- The merged branches' block. -/
theorem iblk0 (t : Fin cfg0.N) (n : Fin 1024) (e : Fin 4096) (h : t.val / 4 * 1024 + n.val < 16384) :
    iblk m c 0 t (ix2 n e) = mrg m c (ix2 ⟨t.val / 4 * 1024 + n.val, h⟩ e) := by
  refine Eq.trans ?_ (congrFun (V_main_arg0 m c) _)
  show V m c main_arg0 (((cfg0.win 0).blk t).view.emb (ix2 n e)) = _
  refine congrArg _ (funext fun a => Fin.ext ?_)
  have hi := (idx t).1
  match a with
  | ⟨0, _⟩ => show win0_0.index t (0 : Fin 2) * 1024 + 1 * n.val = t.val / 4 * 1024 + n.val; rw [hi]; simp
  | ⟨1, _⟩ => show win0_0.index t (1 : Fin 2) * 4096 + 1 * e.val = e.val; rw [hi]; simp

/-- The weights' block. -/
theorem iblk1 (t : Fin cfg0.N) (n : Fin 4096) (e : Fin 1024) (h : t.val % 4 * 1024 + e.val < 4096) :
    iblk m c 1 t (ix2 n e) = wgt m c (ix2 n ⟨t.val % 4 * 1024 + e.val, h⟩) := by
  refine Eq.trans ?_ (congrFun (V_wgt m c) _)
  show V m c main_v0 (((cfg0.win 1).blk t).view.emb (ix2 n e)) = _
  refine congrArg _ (funext fun a => Fin.ext ?_)
  have hi := (idx t).2.1
  match a with
  | ⟨0, _⟩ => show win0_1.index t (0 : Fin 2) * 4096 + 1 * n.val = n.val; rw [hi]; simp
  | ⟨1, _⟩ => show win0_1.index t (1 : Fin 2) * 1024 + 1 * e.val = t.val % 4 * 1024 + e.val; rw [hi]; simp

/-- The residual's block. -/
theorem iblk2 (t : Fin cfg0.N) (n : Fin 1024) (e : Fin 1024) (h : t.val / 4 * 1024 + n.val < 16384) (h' : t.val % 4 * 1024 + e.val < 4096) :
    iblk m c 2 t (ix2 n e) = hid m c (ix2 ⟨t.val / 4 * 1024 + n.val, h⟩ ⟨t.val % 4 * 1024 + e.val, h'⟩) := by
  refine Eq.trans ?_ (congrFun (V_main_arg2 m c) _)
  show V m c main_arg2 (((cfg0.win 2).blk t).view.emb (ix2 n e)) = _
  refine congrArg _ (funext fun a => Fin.ext ?_)
  have hi := (idx t).2.2.1
  match a with
  | ⟨0, _⟩ => show win0_2.index t (0 : Fin 2) * 1024 + 1 * n.val = t.val / 4 * 1024 + n.val; rw [hi]; simp
  | ⟨1, _⟩ => show win0_2.index t (1 : Fin 2) * 1024 + 1 * e.val = t.val % 4 * 1024 + e.val; rw [hi]; simp

/-- The stored block at an entry. -/
theorem out_apply (x0 : Vec Ideal S1024x4096 .bf16) (x1 : Vec Ideal S4096x1024 .bf16) (x2 : Vec Ideal S1024x1024 .f32) (n : Fin 1024) (e : Fin 1024) :
    (out0_3 x0 x1 x2 (ix2 n e) : EReal) = (x2 (ix2 n e) : EReal) + ∑ k : Fin 4096, (x0 (ix2 n k) : EReal) * x1 (ix2 k e) := by
  have hz : (![0, 0] : Fin 2 → Nat) = fun _ => 0 := by funext a; fin_cases a <;> rfl
  have h : out0_3 x0 x1 x2 = k0_pay1 x2 x0 x1 := by
    unfold out0_3
    rw [View.canon_unit_zero hz, View.ld_unit_zero hz, View.ld_unit_zero hz, View.ld_unit_zero hz]
  rw [h]
  unfold k0_pay1
  rw [shapeCast_self]
  exact congrArg (fun z : EReal => (x2 (ix2 n e) : EReal) + z) (Prod.mm (M := 1024) (K := 4096) (N := 1024) x0 x1 n e)

/-- The output array after the run, at an entry of the block of point `t`. -/
theorem out3 (t : Fin cfg0.N) (n : Fin 1024) (e : Fin 1024) (h : t.val / 4 * 1024 + n.val < 16384) (h' : t.val % 4 * 1024 + e.val < 4096) :
    (dats m 0 c).arrAt 3 cfg0.N (ix2 ⟨t.val / 4 * 1024 + n.val, h⟩ ⟨t.val % 4 * 1024 + e.val, h'⟩)
      = out0_3 (iblk m c 0 t) (iblk m c 1 t) (iblk m c 2 t) (ix2 n e) := by
  have hf : (cfg0.win 3).flush t = true := (by decide +kernel : ∀ t : Fin grid0.N, win0_3.flush t = true) t
  have hb := congrFun ((Value.blocks3 m c t hf).trans (Value.flushed3 m c t)) (ix2 n e)
  generalize (dats m 0 c).arrAt 3 cfg0.N = A at hb ⊢
  generalize out0_3 (iblk m c 0 t) (iblk m c 1 t) (iblk m c 2 t) = o at hb ⊢
  have hc : (cfg0.win 3).cut (grid0.coords t) o (ix2 n e) = o (ix2 n e) := rfl
  refine Eq.trans ?_ (hb.trans hc)
  show A _ = A (((cfg0.win 3).blk t).view.emb (ix2 n e))
  refine congrArg _ (funext fun a => Fin.ext ?_)
  have hi := (idx t).2.2.2
  match a with
  | ⟨0, _⟩ => show t.val / 4 * 1024 + n.val = win0_3.index t (0 : Fin 2) * 1024 + 1 * n.val; rw [hi]; simp
  | ⟨1, _⟩ => show t.val % 4 * 1024 + e.val = win0_3.index t (1 : Fin 2) * 1024 + 1 * e.val; rw [hi]; simp

/-- The reference's term of the three arguments. -/
abbrev res (a : FVec Ideal S16384x4096 .bf16) (w : FVec Ideal S4096x4096 .f32) (h : FVec Ideal S16384x4096 .f32) : FVec Ideal S16384x4096 .f32 :=
  addf h (Host.dotGeneral Cert.Reference3Ideal.dot_S16384x4096_S4096x4096_S16384x4096_1_0_0_1_n_n none (extf .f32 a bitsLt_bf16_f32) w)

/-- The kernel's output array is the reference's term. -/
theorem value : (dats m 0 c).arrAt 3 cfg0.N = res (mrg m c) (wgt m c) (hid m c) := by
  funext i
  obtain ⟨p, q, rfl⟩ := Prod.split i
  let t : Fin cfg0.N := ⟨p.val / 1024 * 4 + q.val / 1024, by show _ < 64; omega⟩
  have ht : t.val = p.val / 1024 * 4 + q.val / 1024 := rfl
  let n : Fin 1024 := ⟨p.val % 1024, by omega⟩
  let e : Fin 1024 := ⟨q.val % 1024, by omega⟩
  have hn : n.val = p.val % 1024 := rfl
  have he : e.val = q.val % 1024 := rfl
  have h : t.val / 4 * 1024 + n.val < 16384 := by omega
  have h' : t.val % 4 * 1024 + e.val < 4096 := by omega
  have hp : p = ⟨t.val / 4 * 1024 + n.val, h⟩ := Fin.ext (by show p.val = t.val / 4 * 1024 + n.val; omega)
  have hq : q = ⟨t.val % 4 * 1024 + e.val, h'⟩ := Fin.ext (by show q.val = t.val % 4 * 1024 + e.val; omega)
  clear_value t n e
  subst hp hq
  refine (out3 m c t n e h h').trans ((out_apply _ _ _ n e).trans ?_)
  refine Eq.trans ?_ (congrArg (fun z : EReal => hid m c (ix2 _ _) + z)
    (Prod.dg (M := 16384) (K := 4096) (N := 4096) (extf .f32 (mrg m c : FVec Ideal S16384x4096 .bf16) bitsLt_bf16_f32) (wgt m c : FVec Ideal S4096x4096 .f32) _ _)).symm
  refine congrArg₂ (· + ·) (iblk2 m c t n e h h') (Finset.sum_congr rfl fun k _ => ?_)
  exact congrArg₂ (· * ·) (iblk0 m c t n k h) (iblk1 m c t k e h')

end Cert.Kernel3Ideal.Out

end
-- ==== Proof.Merge.lean ====
module

public import proofs.«01_k».proof.Proof.Prod
public import proofs.«01_k».proof.Proof.Gen.Kernel4Ideal.Value
public import proofs.«01_k».proof.Proof.Gen.Reference4Ideal.Run
public import Idealize.ShloMosaic.Lib.Tactic

@[expose] public section

set_option maxRecDepth 16384

noncomputable section

/-! The two branches' projections, gated and added. -/

namespace Cert.Kernel4Ideal.Merge

open Idealize.ShloMosaic Idealize.ShloMosaic.TcCoe
open Cert.Kernel4Ideal Cert.Kernel4Ideal.Gen
open scoped BigOperators

variable (m : (ℓ : Loc nD τ sig) → Buf (Elt Ideal) ℓ) (c : Dev nD)

/-- The first branch. -/
abbrev ya : S16384x2048.Idx → EReal := m ((c : Thread nD τ).loc main_arg0)
/-- The second branch. -/
abbrev yb : S16384x2048.Idx → EReal := m ((c : Thread nD τ).loc main_arg1)
/-- The first branch's weights. -/
abbrev wa : S2048x4096.Idx → EReal := m ((c : Thread nD τ).loc main_arg2)
/-- The second branch's weights. -/
abbrev wb : S2048x4096.Idx → EReal := m ((c : Thread nD τ).loc main_arg3)
/-- The two gates side by side. -/
abbrev sg : S16384x8192.Idx → EReal := m ((c : Thread nD τ).loc main_arg4)

/-- The block indices of point `t`: the column block moves fastest. -/
theorem idx (t : Fin cfg0.N) : win0_0.index t = ![t.val / 4, 0] ∧ win0_1.index t = ![t.val / 4, 0] ∧ win0_2.index t = ![0, t.val % 4] ∧ win0_3.index t = ![0, t.val % 4]
    ∧ win0_4.index t = ![t.val / 4, t.val % 4] ∧ win0_5.index t = ![t.val / 4, t.val % 4 + 4] ∧ win0_6.index t = ![t.val / 4, t.val % 4] :=
  (by decide +kernel : ∀ t : Fin grid0.N, win0_0.index t = ![t.val / 4, 0] ∧ win0_1.index t = ![t.val / 4, 0] ∧ win0_2.index t = ![0, t.val % 4] ∧ win0_3.index t = ![0, t.val % 4]
    ∧ win0_4.index t = ![t.val / 4, t.val % 4] ∧ win0_5.index t = ![t.val / 4, t.val % 4 + 4] ∧ win0_6.index t = ![t.val / 4, t.val % 4]) t

/-- The first weights' cast is the identity at exact arithmetic. -/
theorem V_wa : V m c main_v0 = wa m c := by
  show StableHlo.after hostOps0 (fun b => m (c, b)) main_v0 = _
  unfold hostOps0
  after_results
  rfl

/-- The same of the second weights. -/
theorem V_wb : V m c main_v1 = wb m c := by
  show StableHlo.after hostOps0 (fun b => m (c, b)) main_v1 = _
  unfold hostOps0
  after_results
  rfl

/-- The first branch's block. -/
theorem iblk0 (t : Fin cfg0.N) (n : Fin 1024) (e : Fin 2048) (h : t.val / 4 * 1024 + n.val < 16384) :
    iblk m c 0 t (ix2 n e) = ya m c (ix2 ⟨t.val / 4 * 1024 + n.val, h⟩ e) := by
  refine Eq.trans ?_ (congrFun (V_main_arg0 m c) _)
  show V m c main_arg0 (((cfg0.win 0).blk t).view.emb (ix2 n e)) = _
  refine congrArg _ (funext fun a => Fin.ext ?_)
  have hi := (idx t).1
  match a with
  | ⟨0, _⟩ => show win0_0.index t (0 : Fin 2) * 1024 + 1 * n.val = t.val / 4 * 1024 + n.val; rw [hi]; simp
  | ⟨1, _⟩ => show win0_0.index t (1 : Fin 2) * 2048 + 1 * e.val = e.val; rw [hi]; simp

/-- The second branch's block. -/
theorem iblk1 (t : Fin cfg0.N) (n : Fin 1024) (e : Fin 2048) (h : t.val / 4 * 1024 + n.val < 16384) :
    iblk m c 1 t (ix2 n e) = yb m c (ix2 ⟨t.val / 4 * 1024 + n.val, h⟩ e) := by
  refine Eq.trans ?_ (congrFun (V_main_arg1 m c) _)
  show V m c main_arg1 (((cfg0.win 1).blk t).view.emb (ix2 n e)) = _
  refine congrArg _ (funext fun a => Fin.ext ?_)
  have hi := (idx t).2.1
  match a with
  | ⟨0, _⟩ => show win0_1.index t (0 : Fin 2) * 1024 + 1 * n.val = t.val / 4 * 1024 + n.val; rw [hi]; simp
  | ⟨1, _⟩ => show win0_1.index t (1 : Fin 2) * 2048 + 1 * e.val = e.val; rw [hi]; simp

/-- The first weights' block. -/
theorem iblk2 (t : Fin cfg0.N) (n : Fin 2048) (e : Fin 1024) (h' : t.val % 4 * 1024 + e.val < 4096) :
    iblk m c 2 t (ix2 n e) = wa m c (ix2 n ⟨t.val % 4 * 1024 + e.val, h'⟩) := by
  refine Eq.trans ?_ (congrFun (V_wa m c) _)
  show V m c main_v0 (((cfg0.win 2).blk t).view.emb (ix2 n e)) = _
  refine congrArg _ (funext fun a => Fin.ext ?_)
  have hi := (idx t).2.2.1
  match a with
  | ⟨0, _⟩ => show win0_2.index t (0 : Fin 2) * 2048 + 1 * n.val = n.val; rw [hi]; simp
  | ⟨1, _⟩ => show win0_2.index t (1 : Fin 2) * 1024 + 1 * e.val = t.val % 4 * 1024 + e.val; rw [hi]; simp

/-- The second weights' block. -/
theorem iblk3 (t : Fin cfg0.N) (n : Fin 2048) (e : Fin 1024) (h' : t.val % 4 * 1024 + e.val < 4096) :
    iblk m c 3 t (ix2 n e) = wb m c (ix2 n ⟨t.val % 4 * 1024 + e.val, h'⟩) := by
  refine Eq.trans ?_ (congrFun (V_wb m c) _)
  show V m c main_v1 (((cfg0.win 3).blk t).view.emb (ix2 n e)) = _
  refine congrArg _ (funext fun a => Fin.ext ?_)
  have hi := (idx t).2.2.2.1
  match a with
  | ⟨0, _⟩ => show win0_3.index t (0 : Fin 2) * 2048 + 1 * n.val = n.val; rw [hi]; simp
  | ⟨1, _⟩ => show win0_3.index t (1 : Fin 2) * 1024 + 1 * e.val = t.val % 4 * 1024 + e.val; rw [hi]; simp

/-- The first gate's block. -/
theorem iblk4 (t : Fin cfg0.N) (n : Fin 1024) (e : Fin 1024) (h : t.val / 4 * 1024 + n.val < 16384) (h' : t.val % 4 * 1024 + e.val < 8192) :
    iblk m c 4 t (ix2 n e) = sg m c (ix2 ⟨t.val / 4 * 1024 + n.val, h⟩ ⟨t.val % 4 * 1024 + e.val, h'⟩) := by
  refine Eq.trans ?_ (congrFun (V_main_arg4 m c) _)
  show V m c main_arg4 (((cfg0.win 4).blk t).view.emb (ix2 n e)) = _
  refine congrArg _ (funext fun a => Fin.ext ?_)
  have hi := (idx t).2.2.2.2.1
  match a with
  | ⟨0, _⟩ => show win0_4.index t (0 : Fin 2) * 1024 + 1 * n.val = t.val / 4 * 1024 + n.val; rw [hi]; simp
  | ⟨1, _⟩ => show win0_4.index t (1 : Fin 2) * 1024 + 1 * e.val = t.val % 4 * 1024 + e.val; rw [hi]; simp

/-- The second gate's block, four block columns on. -/
theorem iblk5 (t : Fin cfg0.N) (n : Fin 1024) (e : Fin 1024) (h : t.val / 4 * 1024 + n.val < 16384) (h' : (t.val % 4 + 4) * 1024 + e.val < 8192) :
    iblk m c 5 t (ix2 n e) = sg m c (ix2 ⟨t.val / 4 * 1024 + n.val, h⟩ ⟨(t.val % 4 + 4) * 1024 + e.val, h'⟩) := by
  refine Eq.trans ?_ (congrFun (V_main_arg4 m c) _)
  show V m c main_arg4 (((cfg0.win 5).blk t).view.emb (ix2 n e)) = _
  refine congrArg _ (funext fun a => Fin.ext ?_)
  have hi := (idx t).2.2.2.2.2.1
  match a with
  | ⟨0, _⟩ => show win0_5.index t (0 : Fin 2) * 1024 + 1 * n.val = t.val / 4 * 1024 + n.val; rw [hi]; simp
  | ⟨1, _⟩ => show win0_5.index t (1 : Fin 2) * 1024 + 1 * e.val = (t.val % 4 + 4) * 1024 + e.val; rw [hi]; simp

/-- The stored block at an entry. -/
theorem out_apply (x0 x1 : Vec Ideal S1024x2048 .bf16) (x2 x3 : Vec Ideal S2048x1024 .bf16) (x4 x5 : Vec Ideal S1024x1024 .bf16) (n e : Fin 1024) :
    (out0_6 x0 x1 x2 x3 x4 x5 (ix2 n e) : EReal)
      = (x4 (ix2 n e) : EReal) * (∑ k : Fin 2048, (x0 (ix2 n k) : EReal) * x2 (ix2 k e)) + (x5 (ix2 n e) : EReal) * ∑ k : Fin 2048, (x1 (ix2 n k) : EReal) * x3 (ix2 k e) := by
  have hz : (![0, 0] : Fin 2 → Nat) = fun _ => 0 := by funext a; fin_cases a <;> rfl
  have h : out0_6 x0 x1 x2 x3 x4 x5 = k0_pay1 x0 x2 x1 x3 x4 x5 := by
    unfold out0_6
    rw [View.canon_unit_zero hz, View.ld_unit_zero hz, View.ld_unit_zero hz, View.ld_unit_zero hz, View.ld_unit_zero hz, View.ld_unit_zero hz, View.ld_unit_zero hz]
  rw [h]
  unfold k0_pay1
  simp only [shapeCast_self]
  exact congrArg₂ (fun y z : EReal => (x4 (ix2 n e) : EReal) * y + (x5 (ix2 n e) : EReal) * z)
    (Prod.mm (M := 1024) (K := 2048) (N := 1024) x0 x2 n e) (Prod.mm (M := 1024) (K := 2048) (N := 1024) x1 x3 n e)

/-- The output array after the run, at an entry of the block of point `t`. -/
theorem out6 (t : Fin cfg0.N) (n e : Fin 1024) (h : t.val / 4 * 1024 + n.val < 16384) (h' : t.val % 4 * 1024 + e.val < 4096) :
    (dats m 0 c).arrAt 6 cfg0.N (ix2 ⟨t.val / 4 * 1024 + n.val, h⟩ ⟨t.val % 4 * 1024 + e.val, h'⟩)
      = out0_6 (iblk m c 0 t) (iblk m c 1 t) (iblk m c 2 t) (iblk m c 3 t) (iblk m c 4 t) (iblk m c 5 t) (ix2 n e) := by
  have hf : (cfg0.win 6).flush t = true := (by decide +kernel : ∀ t : Fin grid0.N, win0_6.flush t = true) t
  have hb := congrFun ((Value.blocks6 m c t hf).trans (Value.flushed6 m c t)) (ix2 n e)
  generalize (dats m 0 c).arrAt 6 cfg0.N = A at hb ⊢
  generalize out0_6 (iblk m c 0 t) (iblk m c 1 t) (iblk m c 2 t) (iblk m c 3 t) (iblk m c 4 t) (iblk m c 5 t) = o at hb ⊢
  have hc : (cfg0.win 6).cut (grid0.coords t) o (ix2 n e) = o (ix2 n e) := rfl
  refine Eq.trans ?_ (hb.trans hc)
  show A _ = A (((cfg0.win 6).blk t).view.emb (ix2 n e))
  refine congrArg _ (funext fun a => Fin.ext ?_)
  have hi := (idx t).2.2.2.2.2.2
  match a with
  | ⟨0, _⟩ => show t.val / 4 * 1024 + n.val = win0_6.index t (0 : Fin 2) * 1024 + 1 * n.val; rw [hi]; simp
  | ⟨1, _⟩ => show t.val % 4 * 1024 + e.val = win0_6.index t (1 : Fin 2) * 1024 + 1 * e.val; rw [hi]; simp

/-- The reference's term of the five arguments. -/
abbrev res (a b : FVec Ideal S16384x2048 .bf16) (wa wb : FVec Ideal S2048x4096 .f32) (g : FVec Ideal S16384x8192 .bf16) : FVec Ideal S16384x4096 .bf16 :=
  truncf .bf16 (addf
    (mulf (extractStridedSlice S16384x4096 ![0, 0] (extf .f32 g bitsLt_bf16_f32) Cert.Reference4Ideal.Facts₀.slices_S16384x8192_S16384x4096_0_0)
      (Host.dotGeneral Cert.Reference4Ideal.dot_S16384x2048_S2048x4096_S16384x4096_1_0_0_1_n_n none (extf .f32 a bitsLt_bf16_f32) wa))
    (mulf (extractStridedSlice S16384x4096 ![0, 4096] (extf .f32 g bitsLt_bf16_f32) Cert.Reference4Ideal.Facts₀.slices_S16384x8192_S16384x4096_0_4096)
      (Host.dotGeneral Cert.Reference4Ideal.dot_S16384x2048_S2048x4096_S16384x4096_1_0_0_1_n_n none (extf .f32 b bitsLt_bf16_f32) wb))) bitsLt_bf16_f32

/-- The reference's term at an entry. -/
theorem res_apply (a b : FVec Ideal S16384x2048 .bf16) (wa wb : FVec Ideal S2048x4096 .f32) (g : FVec Ideal S16384x8192 .bf16) (p : Fin 16384) (q : Fin 4096) :
    (res a b wa wb g (ix2 p q) : EReal)
      = (g (ix2 p ⟨q.val, by omega⟩) : EReal) * (∑ k : Fin 2048, (a (ix2 p k) : EReal) * wa (ix2 k q))
        + (g (ix2 p ⟨q.val + 4096, by omega⟩) : EReal) * ∑ k : Fin 2048, (b (ix2 p k) : EReal) * wb (ix2 k q) := by
  refine congrArg₂ (fun y z : EReal => y + z) (congrArg₂ (fun y z : EReal => y * z) (congrArg g (funext fun x => Fin.ext ?_)) (Prod.dg (M := 16384) (K := 2048) (N := 4096) (extf .f32 a bitsLt_bf16_f32) wa p q))
    (congrArg₂ (fun y z : EReal => y * z) (congrArg g (funext fun x => Fin.ext ?_)) (Prod.dg (M := 16384) (K := 2048) (N := 4096) (extf .f32 b bitsLt_bf16_f32) wb p q))
  · match x with
    | ⟨0, _⟩ => show 0 + p.val = p.val; omega
    | ⟨1, _⟩ => show 0 + q.val = q.val; omega
  · match x with
    | ⟨0, _⟩ => show 0 + p.val = p.val; omega
    | ⟨1, _⟩ => show 4096 + q.val = q.val + 4096; omega

/-- The kernel's output array is the reference's term. -/
theorem value : (dats m 0 c).arrAt 6 cfg0.N = res (ya m c) (yb m c) (wa m c) (wb m c) (sg m c) := by
  funext i
  obtain ⟨p, q, rfl⟩ := Prod.split i
  let t : Fin cfg0.N := ⟨p.val / 1024 * 4 + q.val / 1024, by show _ < 64; omega⟩
  have ht : t.val = p.val / 1024 * 4 + q.val / 1024 := rfl
  let n : Fin 1024 := ⟨p.val % 1024, by omega⟩
  let e : Fin 1024 := ⟨q.val % 1024, by omega⟩
  have hn : n.val = p.val % 1024 := rfl
  have he : e.val = q.val % 1024 := rfl
  have h : t.val / 4 * 1024 + n.val < 16384 := by omega
  have h' : t.val % 4 * 1024 + e.val < 4096 := by omega
  have h8 : t.val % 4 * 1024 + e.val < 8192 := by omega
  have h5 : (t.val % 4 + 4) * 1024 + e.val < 8192 := by omega
  have hp : p = ⟨t.val / 4 * 1024 + n.val, h⟩ := Fin.ext (by show p.val = t.val / 4 * 1024 + n.val; omega)
  have hq : q = ⟨t.val % 4 * 1024 + e.val, h'⟩ := Fin.ext (by show q.val = t.val % 4 * 1024 + e.val; omega)
  clear_value t n e
  subst hp hq
  refine (out6 m c t n e h h').trans ((out_apply _ _ _ _ _ _ n e).trans (Eq.trans ?_ (res_apply _ _ _ _ _ _ _).symm))
  refine congrArg₂ (· + ·) (congrArg₂ (· * ·) (iblk4 m c t n e h h8) (Finset.sum_congr rfl fun k _ => congrArg₂ (· * ·) (iblk0 m c t n k h) (iblk2 m c t k e h')))
    (congrArg₂ (· * ·) ((iblk5 m c t n e h h5).trans (congrArg (sg m c) (congrArg (ix2 _) (Fin.ext ?_)))) (Finset.sum_congr rfl fun k _ => congrArg₂ (· * ·) (iblk1 m c t n k h) (iblk3 m c t k e h')))
  show (t.val % 4 + 4) * 1024 + e.val = t.val % 4 * 1024 + e.val + 4096
  omega

end Cert.Kernel4Ideal.Merge

end
-- ==== Proof.Act.lean ====
module

public import Idealize.ShloMosaic.PureOps
public import Idealize.ShloMosaic.PureOps.Ideal

@[expose] public section

noncomputable section

/-! The activation functions' two forms agree at every extended real. -/

namespace Cert.Act

open Idealize.ShloMosaic

/-- The error function is odd. -/
theorem erf_neg (y : EReal) : Ideal.erf (-y) = -Ideal.erf y := by
  induction y with
  | bot => rw [EReal.neg_bot, Ideal.erf_top, Ideal.erf_bot, neg_neg]
  | top => rw [EReal.neg_top, Ideal.erf_top, Ideal.erf_bot]
  | coe r =>
    rw [← EReal.coe_neg, Ideal.erf_coe, Ideal.erf_coe, ← EReal.coe_neg]
    refine congrArg _ ?_
    have h := intervalIntegral.integral_comp_neg (fun t : ℝ => Real.exp (-(t ^ 2))) (a := 0) (b := r)
    simp only [neg_sq, neg_zero] at h
    rw [h, intervalIntegral.integral_symm, mul_neg]

/-- The complementary error function at the negated argument. -/
theorem erfc_neg (x k : EReal) : Ideal.erfc (-x * k) = 1 + Ideal.erf (x * k) := by
  unfold Ideal.erfc
  rw [EReal.neg_mul, erf_neg, sub_eq_add_neg, neg_neg]

/-- The literal one half. -/
theorem half : Ideal.ofBits FTy.f32 0x3F000000#32 = (((1 / 2 : ℝ)) : EReal) := by
  simp [Ideal.ofBits, Ideal.ieee]
  norm_num [← EReal.coe_mul]

/-- The literal one. -/
theorem one : Ideal.ofBits FTy.f32 0x3F800000#32 = (1 : EReal) := by
  simp [Ideal.ofBits, Ideal.ieee]
  norm_num [← EReal.coe_mul]

/-- The logistic function by the hyperbolic tangent of half the argument. -/
theorem sigmoid (x : EReal) :
    Ideal.ofBits FTy.f32 0x3F000000#32 * (Ideal.tanh (Ideal.ofBits FTy.f32 0x3F000000#32 * x) + Ideal.ofBits FTy.f32 0x3F800000#32)
      = Ideal.div (Ideal.ofBits FTy.f32 0x3F800000#32) (Ideal.ofBits FTy.f32 0x3F800000#32 + Ideal.exp (-x)) := by
  rw [half, one]
  change _ = Ideal.logistic x
  induction x with
  | bot =>
    rw [EReal.coe_mul_bot_of_pos (by norm_num), Ideal.tanh_bot, Ideal.logistic_bot, ← EReal.coe_one, ← EReal.coe_neg, ← EReal.coe_add]
    norm_num
  | top =>
    rw [EReal.coe_mul_top_of_pos (by norm_num), Ideal.tanh_top, Ideal.logistic_top, ← EReal.coe_one, ← EReal.coe_add, ← EReal.coe_mul]
    norm_num
  | coe r =>
    rw [← EReal.coe_mul, Ideal.tanh_coe, Ideal.logistic_coe, ← EReal.coe_one, ← EReal.coe_add, ← EReal.coe_mul]
    refine congrArg _ ?_
    have h1 : Real.exp (-r) = Real.exp (-(1 / 2 * r)) * Real.exp (-(1 / 2 * r)) := by rw [← Real.exp_add]; ring_nf
    have h2 : Real.exp (1 / 2 * r) * Real.exp (-(1 / 2 * r)) = 1 := by rw [← Real.exp_add]; simp
    rw [Real.tanh_eq_sinh_div_cosh, Real.sinh_eq, Real.cosh_eq, h1]
    have ha := Real.exp_pos (1 / 2 * r)
    have hb := Real.exp_pos (-(1 / 2 * r))
    generalize Real.exp (1 / 2 * r) = a at *
    generalize Real.exp (-(1 / 2 * r)) = b at *
    have h3 : 1 + b * b ≠ 0 := by positivity
    have h4 : a + b ≠ 0 := by positivity
    field_simp
    linear_combination (2 * b) * h2

end Cert.Act

end
-- ==== Proof.Gelu.lean ====
module

public import proofs.«01_k».proof.Proof.Prod
public import proofs.«01_k».proof.Proof.Act
public import proofs.«01_k».proof.Proof.Gen.Kernel5Ideal.Value
public import proofs.«01_k».proof.Proof.Gen.Reference5Ideal.Run
public import Idealize.ShloMosaic.Lib.Tactic

@[expose] public section

set_option maxRecDepth 16384

noncomputable section

/-! The gMLP input's projection with its gelu, and the cast of the input weights that rides along. -/

namespace Cert.Kernel5Ideal.Gelu

open Idealize.ShloMosaic Idealize.ShloMosaic.TcCoe
open Cert.Kernel5Ideal Cert.Kernel5Ideal.Gen
open scoped BigOperators

variable (m : (ℓ : Loc nD τ sig) → Buf (Elt Ideal) ℓ) (c : Dev nD)

/-- The normalised tokens. -/
abbrev tok : S16384x4096.Idx → EReal := m ((c : Thread nD τ).loc main_arg0)
/-- The input weights. -/
abbrev wgt : S4096x18432.Idx → EReal := m ((c : Thread nD τ).loc main_arg1)

/-- The block indices of point `t`: the column block moves fastest. -/
theorem idx (t : Fin cfg0.N) : win0_0.index t = ![t.val / 4, 0] ∧ win0_1.index t = ![0, t.val % 4] ∧ win0_2.index t = ![t.val, 0]
    ∧ win0_3.index t = ![t.val / 4, t.val % 4] ∧ win0_4.index t = ![t.val, 0] :=
  (by decide +kernel : ∀ t : Fin grid0.N, win0_0.index t = ![t.val / 4, 0] ∧ win0_1.index t = ![0, t.val % 4] ∧ win0_2.index t = ![t.val, 0]
    ∧ win0_3.index t = ![t.val / 4, t.val % 4] ∧ win0_4.index t = ![t.val, 0]) t

/-- The weights the host cuts out and casts. -/
theorem V_wgt (k q : Fin 4096) : (V m c main_v1 (ix2 k q) : EReal) = wgt m c (ix2 k ⟨q.val, by omega⟩) := by
  have h : V m c main_v1 = (truncf .bf16 (extractStridedSlice S4096x4096 ![0, 0] (wgt m c : FVec Ideal S4096x18432 .f32) slices_S4096x18432_S4096x4096_0_0) bitsLt_bf16_f32 : FVec Ideal S4096x4096 .bf16) := by
    show StableHlo.after hostOps0 (fun b => m (c, b)) main_v1 = _
    unfold hostOps0
    after_results
  refine (congrFun h _).trans (congrArg (wgt m c) (funext fun a => Fin.ext ?_))
  match a with
  | ⟨0, _⟩ => show 0 + k.val = k.val; omega
  | ⟨1, _⟩ => show 0 + q.val = q.val; omega

/-- The tokens' block. -/
theorem iblk0 (t : Fin cfg0.N) (n : Fin 1024) (e : Fin 4096) (h : t.val / 4 * 1024 + n.val < 16384) :
    iblk m c 0 t (ix2 n e) = tok m c (ix2 ⟨t.val / 4 * 1024 + n.val, h⟩ e) := by
  refine Eq.trans ?_ (congrFun (V_main_arg0 m c) _)
  show V m c main_arg0 (((cfg0.win 0).blk t).view.emb (ix2 n e)) = _
  refine congrArg _ (funext fun a => Fin.ext ?_)
  have hi := (idx t).1
  match a with
  | ⟨0, _⟩ => show win0_0.index t (0 : Fin 2) * 1024 + 1 * n.val = t.val / 4 * 1024 + n.val; rw [hi]; simp
  | ⟨1, _⟩ => show win0_0.index t (1 : Fin 2) * 4096 + 1 * e.val = e.val; rw [hi]; simp

/-- The weights' block. -/
theorem iblk1 (t : Fin cfg0.N) (n : Fin 4096) (e : Fin 1024) (h : t.val % 4 * 1024 + e.val < 4096) :
    (iblk m c 1 t (ix2 n e) : EReal) = wgt m c (ix2 n ⟨t.val % 4 * 1024 + e.val, by omega⟩) := by
  refine Eq.trans ?_ (V_wgt m c n ⟨t.val % 4 * 1024 + e.val, h⟩)
  show V m c main_v1 (((cfg0.win 1).blk t).view.emb (ix2 n e)) = _
  refine congrArg _ (funext fun a => Fin.ext ?_)
  have hi := (idx t).2.1
  match a with
  | ⟨0, _⟩ => show win0_1.index t (0 : Fin 2) * 4096 + 1 * n.val = n.val; rw [hi]; simp
  | ⟨1, _⟩ => show win0_1.index t (1 : Fin 2) * 1024 + 1 * e.val = t.val % 4 * 1024 + e.val; rw [hi]; simp

/-- The block of weights to cast. -/
theorem iblk2 (t : Fin cfg0.N) (n : Fin 64) (e : Fin 18432) (h : t.val * 64 + n.val < 4096) :
    iblk m c 2 t (ix2 n e) = wgt m c (ix2 ⟨t.val * 64 + n.val, h⟩ e) := by
  refine Eq.trans ?_ (congrFun (V_main_arg1 m c) _)
  show V m c main_arg1 (((cfg0.win 2).blk t).view.emb (ix2 n e)) = _
  refine congrArg _ (funext fun a => Fin.ext ?_)
  have hi := (idx t).2.2.1
  match a with
  | ⟨0, _⟩ => show win0_2.index t (0 : Fin 2) * 64 + 1 * n.val = t.val * 64 + n.val; rw [hi]; simp
  | ⟨1, _⟩ => show win0_2.index t (1 : Fin 2) * 18432 + 1 * e.val = e.val; rw [hi]; simp

/-- The gelu of a product, as the kernel writes it. -/
abbrev gelu (z : EReal) : EReal := Ideal.ofBits FTy.f32 0x3F000000#32 * z * (Ideal.ofBits FTy.f32 0x3F800000#32 + Ideal.erf (z * Ideal.ofBits FTy.f32 0x3F3504F3#32))

/-- The stored block at an entry. -/
theorem out_apply (x0 : Vec Ideal S1024x4096 .bf16) (x1 : Vec Ideal S4096x1024 .bf16) (x2 : Vec Ideal S64x18432 .f32) (n e : Fin 1024) :
    (out0_3 x0 x1 x2 (ix2 n e) : EReal) = gelu (∑ k : Fin 4096, (x0 (ix2 n k) : EReal) * x1 (ix2 k e)) := by
  have hz : (![0, 0] : Fin 2 → Nat) = fun _ => 0 := by funext a; fin_cases a <;> rfl
  have h : out0_3 x0 x1 x2 = k0_pay1 x0 x1 := by
    unfold out0_3
    rw [View.canon_unit_zero hz, View.ld_unit_zero hz, View.ld_unit_zero hz]
  rw [h]
  unfold k0_pay1
  rw [shapeCast_self]
  have hm := Prod.mm (φ₁ := .bf16) (φ₂ := .bf16) (M := 1024) (K := 4096) (N := 1024) x0 x1 n e
  refine Eq.trans (α := EReal) ?_ (congrArg gelu hm)
  rfl

/-- The output array after the run, at an entry of the block of point `t`. -/
theorem out3 (t : Fin cfg0.N) (n e : Fin 1024) (h : t.val / 4 * 1024 + n.val < 16384) (h' : t.val % 4 * 1024 + e.val < 4096) :
    (dats m 0 c).arrAt 3 cfg0.N (ix2 ⟨t.val / 4 * 1024 + n.val, h⟩ ⟨t.val % 4 * 1024 + e.val, h'⟩)
      = out0_3 (iblk m c 0 t) (iblk m c 1 t) (iblk m c 2 t) (ix2 n e) := by
  have hf : (cfg0.win 3).flush t = true := (by decide +kernel : ∀ t : Fin grid0.N, win0_3.flush t = true) t
  have hb := congrFun ((Value.blocks3 m c t hf).trans (Value.flushed3 m c t)) (ix2 n e)
  generalize (dats m 0 c).arrAt 3 cfg0.N = A at hb ⊢
  generalize out0_3 (iblk m c 0 t) (iblk m c 1 t) (iblk m c 2 t) = o at hb ⊢
  have hc : (cfg0.win 3).cut (grid0.coords t) o (ix2 n e) = o (ix2 n e) := rfl
  refine Eq.trans ?_ (hb.trans hc)
  show A _ = A (((cfg0.win 3).blk t).view.emb (ix2 n e))
  refine congrArg _ (funext fun a => Fin.ext ?_)
  have hi := (idx t).2.2.2.1
  match a with
  | ⟨0, _⟩ => show t.val / 4 * 1024 + n.val = win0_3.index t (0 : Fin 2) * 1024 + 1 * n.val; rw [hi]; simp
  | ⟨1, _⟩ => show t.val % 4 * 1024 + e.val = win0_3.index t (1 : Fin 2) * 1024 + 1 * e.val; rw [hi]; simp

/-- The cast weights after the run, at an entry of the block of point `t`. -/
theorem out4 (t : Fin cfg0.N) (n : Fin 64) (e : Fin 18432) (h : t.val * 64 + n.val < 4096) :
    ((dats m 0 c).arrAt 4 cfg0.N (ix2 ⟨t.val * 64 + n.val, h⟩ e) : EReal) = iblk m c 2 t (ix2 n e) := by
  have hf : (cfg0.win 4).flush t = true := (by decide +kernel : ∀ t : Fin grid0.N, win0_4.flush t = true) t
  have hb := congrFun ((Value.blocks4 m c t hf).trans (Value.flushed4 m c t)) (ix2 n e)
  have hz : (![0, 0] : Fin 2 → Nat) = fun _ => 0 := by funext a; fin_cases a <;> rfl
  have ho : out0_4 (iblk m c 0 t) (iblk m c 1 t) (iblk m c 2 t) = k0_pay2 (iblk m c 2 t) := by
    unfold out0_4
    rw [View.canon_unit_zero hz, View.ld_unit_zero hz]
  rw [ho] at hb
  generalize (dats m 0 c).arrAt 4 cfg0.N = A at hb ⊢
  generalize iblk m c 2 t = o at hb ⊢
  have hc : ((cfg0.win 4).cut (grid0.coords t) (k0_pay2 o) (ix2 n e) : EReal) = o (ix2 n e) := rfl
  refine Eq.trans ?_ (hb.trans hc)
  show A _ = A (((cfg0.win 4).blk t).view.emb (ix2 n e))
  refine congrArg _ (funext fun a => Fin.ext ?_)
  have hi := (idx t).2.2.2.2
  match a with
  | ⟨0, _⟩ => show t.val * 64 + n.val = win0_4.index t (0 : Fin 2) * 64 + 1 * n.val; rw [hi]; simp
  | ⟨1, _⟩ => show e.val = win0_4.index t (1 : Fin 2) * 18432 + 1 * e.val; rw [hi]; simp

/-- The reference's product. -/
abbrev proj (x : FVec Ideal S16384x4096 .bf16) (w : FVec Ideal S4096x18432 .f32) : FVec Ideal S16384x4096 .f32 :=
  Host.dotGeneral Cert.Reference5Ideal.dot_S16384x4096_S4096x4096_S16384x4096_1_0_0_1_n_n none (extf .f32 x bitsLt_bf16_f32)
    (extractStridedSlice S4096x4096 ![0, 0] w Cert.Reference5Ideal.Facts₀.slices_S4096x18432_S4096x4096_0_0)

/-- The reference's term. -/
abbrev res (x : FVec Ideal S16384x4096 .bf16) (w : FVec Ideal S4096x18432 .f32) : FVec Ideal S16384x4096 .bf16 :=
  truncf .bf16 (mulf (mulf (broadcastInDim S16384x4096 ![] Cert.Reference5Ideal.Facts₀.bcast_S_S16384x4096 (constant Cert.Reference5Ideal.S_ .f32 0x3F000000#32)) (proj x w))
    (Host.erfc (mulf (Host.negf (proj x w)) (broadcastInDim S16384x4096 ![] Cert.Reference5Ideal.Facts₀.bcast_S_S16384x4096 (constant Cert.Reference5Ideal.S_ .f32 0x3F3504F3#32))))) bitsLt_bf16_f32

/-- The reference's product at an entry. -/
theorem proj_apply (x : FVec Ideal S16384x4096 .bf16) (w : FVec Ideal S4096x18432 .f32) (p : Fin 16384) (q : Fin 4096) :
    (proj x w (ix2 p q) : EReal) = ∑ k : Fin 4096, (x (ix2 p k) : EReal) * w (ix2 k ⟨q.val, by omega⟩) := by
  refine (Prod.dg (M := 16384) (K := 4096) (N := 4096) (extf .f32 x bitsLt_bf16_f32) _ p q).trans (Finset.sum_congr rfl fun k _ => ?_)
  refine congrArg (fun z : EReal => (x (ix2 p k) : EReal) * z) (congrArg w (funext fun a => Fin.ext ?_))
  match a with
  | ⟨0, _⟩ => show 0 + k.val = k.val; omega
  | ⟨1, _⟩ => show 0 + q.val = q.val; omega

/-- The reference's term at an entry. -/
theorem res_apply (x : FVec Ideal S16384x4096 .bf16) (w : FVec Ideal S4096x18432 .f32) (i : S16384x4096.Idx) :
    (res x w i : EReal) = gelu (proj x w i) :=
  congrArg (fun z : EReal => Ideal.ofBits FTy.f32 0x3F000000#32 * (proj x w i) * z) ((Act.erfc_neg _ _).trans (congrArg (· + _) Act.one.symm))

/-- The kernel's output array is the reference's term. -/
theorem value : (dats m 0 c).arrAt 3 cfg0.N = res (tok m c) (wgt m c) := by
  funext i
  obtain ⟨p, q, rfl⟩ := Prod.split i
  let t : Fin cfg0.N := ⟨p.val / 1024 * 4 + q.val / 1024, by show _ < 64; omega⟩
  have ht : t.val = p.val / 1024 * 4 + q.val / 1024 := rfl
  let n : Fin 1024 := ⟨p.val % 1024, by omega⟩
  let e : Fin 1024 := ⟨q.val % 1024, by omega⟩
  have hn : n.val = p.val % 1024 := rfl
  have he : e.val = q.val % 1024 := rfl
  have h : t.val / 4 * 1024 + n.val < 16384 := by omega
  have h' : t.val % 4 * 1024 + e.val < 4096 := by omega
  have hp : p = ⟨t.val / 4 * 1024 + n.val, h⟩ := Fin.ext (by show p.val = t.val / 4 * 1024 + n.val; omega)
  have hq : q = ⟨t.val % 4 * 1024 + e.val, h'⟩ := Fin.ext (by show q.val = t.val % 4 * 1024 + e.val; omega)
  clear_value t n e
  subst hp hq
  refine (out3 m c t n e h h').trans ((out_apply _ _ _ n e).trans (Eq.trans ?_ (res_apply _ _ _).symm))
  refine congrArg gelu (Eq.trans ?_ (proj_apply _ _ _ _).symm)
  exact Finset.sum_congr rfl fun k _ => congrArg₂ (· * ·) (iblk0 m c t n k h) (iblk1 m c t k e h')

/-- The cast weights, as the reference has them. -/
abbrev cst (w : FVec Ideal S4096x18432 .f32) : FVec Ideal S4096x18432 .bf16 := truncf .bf16 w bitsLt_bf16_f32

/-- The cast weights are the reference's. -/
theorem value_cast : (dats m 0 c).arrAt 4 cfg0.N = cst (wgt m c) := by
  funext i
  obtain ⟨p, q, rfl⟩ := Prod.split i
  have h : p.val / 64 * 64 + p.val % 64 < 4096 := by omega
  have hp : p = ⟨p.val / 64 * 64 + p.val % 64, h⟩ := Fin.ext (by show p.val = p.val / 64 * 64 + p.val % 64; omega)
  rw [hp]
  exact (out4 m c ⟨p.val / 64, by show _ < 64; omega⟩ ⟨p.val % 64, by omega⟩ q h).trans (iblk2 m c ⟨p.val / 64, by show _ < 64; omega⟩ ⟨p.val % 64, by omega⟩ q h)

end Cert.Kernel5Ideal.Gelu

end
-- ==== Proof.Gates.lean ====
module

public import proofs.«01_k».proof.Proof.Prod
public import proofs.«01_k».proof.Proof.Act
public import proofs.«01_k».proof.Proof.Gen.Kernel6Ideal.Value
public import proofs.«01_k».proof.Proof.Gen.Reference6Ideal.Run
public import Idealize.ShloMosaic.Lib.Tactic

@[expose] public section

set_option maxRecDepth 16384

noncomputable section

/-! The gates' projection with its sigmoid, and the casts of two weights that ride along. -/

namespace Cert.Kernel6Ideal.Gates

open Idealize.ShloMosaic Idealize.ShloMosaic.TcCoe
open Cert.Kernel6Ideal Cert.Kernel6Ideal.Gen
open scoped BigOperators

variable (m : (ℓ : Loc nD τ sig) → Buf (Elt Ideal) ℓ) (c : Dev nD)

/-- The normalised tokens. -/
abbrev tok : S16384x4096.Idx → EReal := m ((c : Thread nD τ).loc main_arg0)
/-- The input weights. -/
abbrev wgt : S4096x18432.Idx → EReal := m ((c : Thread nD τ).loc main_arg1)
/-- The first of the two weights that are cast. -/
abbrev wg : S4096x11008.Idx → EReal := m ((c : Thread nD τ).loc main_arg2)
/-- The second of the two weights that are cast. -/
abbrev wu : S4096x11008.Idx → EReal := m ((c : Thread nD τ).loc main_arg3)

/-- The block indices of point `t`: the column block moves fastest. -/
theorem idx (t : Fin cfg0.N) : win0_0.index t = ![t.val / 8, 0] ∧ win0_1.index t = ![0, t.val % 8 + 10] ∧ win0_2.index t = ![t.val, 0] ∧ win0_3.index t = ![t.val, 0]
    ∧ win0_10.index t = ![t.val / 8, t.val % 8] ∧ win0_11.index t = ![t.val, 0] ∧ win0_12.index t = ![t.val, 0] :=
  (by decide +kernel : ∀ t : Fin grid0.N, win0_0.index t = ![t.val / 8, 0] ∧ win0_1.index t = ![0, t.val % 8 + 10] ∧ win0_2.index t = ![t.val, 0] ∧ win0_3.index t = ![t.val, 0]
    ∧ win0_10.index t = ![t.val / 8, t.val % 8] ∧ win0_11.index t = ![t.val, 0] ∧ win0_12.index t = ![t.val, 0]) t

/-- The weights the host casts. -/
theorem V_wgt (i : S4096x18432.Idx) : (V m c main_v0 i : EReal) = wgt m c i := by
  have h : V m c main_v0 = (truncf .bf16 (wgt m c : FVec Ideal S4096x18432 .f32) bitsLt_bf16_f32 : FVec Ideal S4096x18432 .bf16) := by
    show StableHlo.after hostOps0 (fun b => m (c, b)) main_v0 = _
    unfold hostOps0
    after_results
  exact congrFun h _

/-- The tokens' block. -/
theorem iblk0 (t : Fin cfg0.N) (n : Fin 1024) (e : Fin 4096) (h : t.val / 8 * 1024 + n.val < 16384) :
    iblk m c 0 t (ix2 n e) = tok m c (ix2 ⟨t.val / 8 * 1024 + n.val, h⟩ e) := by
  refine Eq.trans ?_ (congrFun (V_main_arg0 m c) _)
  show V m c main_arg0 (((cfg0.win 0).blk t).view.emb (ix2 n e)) = _
  refine congrArg _ (funext fun a => Fin.ext ?_)
  have hi := (idx t).1
  match a with
  | ⟨0, _⟩ => show win0_0.index t (0 : Fin 2) * 1024 + 1 * n.val = t.val / 8 * 1024 + n.val; rw [hi]; simp
  | ⟨1, _⟩ => show win0_0.index t (1 : Fin 2) * 4096 + 1 * e.val = e.val; rw [hi]; simp

/-- The weights' block: the gates' columns begin at 10240. -/
theorem iblk1 (t : Fin cfg0.N) (n : Fin 4096) (e : Fin 1024) (h : t.val % 8 * 1024 + e.val < 8192) :
    (iblk m c 1 t (ix2 n e) : EReal) = wgt m c (ix2 n ⟨10240 + (t.val % 8 * 1024 + e.val), by omega⟩) := by
  refine Eq.trans ?_ (V_wgt m c (ix2 n ⟨10240 + (t.val % 8 * 1024 + e.val), by omega⟩))
  show V m c main_v0 (((cfg0.win 1).blk t).view.emb (ix2 n e)) = _
  refine congrArg _ (funext fun a => Fin.ext ?_)
  have hi := (idx t).2.1
  match a with
  | ⟨0, _⟩ => show win0_1.index t (0 : Fin 2) * 4096 + 1 * n.val = n.val; rw [hi]; simp
  | ⟨1, _⟩ => show win0_1.index t (1 : Fin 2) * 1024 + 1 * e.val = 10240 + (t.val % 8 * 1024 + e.val); rw [hi]; show (t.val % 8 + 10) * 1024 + 1 * e.val = _; omega

/-- The first block of weights to cast. -/
theorem iblk2 (t : Fin cfg0.N) (n : Fin 32) (e : Fin 11008) (h : t.val * 32 + n.val < 4096) :
    iblk m c 2 t (ix2 n e) = wg m c (ix2 ⟨t.val * 32 + n.val, h⟩ e) := by
  refine Eq.trans ?_ (congrFun (V_main_arg2 m c) _)
  show V m c main_arg2 (((cfg0.win 2).blk t).view.emb (ix2 n e)) = _
  refine congrArg _ (funext fun a => Fin.ext ?_)
  have hi := (idx t).2.2.1
  match a with
  | ⟨0, _⟩ => show win0_2.index t (0 : Fin 2) * 32 + 1 * n.val = t.val * 32 + n.val; rw [hi]; simp
  | ⟨1, _⟩ => show win0_2.index t (1 : Fin 2) * 11008 + 1 * e.val = e.val; rw [hi]; simp

/-- The second block of weights to cast. -/
theorem iblk3 (t : Fin cfg0.N) (n : Fin 32) (e : Fin 11008) (h : t.val * 32 + n.val < 4096) :
    iblk m c 3 t (ix2 n e) = wu m c (ix2 ⟨t.val * 32 + n.val, h⟩ e) := by
  refine Eq.trans ?_ (congrFun (V_main_arg3 m c) _)
  show V m c main_arg3 (((cfg0.win 3).blk t).view.emb (ix2 n e)) = _
  refine congrArg _ (funext fun a => Fin.ext ?_)
  have hi := (idx t).2.2.2.1
  match a with
  | ⟨0, _⟩ => show win0_3.index t (0 : Fin 2) * 32 + 1 * n.val = t.val * 32 + n.val; rw [hi]; simp
  | ⟨1, _⟩ => show win0_3.index t (1 : Fin 2) * 11008 + 1 * e.val = e.val; rw [hi]; simp

/-- The sigmoid of a product, as the kernel writes it. -/
abbrev sigm (z : EReal) : EReal :=
  Ideal.ofBits FTy.f32 0x3F000000#32 * (Ideal.tanh (Ideal.ofBits FTy.f32 0x3F000000#32 * z) + Ideal.ofBits FTy.f32 0x3F800000#32)

/-- The stored block at an entry. -/
theorem out_apply (x0 : Vec Ideal S1024x4096 .bf16) (x1 : Vec Ideal S4096x1024 .bf16) (x2 : Vec Ideal S32x11008 .f32) (x3 : Vec Ideal S32x11008 .f32) (x4 : Vec Ideal S128x2048 .bf16) (x5 : Vec Ideal S128x2048 .bf16) (x6 : Vec Ideal S1x2048 .f32) (x7 : Vec Ideal S1x2048 .f32) (x8 : Vec Ideal S8x128x256 .bf16) (x9 : Vec Ideal S128x2048 .f32) (n e : Fin 1024) :
    (out0_10 x0 x1 x2 x3 x4 x5 x6 x7 x8 x9 (ix2 n e) : EReal) = sigm (∑ k : Fin 4096, (x0 (ix2 n k) : EReal) * x1 (ix2 k e)) := by
  have hz : (![0, 0] : Fin 2 → Nat) = fun _ => 0 := by funext a; fin_cases a <;> rfl
  have h : out0_10 x0 x1 x2 x3 x4 x5 x6 x7 x8 x9 = k0_pay1 x0 x1 := by
    unfold out0_10
    rw [View.canon_unit_zero hz, View.ld_unit_zero hz, View.ld_unit_zero hz]
  rw [h]
  unfold k0_pay1
  rw [shapeCast_self]
  have hm := Prod.mm (φ₁ := .bf16) (φ₂ := .bf16) (M := 1024) (K := 4096) (N := 1024) x0 x1 n e
  refine Eq.trans (α := EReal) ?_ (congrArg sigm hm)
  rfl

/-- The output array after the run, at an entry of the block of point `t`. -/
theorem out10 (t : Fin cfg0.N) (n e : Fin 1024) (h : t.val / 8 * 1024 + n.val < 16384) (h' : t.val % 8 * 1024 + e.val < 8192) :
    (dats m 0 c).arrAt 10 cfg0.N (ix2 ⟨t.val / 8 * 1024 + n.val, h⟩ ⟨t.val % 8 * 1024 + e.val, h'⟩)
      = out0_10 (iblk m c 0 t) (iblk m c 1 t) (iblk m c 2 t) (iblk m c 3 t) (iblk m c 4 t) (iblk m c 5 t) (iblk m c 6 t) (iblk m c 7 t) (iblk m c 8 t) (iblk m c 9 t) (ix2 n e) := by
  have hf : (cfg0.win 10).flush t = true := (by decide +kernel : ∀ t : Fin grid0.N, win0_10.flush t = true) t
  have hb := congrFun ((Value.blocks10 m c t hf).trans (Value.flushed10 m c t)) (ix2 n e)
  generalize (dats m 0 c).arrAt 10 cfg0.N = A at hb ⊢
  generalize out0_10 (iblk m c 0 t) (iblk m c 1 t) (iblk m c 2 t) (iblk m c 3 t) (iblk m c 4 t) (iblk m c 5 t) (iblk m c 6 t) (iblk m c 7 t) (iblk m c 8 t) (iblk m c 9 t) = o at hb ⊢
  have hc : (cfg0.win 10).cut (grid0.coords t) o (ix2 n e) = o (ix2 n e) := rfl
  refine Eq.trans ?_ (hb.trans hc)
  show A _ = A (((cfg0.win 10).blk t).view.emb (ix2 n e))
  refine congrArg _ (funext fun a => Fin.ext ?_)
  have hi := (idx t).2.2.2.2.1
  match a with
  | ⟨0, _⟩ => show t.val / 8 * 1024 + n.val = win0_10.index t (0 : Fin 2) * 1024 + 1 * n.val; rw [hi]; simp
  | ⟨1, _⟩ => show t.val % 8 * 1024 + e.val = win0_10.index t (1 : Fin 2) * 1024 + 1 * e.val; rw [hi]; simp

/-- The first cast weights after the run, at an entry of the block of point `t`. -/
theorem out11 (t : Fin cfg0.N) (n : Fin 32) (e : Fin 11008) (h : t.val * 32 + n.val < 4096) :
    ((dats m 0 c).arrAt 11 cfg0.N (ix2 ⟨t.val * 32 + n.val, h⟩ e) : EReal) = iblk m c 2 t (ix2 n e) := by
  have hf : (cfg0.win 11).flush t = true := (by decide +kernel : ∀ t : Fin grid0.N, win0_11.flush t = true) t
  have hb := congrFun ((Value.blocks11 m c t hf).trans (Value.flushed11 m c t)) (ix2 n e)
  have hz : (![0, 0] : Fin 2 → Nat) = fun _ => 0 := by funext a; fin_cases a <;> rfl
  have ho : out0_11 (iblk m c 0 t) (iblk m c 1 t) (iblk m c 2 t) (iblk m c 3 t) (iblk m c 4 t) (iblk m c 5 t) (iblk m c 6 t) (iblk m c 7 t) (iblk m c 8 t) (iblk m c 9 t) = k0_pay2 (iblk m c 2 t) := by
    unfold out0_11
    rw [View.canon_unit_zero hz, View.ld_unit_zero hz]
  rw [ho] at hb
  generalize (dats m 0 c).arrAt 11 cfg0.N = A at hb ⊢
  generalize iblk m c 2 t = o at hb ⊢
  have hc : ((cfg0.win 11).cut (grid0.coords t) (k0_pay2 o) (ix2 n e) : EReal) = o (ix2 n e) := rfl
  refine Eq.trans ?_ (hb.trans hc)
  show A _ = A (((cfg0.win 11).blk t).view.emb (ix2 n e))
  refine congrArg _ (funext fun a => Fin.ext ?_)
  have hi := (idx t).2.2.2.2.2.1
  match a with
  | ⟨0, _⟩ => show t.val * 32 + n.val = win0_11.index t (0 : Fin 2) * 32 + 1 * n.val; rw [hi]; simp
  | ⟨1, _⟩ => show e.val = win0_11.index t (1 : Fin 2) * 11008 + 1 * e.val; rw [hi]; simp

/-- The second cast weights after the run, at an entry of the block of point `t`. -/
theorem out12 (t : Fin cfg0.N) (n : Fin 32) (e : Fin 11008) (h : t.val * 32 + n.val < 4096) :
    ((dats m 0 c).arrAt 12 cfg0.N (ix2 ⟨t.val * 32 + n.val, h⟩ e) : EReal) = iblk m c 3 t (ix2 n e) := by
  have hf : (cfg0.win 12).flush t = true := (by decide +kernel : ∀ t : Fin grid0.N, win0_12.flush t = true) t
  have hb := congrFun ((Value.blocks12 m c t hf).trans (Value.flushed12 m c t)) (ix2 n e)
  have hz : (![0, 0] : Fin 2 → Nat) = fun _ => 0 := by funext a; fin_cases a <;> rfl
  have ho : out0_12 (iblk m c 0 t) (iblk m c 1 t) (iblk m c 2 t) (iblk m c 3 t) (iblk m c 4 t) (iblk m c 5 t) (iblk m c 6 t) (iblk m c 7 t) (iblk m c 8 t) (iblk m c 9 t) = k0_pay3 (iblk m c 3 t) := by
    unfold out0_12
    rw [View.canon_unit_zero hz, View.ld_unit_zero hz]
  rw [ho] at hb
  generalize (dats m 0 c).arrAt 12 cfg0.N = A at hb ⊢
  generalize iblk m c 3 t = o at hb ⊢
  have hc : ((cfg0.win 12).cut (grid0.coords t) (k0_pay3 o) (ix2 n e) : EReal) = o (ix2 n e) := rfl
  refine Eq.trans ?_ (hb.trans hc)
  show A _ = A (((cfg0.win 12).blk t).view.emb (ix2 n e))
  refine congrArg _ (funext fun a => Fin.ext ?_)
  have hi := (idx t).2.2.2.2.2.2
  match a with
  | ⟨0, _⟩ => show t.val * 32 + n.val = win0_12.index t (0 : Fin 2) * 32 + 1 * n.val; rw [hi]; simp
  | ⟨1, _⟩ => show e.val = win0_12.index t (1 : Fin 2) * 11008 + 1 * e.val; rw [hi]; simp

/-- The reference's product. -/
abbrev proj (x : FVec Ideal S16384x4096 .bf16) (w : FVec Ideal S4096x18432 .f32) : FVec Ideal S16384x8192 .f32 :=
  Host.dotGeneral Cert.Reference6Ideal.dot_S16384x4096_S4096x8192_S16384x8192_1_0_0_1_n_n none (extf .f32 x bitsLt_bf16_f32)
    (extractStridedSlice Cert.Reference6Ideal.S4096x8192 ![0, 10240] w Cert.Reference6Ideal.Facts₀.slices_S4096x18432_S4096x8192_0_10240)

/-- The literal one, at every entry. -/
abbrev ones : FVec Ideal S16384x8192 .f32 :=
  broadcastInDim S16384x8192 ![] Cert.Reference6Ideal.Facts₀.bcast_S_S16384x8192 (constant Cert.Reference6Ideal.S_ .f32 0x3F800000#32)

/-- The reference's term. -/
abbrev res (x : FVec Ideal S16384x4096 .bf16) (w : FVec Ideal S4096x18432 .f32) : FVec Ideal S16384x8192 .bf16 :=
  truncf .bf16 (Host.divf ones (addf ones (Host.exp (Host.negf (proj x w))))) bitsLt_bf16_f32

/-- The reference's product at an entry. -/
theorem proj_apply (x : FVec Ideal S16384x4096 .bf16) (w : FVec Ideal S4096x18432 .f32) (p : Fin 16384) (q : Fin 8192) :
    (proj x w (ix2 p q) : EReal) = ∑ k : Fin 4096, (x (ix2 p k) : EReal) * w (ix2 k ⟨10240 + q.val, by omega⟩) := by
  refine (Prod.dg (M := 16384) (K := 4096) (N := 8192) (extf .f32 x bitsLt_bf16_f32) _ p q).trans (Finset.sum_congr rfl fun k _ => ?_)
  refine congrArg (fun z : EReal => (x (ix2 p k) : EReal) * z) (congrArg w (funext fun a => Fin.ext ?_))
  match a with
  | ⟨0, _⟩ => show 0 + k.val = k.val; omega
  | ⟨1, _⟩ => show 10240 + q.val = 10240 + q.val; rfl

/-- The reference's term at an entry. -/
theorem res_apply (x : FVec Ideal S16384x4096 .bf16) (w : FVec Ideal S4096x18432 .f32) (i : S16384x8192.Idx) :
    (res x w i : EReal) = sigm (proj x w i) :=
  (Act.sigmoid _).symm

/-- The kernel's gates are the reference's. -/
theorem value : (dats m 0 c).arrAt 10 cfg0.N = res (tok m c) (wgt m c) := by
  funext i
  obtain ⟨p, q, rfl⟩ := Prod.split i
  let t : Fin cfg0.N := ⟨p.val / 1024 * 8 + q.val / 1024, by show _ < 128; omega⟩
  have ht : t.val = p.val / 1024 * 8 + q.val / 1024 := rfl
  let n : Fin 1024 := ⟨p.val % 1024, by omega⟩
  let e : Fin 1024 := ⟨q.val % 1024, by omega⟩
  have hn : n.val = p.val % 1024 := rfl
  have he : e.val = q.val % 1024 := rfl
  have h : t.val / 8 * 1024 + n.val < 16384 := by omega
  have h' : t.val % 8 * 1024 + e.val < 8192 := by omega
  have hp : p = ⟨t.val / 8 * 1024 + n.val, h⟩ := Fin.ext (by show p.val = t.val / 8 * 1024 + n.val; omega)
  have hq : q = ⟨t.val % 8 * 1024 + e.val, h'⟩ := Fin.ext (by show q.val = t.val % 8 * 1024 + e.val; omega)
  clear_value t n e
  subst hp hq
  refine (out10 m c t n e h h').trans ((out_apply _ _ _ _ _ _ _ _ _ _ n e).trans (Eq.trans ?_ (res_apply _ _ _).symm))
  refine congrArg sigm (Eq.trans ?_ (proj_apply _ _ _ _).symm)
  exact Finset.sum_congr rfl fun k _ => congrArg₂ (· * ·) (iblk0 m c t n k h) (iblk1 m c t k e h')

/-- Cast weights, as the reference has them. -/
abbrev cst (w : FVec Ideal S4096x11008 .f32) : FVec Ideal S4096x11008 .bf16 := truncf .bf16 w bitsLt_bf16_f32

/-- The kernel's cast weights are the reference's. -/
theorem value_casts : (dats m 0 c).arrAt 11 cfg0.N = cst (wg m c) ∧ (dats m 0 c).arrAt 12 cfg0.N = cst (wu m c) := by
  constructor <;> funext i <;> obtain ⟨p, q, rfl⟩ := Prod.split i
  all_goals
    have h : p.val / 32 * 32 + p.val % 32 < 4096 := by omega
    have hp : p = ⟨p.val / 32 * 32 + p.val % 32, h⟩ := Fin.ext (by show p.val = p.val / 32 * 32 + p.val % 32; omega)
    rw [hp]
  · exact (out11 m c ⟨p.val / 32, by show _ < 128; omega⟩ ⟨p.val % 32, by omega⟩ q h).trans (iblk2 m c ⟨p.val / 32, by show _ < 128; omega⟩ ⟨p.val % 32, by omega⟩ q h)
  · exact (out12 m c ⟨p.val / 32, by show _ < 128; omega⟩ ⟨p.val % 32, by omega⟩ q h).trans (iblk3 m c ⟨p.val / 32, by show _ < 128; omega⟩ ⟨p.val % 32, by omega⟩ q h)

end Cert.Kernel6Ideal.Gates

end
-- ==== Proof.Heads.lean ====
module

public import proofs.«01_k».proof.Proof.Prod
public import proofs.«01_k».proof.Proof.Gen.Kernel7Ideal.Value
public import proofs.«01_k».proof.Proof.Gen.Reference7Ideal.Run
public import Idealize.ShloMosaic.Lib.Tactic

@[expose] public section

set_option maxRecDepth 16384

noncomputable section

/-! The queries' and keys' projection with its norm over each head, and the casts of three weights that ride along. -/

namespace Cert.Kernel7Ideal.Heads

open Idealize.ShloMosaic Idealize.ShloMosaic.TcCoe
open Cert.Kernel7Ideal Cert.Kernel7Ideal.Gen
open scoped BigOperators

/-- A head's features over their root mean square. -/
def nrm (v : Fin 128 → EReal) (f : Fin 128) : EReal :=
  v f * Ideal.rsqrt (Ideal.div (∑ k : Fin 128, v k * v k) (Ideal.ofBits FTy.f32 0x43000000#32) + Ideal.ofBits FTy.f32 0x358637BD#32)

/-- The kernel's norm of the 128 columns of one head. -/
def nrmT (b : FVec Ideal S1024x128 .f32) : FVec Ideal S1024x128 .f32 :=
  mulf b (broadcastTo S1024x128 (rsqrt (addf (divf (shapeCast S1024x1 (multiReduction .add [1] S1024 (mulf b b) 0x00000000#32 reduces_S1024x128_S1024 (.inl rfl) rfl) shapeCasts_S1024_S1024x1)
    (broadcast S1024x1 (Scalar.ofBits .f32 0x43000000#32))) (broadcast S1024x1 (Scalar.ofBits .f32 0x358637BD#32)))) broadcasts_S1024x1_S1024x128)

theorem nrmT_apply (b : FVec Ideal S1024x128 .f32) (n : Fin 1024) (f : Fin 128) : (nrmT b (ix2 n f) : EReal) = nrm (fun k => b (ix2 n k)) f := by
  pointwise [nrmT, nrm]

theorem sl : ∀ h : Fin 8, S1024x1024.Slices ![0, h.val * 128] S1024x128 := by decide

/-- Head `h` of a block of eight, normalised. -/
def head (A : FVec Ideal S1024x1024 .f32) (h : Fin 8) : FVec Ideal S1024x128 .f32 :=
  nrmT (extractStridedSlice S1024x128 ![0, h.val * 128] A (sl h))

theorem head_apply (A : FVec Ideal S1024x1024 .f32) (h : Fin 8) (n : Fin 1024) (f : Fin 128) :
    (head A h (ix2 n f) : EReal) = nrm (fun k => A (ix2 n ⟨h.val * 128 + k.val, by omega⟩)) f := by
  unfold head
  rw [nrmT_apply]
  refine congrArg (fun v => nrm v f) (funext fun k => congrArg A (funext fun a => Fin.ext ?_))
  match a with
  | ⟨0, _⟩ => show 0 + n.val = n.val; omega
  | ⟨1, _⟩ => rfl

theorem cc (A : FVec Ideal S1024x1024 .f32) :
    Shape.Concatenates ((List.ofFn fun h : Fin 8 => (⟨S1024x128, head A h⟩ : (s : Shape) × (s.Idx → EReal))).map (·.1)) S1024x1024 1 :=
  concatenates_S1024x128_S1024x128_S1024x128_S1024x128_S1024x128_S1024x128_S1024x128_S1024x128_S1024x1024_d1

/-- The eight heads side by side. -/
def heads (A : FVec Ideal S1024x1024 .f32) : FVec Ideal S1024x1024 .f32 :=
  concatenate S1024x1024 1 (List.ofFn fun h : Fin 8 => (⟨S1024x128, head A h⟩ : (s : Shape) × (s.Idx → EReal))) (cc A)

theorem heads_apply (A : FVec Ideal S1024x1024 .f32) (h : Fin 8) (n : Fin 1024) (f : Fin 128) :
    (heads A (ix2 n ⟨h.val * 128 + f.val, by omega⟩) : EReal) = head A h (ix2 n f) := by
  refine concatenate_ofFn_apply (s₁ := S1024x128) (t := S1024x1024) 1 (head A) (cc A) rfl 128 rfl _ h ?_ (ix2 n f) ?_ ?_
  · show (h.val * 128 + f.val) / 128 = h.val; omega
  · show f.val = (h.val * 128 + f.val) % 128; omega
  · intro b hb
    match b with
    | ⟨0, _⟩ => rfl
    | ⟨1, _⟩ => exact absurd rfl hb

/-- The block the kernel stores: the heads times their gains. -/
def blk (A : FVec Ideal S1024x1024 .f32) (g : Vec Ideal S1x1024 .f32) : FVec Ideal S1024x1024 .bf16 :=
  truncf .bf16 (mulf (heads A) (broadcastTo S1024x1024 (shapeCast S1x1024 g shapeCasts_S1x1024_S1x1024) broadcasts_S1x1024_S1024x1024)) bitsLt_bf16_f32

theorem blk_apply (A : FVec Ideal S1024x1024 .f32) (g : Vec Ideal S1x1024 .f32) (n e : Fin 1024) :
    (blk A g (ix2 n e) : EReal) = heads A (ix2 n e) * g (ix2 0 e) := by
  unfold blk
  generalize heads A = H
  pointwise

/-- The stored block at an entry. -/
theorem out_apply (x0 : Vec Ideal S1024x4096 .bf16) (x1 : Vec Ideal S4096x1024 .bf16) (x2 : Vec Ideal S1x1024 .f32) (x3 : Vec Ideal S32x4096 .f32) (x4 : Vec Ideal S32x4096 .f32) (x5 : Vec Ideal S64x4096 .f32) (n : Fin 1024) (h : Fin 8) (f : Fin 128) :
    (out0_6 x0 x1 x2 x3 x4 x5 (ix2 n ⟨h.val * 128 + f.val, by omega⟩) : EReal)
      = nrm (fun k => ∑ d : Fin 4096, (x0 (ix2 n d) : EReal) * x1 (ix2 d ⟨h.val * 128 + k.val, by omega⟩)) f * x2 (ix2 0 ⟨h.val * 128 + f.val, by omega⟩) := by
  have hz : (![0, 0] : Fin 2 → Nat) = fun _ => 0 := by funext a; fin_cases a <;> rfl
  have ho : out0_6 x0 x1 x2 x3 x4 x5 = blk (k0_pay5 x0 x1) x2 := by
    unfold_out out0_6
    rw [View.canon_unit_zero hz, View.ld_unit_zero hz, View.ld_unit_zero hz, View.ld_unit_zero hz]
    rfl
  rw [ho, blk_apply, heads_apply, head_apply]
  refine congrArg (fun z : EReal => z * _) (congrArg (fun v => nrm v f) (funext fun k => ?_))
  unfold k0_pay5
  rw [shapeCast_self]
  exact Prod.mm (φ₁ := .bf16) (φ₂ := .bf16) (M := 1024) (K := 4096) (N := 1024) x0 x1 n _

/-- The gains the host lays out: the scaled queries' gain sixteen times, then the keys'. -/
abbrev gains (qg kg : FVec Ideal S128 .f32) : FVec Ideal S1x4096 .f32 :=
  shapeCast S1x4096 (concatenate S4096 0
    [⟨S2048, shapeCast S2048 (broadcastInDim S16x128 ![0, 1] bcast_S1x128_S16x128_0_1 (shapeCast S1x128 (mulf qg (broadcastInDim S128 ![] bcast_S_S128 (constant S_ .f32 0x3DB504F3#32))) shapeCasts_S128_S1x128)) shapeCasts_S16x128_S2048⟩,
     ⟨S2048, shapeCast S2048 (broadcastInDim S16x128 ![0, 1] bcast_S1x128_S16x128_0_1 (shapeCast S1x128 kg shapeCasts_S128_S1x128)) shapeCasts_S16x128_S2048⟩]
    concatenates_S2048_S2048_S4096_d0) shapeCasts_S4096_S1x4096

theorem gains_left (qg kg : FVec Ideal S128 .f32) (g : Fin 16) (f : Fin 128) :
    (gains qg kg (ix2 0 ⟨g.val * 128 + f.val, by omega⟩) : EReal) = qg (ix1 f) * Ideal.ofBits FTy.f32 0x3DB504F3#32 := by
  pointwise [gains]
  rw [dif_pos (by omega)]

theorem gains_right (qg kg : FVec Ideal S128 .f32) (g : Fin 16) (f : Fin 128) :
    (gains qg kg (ix2 0 ⟨2048 + (g.val * 128 + f.val), by omega⟩) : EReal) = kg (ix1 f) := by
  pointwise [gains]

open Cert.Reference7Ideal.Facts₀ in
/-- The reference's norm of sixteen heads, times their gain. -/
abbrev hn (A : FVec Ideal Cert.Reference7Ideal.S16384x2048 .f32) (g : FVec Ideal S128 .f32) : FVec Ideal Cert.Reference7Ideal.S16384x2048 .f32 :=
  shapeCast _ (mulf (mulf (shapeCast Cert.Reference7Ideal.S16384x16x128 A shapeCasts_S16384x2048_S16384x16x128)
    (broadcastInDim Cert.Reference7Ideal.S16384x16x128 ![0, 1, 2] bcast_S16384x16x1_S16384x16x128_0_1_2 (Host.rsqrt (addf (Host.divf (broadcastInDim Cert.Reference7Ideal.S16384x16x1 ![0, 1] bcast_S16384x16_S16384x16x1_0_1
      (Host.reduceAdd (mulf (shapeCast _ A shapeCasts_S16384x2048_S16384x16x128) (shapeCast _ A shapeCasts_S16384x2048_S16384x16x128)) (constant Cert.Reference7Ideal.S_ .f32 0x00000000#32) reducesTo_S16384x16x128_S16384x16_d2 h_S_))
      (broadcastInDim Cert.Reference7Ideal.S16384x16x1 ![] bcast_S_S16384x16x1 (constant Cert.Reference7Ideal.S_ .f32 0x43000000#32))) (broadcastInDim Cert.Reference7Ideal.S16384x16x1 ![] bcast_S_S16384x16x1 (constant Cert.Reference7Ideal.S_ .f32 0x358637BD#32))))))
    (broadcastInDim Cert.Reference7Ideal.S16384x16x128 ![0, 1, 2] bcast_S1x1x128_S16384x16x128_0_1_2 (broadcastInDim Cert.Reference7Ideal.S1x1x128 ![2] bcast_S128_S1x1x128_2 g))) shapeCasts_S16384x16x128_S16384x2048

theorem hn_apply (A : FVec Ideal Cert.Reference7Ideal.S16384x2048 .f32) (w : FVec Ideal S128 .f32) (p : Fin 16384) (g : Fin 16) (f : Fin 128) :
    (hn A w (ix2 p ⟨g.val * 128 + f.val, by omega⟩) : EReal) = nrm (fun k => A (ix2 p ⟨g.val * 128 + k.val, by omega⟩)) f * w (ix1 f) := by
  pointwise [hn, nrm]

/-- The two halves side by side, cast. -/
abbrev cat (A B : FVec Ideal Cert.Reference7Ideal.S16384x2048 .f32) : FVec Ideal S16384x4096 .bf16 :=
  truncf .bf16 (concatenate S16384x4096 1 [⟨Cert.Reference7Ideal.S16384x2048, A⟩, ⟨Cert.Reference7Ideal.S16384x2048, B⟩] Cert.Reference7Ideal.Facts₀.concatenates_S16384x2048_S16384x2048_S16384x4096_d1) bitsLt_bf16_f32

theorem cat_left (A B : FVec Ideal Cert.Reference7Ideal.S16384x2048 .f32) (p : Fin 16384) (q : Fin 2048) : (cat A B (ix2 p ⟨q.val, by omega⟩) : EReal) = A (ix2 p q) := by
  pointwise [cat]

theorem cat_right (A B : FVec Ideal Cert.Reference7Ideal.S16384x2048 .f32) (p : Fin 16384) (q : Fin 2048) : (cat A B (ix2 p ⟨2048 + q.val, by omega⟩) : EReal) = B (ix2 p q) := by
  pointwise [cat]

/-- The reference's product. -/
abbrev proj (x : FVec Ideal S16384x4096 .bf16) (w : FVec Ideal S4096x18432 .f32) : FVec Ideal S16384x4096 .f32 :=
  Host.dotGeneral Cert.Reference7Ideal.dot_S16384x4096_S4096x4096_S16384x4096_1_0_0_1_n_n none (extf .f32 x bitsLt_bf16_f32)
    (extractStridedSlice Cert.Reference7Ideal.S4096x4096 ![0, 4096] w Cert.Reference7Ideal.Facts₀.slices_S4096x18432_S4096x4096_0_4096)

/-- An entry of the product. -/
def pr (x : FVec Ideal S16384x4096 .bf16) (w : FVec Ideal S4096x18432 .f32) (p : Fin 16384) (q : Fin 4096) : EReal :=
  ∑ k : Fin 4096, (x (ix2 p k) : EReal) * w (ix2 k ⟨4096 + q.val, by omega⟩)

theorem proj_apply (x : FVec Ideal S16384x4096 .bf16) (w : FVec Ideal S4096x18432 .f32) (p : Fin 16384) (q : Fin 4096) :
    (proj x w (ix2 p q) : EReal) = pr x w p q := by
  refine (Prod.dg (M := 16384) (K := 4096) (N := 4096) (extf .f32 x bitsLt_bf16_f32) _ p q).trans (Finset.sum_congr rfl fun k _ => ?_)
  refine congrArg (fun z : EReal => (x (ix2 p k) : EReal) * z) (congrArg w (funext fun a => Fin.ext ?_))
  match a with
  | ⟨0, _⟩ => show 0 + k.val = k.val; omega
  | ⟨1, _⟩ => rfl

/-- The queries' and the keys' columns of the product. -/
abbrev half (o : Fin 2 → ℕ) (h : S16384x4096.Slices o Cert.Reference7Ideal.S16384x2048) (A : FVec Ideal S16384x4096 .f32) : FVec Ideal Cert.Reference7Ideal.S16384x2048 .f32 :=
  extractStridedSlice Cert.Reference7Ideal.S16384x2048 o A h

/-- The reference's term. -/
abbrev res (x : FVec Ideal S16384x4096 .bf16) (w : FVec Ideal S4096x18432 .f32) (qg kg : FVec Ideal S128 .f32) : FVec Ideal S16384x4096 .bf16 :=
  cat (mulf (hn (half ![0, 0] Cert.Reference7Ideal.Facts₀.slices_S16384x4096_S16384x2048_0_0 (proj x w)) qg) (broadcastInDim Cert.Reference7Ideal.S16384x2048 ![] Cert.Reference7Ideal.Facts₀.bcast_S_S16384x2048 (constant Cert.Reference7Ideal.S_ .f32 0x3DB504F3#32)))
    (hn (half ![0, 2048] Cert.Reference7Ideal.Facts₀.slices_S16384x4096_S16384x2048_0_2048 (proj x w)) kg)

/-- A normalised, scaled query of the reference. -/
theorem res_left (x : FVec Ideal S16384x4096 .bf16) (w : FVec Ideal S4096x18432 .f32) (qg kg : FVec Ideal S128 .f32) (p : Fin 16384) (g : Fin 16) (f : Fin 128) :
    (res x w qg kg (ix2 p ⟨g.val * 128 + f.val, by omega⟩) : EReal)
      = nrm (fun k => pr x w p ⟨g.val * 128 + k.val, by omega⟩) f * gains qg kg (ix2 0 ⟨g.val * 128 + f.val, by omega⟩) := by
  rw [gains_left, ← mul_assoc]
  refine (cat_left _ _ p ⟨g.val * 128 + f.val, by omega⟩).trans (congrArg (fun z : EReal => z * Ideal.ofBits FTy.f32 0x3DB504F3#32) ((hn_apply _ _ p g f).trans ?_))
  refine congrArg (fun z : EReal => z * _) (congrArg (fun v => nrm v f) (funext fun k => Eq.trans (congrArg (proj x w) (funext fun a => Fin.ext ?_)) (proj_apply x w p _)))
  match a with
  | ⟨0, _⟩ => show 0 + p.val = p.val; omega
  | ⟨1, _⟩ => show 0 + (g.val * 128 + k.val) = g.val * 128 + k.val; omega

/-- A normalised key of the reference. -/
theorem res_right (x : FVec Ideal S16384x4096 .bf16) (w : FVec Ideal S4096x18432 .f32) (qg kg : FVec Ideal S128 .f32) (p : Fin 16384) (g : Fin 16) (f : Fin 128) :
    (res x w qg kg (ix2 p ⟨2048 + (g.val * 128 + f.val), by omega⟩) : EReal)
      = nrm (fun k => pr x w p ⟨2048 + (g.val * 128 + k.val), by omega⟩) f * gains qg kg (ix2 0 ⟨2048 + (g.val * 128 + f.val), by omega⟩) := by
  rw [gains_right]
  refine (cat_right _ _ p ⟨g.val * 128 + f.val, by omega⟩).trans ((hn_apply _ _ p g f).trans ?_)
  refine congrArg (fun z : EReal => z * _) (congrArg (fun v => nrm v f) (funext fun k => Eq.trans (congrArg (proj x w) (funext fun a => Fin.ext ?_)) (proj_apply x w p _)))
  match a with
  | ⟨0, _⟩ => show 0 + p.val = p.val; omega
  | ⟨1, _⟩ => rfl

variable (m : (ℓ : Loc nD τ sig) → Buf (Elt Ideal) ℓ) (c : Dev nD)

/-- The normalised tokens. -/
abbrev tok : S16384x4096.Idx → EReal := m ((c : Thread nD τ).loc main_arg0)
/-- The input weights. -/
abbrev wgt : S4096x18432.Idx → EReal := m ((c : Thread nD τ).loc main_arg1)
/-- The queries' gain. -/
abbrev qg : S128.Idx → EReal := m ((c : Thread nD τ).loc main_arg2)
/-- The keys' gain. -/
abbrev kg : S128.Idx → EReal := m ((c : Thread nD τ).loc main_arg3)
/-- The first of the three weights that are cast. -/
abbrev wa : S2048x4096.Idx → EReal := m ((c : Thread nD τ).loc main_arg4)
/-- The second. -/
abbrev wb : S2048x4096.Idx → EReal := m ((c : Thread nD τ).loc main_arg5)
/-- The third. -/
abbrev wo : S4096x4096.Idx → EReal := m ((c : Thread nD τ).loc main_arg6)

/-- The block indices of point `t`: the column block moves fastest. -/
theorem idx (t : Fin cfg0.N) : win0_0.index t = ![t.val / 4, 0] ∧ win0_1.index t = ![0, t.val % 4 + 4] ∧ win0_2.index t = ![0, t.val % 4]
    ∧ win0_3.index t = ![t.val, 0] ∧ win0_4.index t = ![t.val, 0] ∧ win0_5.index t = ![t.val, 0]
    ∧ win0_6.index t = ![t.val / 4, t.val % 4] ∧ win0_7.index t = ![t.val, 0] ∧ win0_8.index t = ![t.val, 0] ∧ win0_9.index t = ![t.val, 0] :=
  (by decide +kernel : ∀ t : Fin grid0.N, win0_0.index t = ![t.val / 4, 0] ∧ win0_1.index t = ![0, t.val % 4 + 4] ∧ win0_2.index t = ![0, t.val % 4]
    ∧ win0_3.index t = ![t.val, 0] ∧ win0_4.index t = ![t.val, 0] ∧ win0_5.index t = ![t.val, 0]
    ∧ win0_6.index t = ![t.val / 4, t.val % 4] ∧ win0_7.index t = ![t.val, 0] ∧ win0_8.index t = ![t.val, 0] ∧ win0_9.index t = ![t.val, 0]) t

/-- The weights the host casts. -/
theorem V_wgt (i : S4096x18432.Idx) : (V m c main_v10 i : EReal) = wgt m c i := by
  have h : V m c main_v10 = (truncf .bf16 (wgt m c : FVec Ideal S4096x18432 .f32) bitsLt_bf16_f32 : FVec Ideal S4096x18432 .bf16) := by
    show StableHlo.after hostOps0 (fun b => m (c, b)) main_v10 = _
    unfold hostOps0
    after_results
  exact congrFun h _

/-- The gains the host lays out. -/
theorem V_gains : V m c main_v9 = gains (qg m c) (kg m c) := by
  show StableHlo.after hostOps0 (fun b => m (c, b)) main_v9 = _
  unfold hostOps0
  after_results
  rfl

/-- The tokens' block. -/
theorem iblk0 (t : Fin cfg0.N) (n : Fin 1024) (e : Fin 4096) (h : t.val / 4 * 1024 + n.val < 16384) :
    iblk m c 0 t (ix2 n e) = tok m c (ix2 ⟨t.val / 4 * 1024 + n.val, h⟩ e) := by
  refine Eq.trans ?_ (congrFun (V_main_arg0 m c) _)
  show V m c main_arg0 (((cfg0.win 0).blk t).view.emb (ix2 n e)) = _
  refine congrArg _ (funext fun a => Fin.ext ?_)
  have hi := (idx t).1
  match a with
  | ⟨0, _⟩ => show win0_0.index t (0 : Fin 2) * 1024 + 1 * n.val = t.val / 4 * 1024 + n.val; rw [hi]; simp
  | ⟨1, _⟩ => show win0_0.index t (1 : Fin 2) * 4096 + 1 * e.val = e.val; rw [hi]; simp

/-- The weights' block: the queries' columns begin at 4096. -/
theorem iblk1 (t : Fin cfg0.N) (n : Fin 4096) (e : Fin 1024) (h : t.val % 4 * 1024 + e.val < 4096) :
    (iblk m c 1 t (ix2 n e) : EReal) = wgt m c (ix2 n ⟨4096 + (t.val % 4 * 1024 + e.val), by omega⟩) := by
  refine Eq.trans ?_ (V_wgt m c (ix2 n ⟨4096 + (t.val % 4 * 1024 + e.val), by omega⟩))
  show V m c main_v10 (((cfg0.win 1).blk t).view.emb (ix2 n e)) = _
  refine congrArg _ (funext fun a => Fin.ext ?_)
  have hi := (idx t).2.1
  match a with
  | ⟨0, _⟩ => show win0_1.index t (0 : Fin 2) * 4096 + 1 * n.val = n.val; rw [hi]; simp
  | ⟨1, _⟩ => show win0_1.index t (1 : Fin 2) * 1024 + 1 * e.val = 4096 + (t.val % 4 * 1024 + e.val); rw [hi]; show (t.val % 4 + 4) * 1024 + 1 * e.val = _; omega

/-- The gains' block. -/
theorem iblk2 (t : Fin cfg0.N) (e : Fin 1024) (h : t.val % 4 * 1024 + e.val < 4096) :
    (iblk m c 2 t (ix2 0 e) : EReal) = gains (qg m c) (kg m c) (ix2 0 ⟨t.val % 4 * 1024 + e.val, h⟩) := by
  refine Eq.trans ?_ (congrFun (V_gains m c) _)
  show V m c main_v9 (((cfg0.win 2).blk t).view.emb (ix2 0 e)) = _
  refine congrArg _ (funext fun a => Fin.ext ?_)
  have hi := (idx t).2.2.1
  match a with
  | ⟨0, _⟩ => show win0_2.index t (0 : Fin 2) * 1 + 1 * 0 = 0; rw [hi]; simp
  | ⟨1, _⟩ => show win0_2.index t (1 : Fin 2) * 1024 + 1 * e.val = t.val % 4 * 1024 + e.val; rw [hi]; simp

/-- The output array after the run, at an entry of the block of point `t`. -/
theorem out6 (t : Fin cfg0.N) (n e : Fin 1024) (h : t.val / 4 * 1024 + n.val < 16384) (h' : t.val % 4 * 1024 + e.val < 4096) :
    (dats m 0 c).arrAt 6 cfg0.N (ix2 ⟨t.val / 4 * 1024 + n.val, h⟩ ⟨t.val % 4 * 1024 + e.val, h'⟩)
      = out0_6 (iblk m c 0 t) (iblk m c 1 t) (iblk m c 2 t) (iblk m c 3 t) (iblk m c 4 t) (iblk m c 5 t) (ix2 n e) := by
  have hf : (cfg0.win 6).flush t = true := (by decide +kernel : ∀ t : Fin grid0.N, win0_6.flush t = true) t
  have hb := congrFun ((Value.blocks6 m c t hf).trans (Value.flushed6 m c t)) (ix2 n e)
  generalize (dats m 0 c).arrAt 6 cfg0.N = A at hb ⊢
  generalize out0_6 (iblk m c 0 t) (iblk m c 1 t) (iblk m c 2 t) (iblk m c 3 t) (iblk m c 4 t) (iblk m c 5 t) = o at hb ⊢
  have hc : (cfg0.win 6).cut (grid0.coords t) o (ix2 n e) = o (ix2 n e) := rfl
  refine Eq.trans ?_ (hb.trans hc)
  show A _ = A (((cfg0.win 6).blk t).view.emb (ix2 n e))
  refine congrArg _ (funext fun a => Fin.ext ?_)
  have hi := (idx t).2.2.2.2.2.2.1
  match a with
  | ⟨0, _⟩ => show t.val / 4 * 1024 + n.val = win0_6.index t (0 : Fin 2) * 1024 + 1 * n.val; rw [hi]; simp
  | ⟨1, _⟩ => show t.val % 4 * 1024 + e.val = win0_6.index t (1 : Fin 2) * 1024 + 1 * e.val; rw [hi]; simp

/-- The output array after the run: a normalised head's feature times its gain. -/
theorem out_at (t : Fin cfg0.N) (n : Fin 1024) (h : Fin 8) (f : Fin 128) (P : Fin 16384) (hP : P.val = t.val / 4 * 1024 + n.val) :
    ((dats m 0 c).arrAt 6 cfg0.N (ix2 P ⟨t.val % 4 * 1024 + (h.val * 128 + f.val), by omega⟩) : EReal)
      = nrm (fun k => pr (tok m c) (wgt m c) P ⟨t.val % 4 * 1024 + (h.val * 128 + k.val), by omega⟩) f
        * gains (qg m c) (kg m c) (ix2 0 ⟨t.val % 4 * 1024 + (h.val * 128 + f.val), by omega⟩) := by
  have hp : t.val / 4 * 1024 + n.val < 16384 := by omega
  obtain rfl : P = ⟨t.val / 4 * 1024 + n.val, hp⟩ := Fin.ext hP
  refine (out6 m c t n ⟨h.val * 128 + f.val, by omega⟩ hp (by show _ + (h.val * 128 + f.val) < _; omega)).trans ((out_apply _ _ _ _ _ _ n h f).trans ?_)
  refine congrArg₂ (· * ·) (congrArg (fun v => nrm v f) (funext fun k => Finset.sum_congr rfl fun d _ => ?_)) (iblk2 m c t _ (by show _ + (h.val * 128 + f.val) < _; omega))
  exact congrArg₂ (· * ·) (iblk0 m c t n d hp) (iblk1 m c t d _ (by show _ + (h.val * 128 + k.val) < _; omega))

/-- The kernel's queries and keys are the reference's. -/
theorem value : (dats m 0 c).arrAt 6 cfg0.N = res (tok m c) (wgt m c) (qg m c) (kg m c) := by
  funext i
  obtain ⟨P, q, rfl⟩ := Prod.split i
  have hN : P.val / 1024 * 4 + q.val / 1024 < 64 := by omega
  have key := out_at m c ⟨P.val / 1024 * 4 + q.val / 1024, hN⟩ ⟨P.val % 1024, by omega⟩ ⟨q.val % 1024 / 128, by omega⟩ ⟨q.val % 128, by omega⟩ P (by show P.val = (P.val / 1024 * 4 + q.val / 1024) / 4 * 1024 + P.val % 1024; omega)
  have hk : ∀ k : ℕ, (P.val / 1024 * 4 + q.val / 1024) % 4 * 1024 + (q.val % 1024 / 128 * 128 + k) = q.val / 128 * 128 + k := fun k => by omega
  have hq : q.val / 128 * 128 + q.val % 128 = q.val := by omega
  simp only [hk, hq] at key
  by_cases hl : q.val < 2048
  · have r := res_left (tok m c) (wgt m c) (qg m c) (kg m c) P ⟨q.val / 128, by omega⟩ ⟨q.val % 128, by omega⟩
    simp only [hq] at r
    exact key.trans r.symm
  · have r := res_right (tok m c) (wgt m c) (qg m c) (kg m c) P ⟨(q.val - 2048) / 128, by omega⟩ ⟨q.val % 128, by omega⟩
    have hk' : ∀ k : ℕ, 2048 + ((q.val - 2048) / 128 * 128 + k) = q.val / 128 * 128 + k := fun k => by omega
    simp only [hk', hq] at r
    exact key.trans r.symm

/-- The entry of an array of rows that a block of `r` rows, all 4096 columns wide, has at row `n`. -/
theorem at_row {r N : ℕ} {t : ℕ} {n : Fin r} {e : Fin 4096} (h : t * r + n.val < N) {v : Fin 2 → ℕ} (hv : v = ![t, 0]) {i : Shape.Idx ⟨2, ![N, 4096]⟩}
    (h0 : (i 0).val = v 0 * r + 1 * n.val) (h1 : (i 1).val = v 1 * 4096 + 1 * e.val) : i = ix2 ⟨t * r + n.val, h⟩ e := by
  subst hv
  funext a
  refine Fin.ext ?_
  match a with
  | ⟨0, _⟩ => exact h0.trans (by simp)
  | ⟨1, _⟩ => exact h1.trans (by simp)

/-- Two arrays of 64 blocks of rows are equal when their blocks are. -/
theorem by_rows {r N : ℕ} (hN : N = 64 * r) {A B : Shape.Idx ⟨2, ![N, 4096]⟩ → EReal}
    (h : ∀ (t : Fin 64) (n : Fin r) (e : Fin 4096) (hl : t.val * r + n.val < N), A (ix2 ⟨t.val * r + n.val, hl⟩ e) = B (ix2 ⟨t.val * r + n.val, hl⟩ e)) : A = B := by
  subst hN
  funext i
  obtain ⟨p, q, rfl⟩ := Prod.split i
  have hr : 0 < r := by
    have hl := p.isLt
    omega
  have hp : p.val / r * r + p.val % r = p.val := Nat.div_add_mod' _ _
  have key := h ⟨p.val / r, Nat.div_lt_of_lt_mul (p.isLt.trans_eq (Nat.mul_comm 64 r))⟩ ⟨p.val % r, Nat.mod_lt _ hr⟩ q (by show p.val / r * r + p.val % r < _; rw [hp]; exact p.isLt)
  simp only [hp] at key
  exact key

/-- A block of weights to cast. -/
theorem iblk3 (t : Fin cfg0.N) (n : Fin 32) (e : Fin 4096) (h : t.val * 32 + n.val < 2048) :
    iblk m c 3 t (ix2 n e) = wa m c (ix2 ⟨t.val * 32 + n.val, h⟩ e) := by
  refine Eq.trans ?_ (congrFun (V_main_arg4 m c) _)
  show V m c main_arg4 (((cfg0.win 3).blk t).view.emb (ix2 n e)) = _
  exact congrArg _ (at_row h (idx t).2.2.2.1 rfl rfl)

/-- A block of weights to cast. -/
theorem iblk4 (t : Fin cfg0.N) (n : Fin 32) (e : Fin 4096) (h : t.val * 32 + n.val < 2048) :
    iblk m c 4 t (ix2 n e) = wb m c (ix2 ⟨t.val * 32 + n.val, h⟩ e) := by
  refine Eq.trans ?_ (congrFun (V_main_arg5 m c) _)
  show V m c main_arg5 (((cfg0.win 4).blk t).view.emb (ix2 n e)) = _
  exact congrArg _ (at_row h (idx t).2.2.2.2.1 rfl rfl)

/-- A block of weights to cast. -/
theorem iblk5 (t : Fin cfg0.N) (n : Fin 64) (e : Fin 4096) (h : t.val * 64 + n.val < 4096) :
    iblk m c 5 t (ix2 n e) = wo m c (ix2 ⟨t.val * 64 + n.val, h⟩ e) := by
  refine Eq.trans ?_ (congrFun (V_main_arg6 m c) _)
  show V m c main_arg6 (((cfg0.win 5).blk t).view.emb (ix2 n e)) = _
  exact congrArg _ (at_row h (idx t).2.2.2.2.2.1 rfl rfl)

/-- The offsets of a block that is a whole buffer. -/
theorem origin : (![0, 0] : Fin 2 → Nat) = fun _ => 0 := by funext a; fin_cases a <;> rfl

/-- Cast weights after the run, at an entry of the block of point `t`. -/
theorem out7 (t : Fin cfg0.N) (n : Fin 32) (e : Fin 4096) (h : t.val * 32 + n.val < 2048) :
    ((dats m 0 c).arrAt 7 cfg0.N (ix2 ⟨t.val * 32 + n.val, h⟩ e) : EReal) = iblk m c 3 t (ix2 n e) := by
  have hf : (cfg0.win 7).flush t = true := (by decide +kernel : ∀ t : Fin grid0.N, win0_7.flush t = true) t
  have hb := congrFun ((Value.blocks7 m c t hf).trans (Value.flushed7 m c t)) (ix2 n e)
  have ho : out0_7 (iblk m c 0 t) (iblk m c 1 t) (iblk m c 2 t) (iblk m c 3 t) (iblk m c 4 t) (iblk m c 5 t) = k0_pay2 (iblk m c 3 t) := by
    unfold out0_7
    rw [View.canon_unit_zero origin, View.ld_unit_zero origin]
  rw [ho] at hb
  generalize (dats m 0 c).arrAt 7 cfg0.N = A at hb ⊢
  generalize iblk m c 3 t = o at hb ⊢
  have hc : ((cfg0.win 7).cut (grid0.coords t) (k0_pay2 o) (ix2 n e) : EReal) = o (ix2 n e) := rfl
  refine Eq.trans ?_ (hb.trans hc)
  show A _ = A (((cfg0.win 7).blk t).view.emb (ix2 n e))
  exact congrArg _ (at_row h (idx t).2.2.2.2.2.2.2.1 rfl rfl).symm

/-- Cast weights after the run, at an entry of the block of point `t`. -/
theorem out8 (t : Fin cfg0.N) (n : Fin 32) (e : Fin 4096) (h : t.val * 32 + n.val < 2048) :
    ((dats m 0 c).arrAt 8 cfg0.N (ix2 ⟨t.val * 32 + n.val, h⟩ e) : EReal) = iblk m c 4 t (ix2 n e) := by
  have hf : (cfg0.win 8).flush t = true := (by decide +kernel : ∀ t : Fin grid0.N, win0_8.flush t = true) t
  have hb := congrFun ((Value.blocks8 m c t hf).trans (Value.flushed8 m c t)) (ix2 n e)
  have ho : out0_8 (iblk m c 0 t) (iblk m c 1 t) (iblk m c 2 t) (iblk m c 3 t) (iblk m c 4 t) (iblk m c 5 t) = k0_pay3 (iblk m c 4 t) := by
    unfold out0_8
    rw [View.canon_unit_zero origin, View.ld_unit_zero origin]
  rw [ho] at hb
  generalize (dats m 0 c).arrAt 8 cfg0.N = A at hb ⊢
  generalize iblk m c 4 t = o at hb ⊢
  have hc : ((cfg0.win 8).cut (grid0.coords t) (k0_pay3 o) (ix2 n e) : EReal) = o (ix2 n e) := rfl
  refine Eq.trans ?_ (hb.trans hc)
  show A _ = A (((cfg0.win 8).blk t).view.emb (ix2 n e))
  exact congrArg _ (at_row h (idx t).2.2.2.2.2.2.2.2.1 rfl rfl).symm

/-- Cast weights after the run, at an entry of the block of point `t`. -/
theorem out9 (t : Fin cfg0.N) (n : Fin 64) (e : Fin 4096) (h : t.val * 64 + n.val < 4096) :
    ((dats m 0 c).arrAt 9 cfg0.N (ix2 ⟨t.val * 64 + n.val, h⟩ e) : EReal) = iblk m c 5 t (ix2 n e) := by
  have hf : (cfg0.win 9).flush t = true := (by decide +kernel : ∀ t : Fin grid0.N, win0_9.flush t = true) t
  have hb := congrFun ((Value.blocks9 m c t hf).trans (Value.flushed9 m c t)) (ix2 n e)
  have ho : out0_9 (iblk m c 0 t) (iblk m c 1 t) (iblk m c 2 t) (iblk m c 3 t) (iblk m c 4 t) (iblk m c 5 t) = k0_pay4 (iblk m c 5 t) := by
    unfold out0_9
    rw [View.canon_unit_zero origin, View.ld_unit_zero origin]
  rw [ho] at hb
  generalize (dats m 0 c).arrAt 9 cfg0.N = A at hb ⊢
  generalize iblk m c 5 t = o at hb ⊢
  have hc : ((cfg0.win 9).cut (grid0.coords t) (k0_pay4 o) (ix2 n e) : EReal) = o (ix2 n e) := rfl
  refine Eq.trans ?_ (hb.trans hc)
  show A _ = A (((cfg0.win 9).blk t).view.emb (ix2 n e))
  exact congrArg _ (at_row h (idx t).2.2.2.2.2.2.2.2.2 rfl rfl).symm

/-- Cast weights, as the reference has them. -/
abbrev cst {s : Shape} (w : FVec Ideal s .f32) : FVec Ideal s .bf16 := truncf .bf16 w bitsLt_bf16_f32

/-- The kernel's cast weights are the reference's. -/
theorem value_casts : (dats m 0 c).arrAt 7 cfg0.N = cst (s := S2048x4096) (wa m c) ∧ (dats m 0 c).arrAt 8 cfg0.N = cst (s := S2048x4096) (wb m c)
    ∧ (dats m 0 c).arrAt 9 cfg0.N = cst (s := S4096x4096) (wo m c) := by
  exact ⟨by_rows (r := 32) rfl fun t n e h => (out7 m c t n e h).trans (iblk3 m c t n e h),
    by_rows (r := 32) rfl fun t n e h => (out8 m c t n e h).trans (iblk4 m c t n e h),
    by_rows (r := 64) rfl fun t n e h => (out9 m c t n e h).trans (iblk5 m c t n e h)⟩

end Cert.Kernel7Ideal.Heads

end
-- ==== Proof.lean ====
module

public import proofs.«01_k».proof.Defs
public import proofs.«01_k».proof.Proof.Gen.Kernel
public import proofs.«01_k».proof.Proof.Gen.KernelIdeal
public import proofs.«01_k».proof.Proof.Equal
public import proofs.«01_k».proof.Proof.Finite
public import proofs.«01_k».proof.Proof.Gen.ReferenceIdeal
public import proofs.«01_k».proof.Proof.Gen.ReferenceIdeal.Run
public import proofs.«01_k».proof.Proof.Gen.Kernel2
public import proofs.«01_k».proof.Proof.Ffn
public import proofs.«01_k».proof.Proof.Gen.Kernel3
public import proofs.«01_k».proof.Proof.Out
public import proofs.«01_k».proof.Proof.Gen.Kernel4
public import proofs.«01_k».proof.Proof.Merge
public import proofs.«01_k».proof.Proof.Gen.Kernel5
public import proofs.«01_k».proof.Proof.Gen.Kernel5Ideal.Value
public import proofs.«01_k».proof.Proof.Gelu
public import proofs.«01_k».proof.Proof.Gen.Reference5Ideal.Run
public import proofs.«01_k».proof.Proof.Gen.Kernel6
public import proofs.«01_k».proof.Proof.Gen.Kernel6Ideal.Value
public import proofs.«01_k».proof.Proof.Gates
public import proofs.«01_k».proof.Proof.Gen.Reference6Ideal.Run
public import proofs.«01_k».proof.Proof.Gen.Kernel7
public import proofs.«01_k».proof.Proof.Gen.Kernel7Ideal.Value
public import proofs.«01_k».proof.Proof.Heads
public import proofs.«01_k».proof.Proof.Gen.Reference7Ideal.Run
public import Idealize.ShloMosaic.Lib.Tactic
public import Idealize.ShloMosaic.Adequacy
public import Idealize.ShloMosaic.Init

@[expose] public section

noncomputable section

namespace Cert.Proof

open Idealize.ShloMosaic Idealize.SL.Sem

/-- The printed kernel runs, keeps its arguments and ends with every counter at zero. -/
theorem frame_p : Cert.quiescent_Kernel := by
  intro m ρ _
  -- the two programs are one text, so the idealized program's run at bits is the printed program's run
  refine cast ?_ (Cert.KernelIdeal.Natten.frame (F := Bits) m ρ)
  sl_kernel_rfl

/-- The same of the idealized kernel, at any memory. -/
theorem frame_pi : Cert.quiescent_KernelIdeal := fun m ρ _ => Cert.KernelIdeal.Natten.frame m ρ

/-- The same of the reference, which declares no semaphore. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

open Idealize.ShloMosaic.TcCoe Cert.KernelIdeal Cert.KernelIdeal.Gen in
/-- The idealized kernel's result, over its launch's arguments, which end unchanged. -/
theorem run_pi (m : (ℓ : Loc nD τ sig) → Buf (Elt Ideal) ℓ) (ρ : Dev nD → PrngReg) (hpre : Cert.Pre_KernelIdeal_finite_scores m) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v136) = Cert.ReferenceIdeal.Natten.resT (Cert.KernelIdeal.Natten.qk m c) (Cert.KernelIdeal.Natten.vv m c) (Cert.KernelIdeal.Natten.rpb m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_)
    (Idealize.ShloMosaic.θ_run_and (Cert.KernelIdeal.Natten.launch (F := Ideal) m ρ) (Cert.KernelIdeal.Natten.frame (F := Ideal) m ρ))
  refine ⟨(h.1.1 c).1 4 |>.trans ?_, h.2.1 c⟩
  exact Cert.KernelIdeal.Natten.value m c (Cert.Pre_finite_scores.qk_real _ _ _ (hpre c).1) (Cert.Pre_finite_scores.rpb_real _ _ _ (hpre c).2)

/-- At exact arithmetic the idealized kernel and the reference end with equal results. -/
theorem algebraic : Cert.algebraic_KernelIdeal_ReferenceIdeal_pre_finite_scores := by
  intro m g m' g' hpre hagree
  refine ⟨fun c => Cert.ReferenceIdeal.Natten.resT (Cert.KernelIdeal.Natten.qk m c) (Cert.KernelIdeal.Natten.vv m c) (Cert.KernelIdeal.Natten.rpb m c), run_pi m g hpre, ?_⟩
  refine (θ_run Cert.ReferenceIdeal.defs _ _).mono (fun r h c => ⟨(h c).1.trans ?_, (h c).2⟩) (Cert.ReferenceIdeal.Value.run (F := Ideal) m' g')
  obtain ⟨h0, h1, h2⟩ := hagree c
  refine (Cert.ReferenceIdeal.Natten.res_eq m' c).trans ?_
  rw [h0, h1, h2]

/-- The printed program of the down projection runs, keeps its arguments and ends with every counter at zero. -/
theorem frame_p2 : Cert.quiescent_Kernel2 := by
  intro m ρ _
  refine cast ?_ (Cert.Kernel2Ideal.Gen.frame (F := Bits) m ρ)
  sl_kernel_rfl

/-- The same of its idealized program. -/
theorem frame_pi2 : Cert.quiescent_Kernel2Ideal := fun m ρ _ => Cert.Kernel2Ideal.Gen.frame m ρ

/-- The same of its reference. -/
theorem frame_ri2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- At exact arithmetic the down projection and its reference end with equal results. -/
theorem algebraic2 : Cert.algebraic_Kernel2Ideal_Reference2Ideal := by
  intro m g m' g' _ hagree
  refine ⟨fun c => Cert.Kernel2Ideal.Ffn.res (Cert.Kernel2Ideal.Ffn.act m c) (Cert.Kernel2Ideal.Ffn.wgt m c) (Cert.Kernel2Ideal.Ffn.hid m c),
    (θ_run Cert.Kernel2Ideal.defs _ _).mono (fun r h c => ⟨(h c).1.trans (Cert.Kernel2Ideal.Ffn.value m c), (h c).2⟩) (Cert.Kernel2Ideal.Value.run_blocks (F := Ideal) m g), ?_⟩
  refine (θ_run Cert.Reference2Ideal.defs _ _).mono (fun r h c => ⟨(h c).1.trans ?_, (h c).2⟩) (Cert.Reference2Ideal.Value.run (F := Ideal) m' g')
  obtain ⟨h0, h1, h2⟩ := hagree c
  rw [h0, h1, h2]

/-- The printed program of the output projection runs, keeps its arguments and ends with every counter at zero. -/
theorem frame_p3 : Cert.quiescent_Kernel3 := by
  intro m ρ _
  refine cast ?_ (Cert.Kernel3Ideal.Gen.frame (F := Bits) m ρ)
  sl_kernel_rfl

/-- The same of its idealized program. -/
theorem frame_pi3 : Cert.quiescent_Kernel3Ideal := fun m ρ _ => Cert.Kernel3Ideal.Gen.frame m ρ

/-- The same of its reference. -/
theorem frame_ri3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- At exact arithmetic the output projection and its reference end with equal results. -/
theorem algebraic3 : Cert.algebraic_Kernel3Ideal_Reference3Ideal := by
  intro m g m' g' _ hagree
  refine ⟨fun c => Cert.Kernel3Ideal.Out.res (Cert.Kernel3Ideal.Out.mrg m c) (Cert.Kernel3Ideal.Out.wgt m c) (Cert.Kernel3Ideal.Out.hid m c),
    (θ_run Cert.Kernel3Ideal.defs _ _).mono (fun r h c => ⟨(h c).1.trans (Cert.Kernel3Ideal.Out.value m c), (h c).2⟩) (Cert.Kernel3Ideal.Value.run_blocks (F := Ideal) m g), ?_⟩
  refine (θ_run Cert.Reference3Ideal.defs _ _).mono (fun r h c => ⟨(h c).1.trans ?_, (h c).2⟩) (Cert.Reference3Ideal.Value.run (F := Ideal) m' g')
  obtain ⟨h0, h1, h2⟩ := hagree c
  rw [h0, h1, h2]

/-- The printed program of the merge runs, keeps its arguments and ends with every counter at zero. -/
theorem frame_p4 : Cert.quiescent_Kernel4 := by
  intro m ρ _
  refine cast ?_ (Cert.Kernel4Ideal.Gen.frame (F := Bits) m ρ)
  sl_kernel_rfl

/-- The same of its idealized program. -/
theorem frame_pi4 : Cert.quiescent_Kernel4Ideal := fun m ρ _ => Cert.Kernel4Ideal.Gen.frame m ρ

/-- The same of its reference. -/
theorem frame_ri4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- At exact arithmetic the merge and its reference end with equal results. -/
theorem algebraic4 : Cert.algebraic_Kernel4Ideal_Reference4Ideal := by
  intro m g m' g' _ hagree
  refine ⟨fun c => Cert.Kernel4Ideal.Merge.res (Cert.Kernel4Ideal.Merge.ya m c) (Cert.Kernel4Ideal.Merge.yb m c) (Cert.Kernel4Ideal.Merge.wa m c) (Cert.Kernel4Ideal.Merge.wb m c) (Cert.Kernel4Ideal.Merge.sg m c),
    (θ_run Cert.Kernel4Ideal.defs _ _).mono (fun r h c => ⟨(h c).1.trans (Cert.Kernel4Ideal.Merge.value m c), (h c).2⟩) (Cert.Kernel4Ideal.Value.run_blocks (F := Ideal) m g), ?_⟩
  refine (θ_run Cert.Reference4Ideal.defs _ _).mono (fun r h c => ⟨(h c).1.trans ?_, (h c).2⟩) (Cert.Reference4Ideal.Value.run (F := Ideal) m' g')
  obtain ⟨h0, h1, h2, h3, h4⟩ := hagree c
  rw [h0, h1, h2, h3, h4]

/-- The printed program of the gMLP input's projection runs, keeps its arguments and ends with every counter at zero. -/
theorem frame_p5 : Cert.quiescent_Kernel5 := by
  intro m ρ _
  refine cast ?_ (Cert.Kernel5Ideal.Gen.frame (F := Bits) m ρ)
  sl_kernel_rfl

/-- The same of its idealized program. -/
theorem frame_pi5 : Cert.quiescent_Kernel5Ideal := fun m ρ _ => Cert.Kernel5Ideal.Gen.frame m ρ

/-- The same of its reference. -/
theorem frame_ri5 : Cert.quiescent_Reference5Ideal := fun m ρ _ =>
  (θ_run Cert.Reference5Ideal.defs _ _).mono
    (fun r h => ⟨fun c => (h c).2.2, Idealize.ShloMosaic.sem_eq_zero_of_no_sems (by decide) r.2⟩)
    (Cert.Reference5Ideal.Value.run (F := Ideal) m ρ)

/-- At exact arithmetic the gMLP input's projection and its reference end with equal results. -/
theorem algebraic5 : Cert.algebraic_Kernel5Ideal_Reference5Ideal := by
  intro m g m' g' _ hagree
  refine ⟨fun c => Cert.Kernel5Ideal.Gelu.res (Cert.Kernel5Ideal.Gelu.tok m c) (Cert.Kernel5Ideal.Gelu.wgt m c),
    fun c => Cert.Kernel5Ideal.Gelu.cst (Cert.Kernel5Ideal.Gelu.wgt m c),
    (θ_run Cert.Kernel5Ideal.defs _ _).mono (fun r h c => ⟨(h c).1.trans (Cert.Kernel5Ideal.Gelu.value m c), (h c).2.1.trans (Cert.Kernel5Ideal.Gelu.value_cast m c), (h c).2.2⟩) (Cert.Kernel5Ideal.Value.run_blocks (F := Ideal) m g), ?_⟩
  refine (θ_run Cert.Reference5Ideal.defs _ _).mono (fun r h c => ⟨(h c).1.trans ?_, (h c).2.1.trans ?_, (h c).2.2⟩) (Cert.Reference5Ideal.Value.run (F := Ideal) m' g')
  · obtain ⟨h0, h1⟩ := hagree c
    rw [h0, h1]
  · obtain ⟨h0, h1⟩ := hagree c
    rw [h1]

/-- The printed program of the gates' projection runs, keeps its arguments and ends with every counter at zero. -/
theorem frame_p6 : Cert.quiescent_Kernel6 := by
  intro m ρ _
  refine cast ?_ (Cert.Kernel6Ideal.Gen.frame (F := Bits) m ρ)
  sl_kernel_rfl

/-- The same of its idealized program. -/
theorem frame_pi6 : Cert.quiescent_Kernel6Ideal := fun m ρ _ => Cert.Kernel6Ideal.Gen.frame m ρ

/-- The same of its reference. -/
theorem frame_ri6 : Cert.quiescent_Reference6Ideal := fun m ρ _ =>
  (θ_run Cert.Reference6Ideal.defs _ _).mono
    (fun r h => ⟨fun c => (h c).2.2.2, Idealize.ShloMosaic.sem_eq_zero_of_no_sems (by decide) r.2⟩)
    (Cert.Reference6Ideal.Value.run (F := Ideal) m ρ)

/-- At exact arithmetic the gates' projection and its reference end with equal results. -/
theorem algebraic6 : Cert.algebraic_Kernel6Ideal_Reference6Ideal := by
  intro m g m' g' _ hagree
  refine ⟨fun c => Cert.Kernel6Ideal.Gates.res (Cert.Kernel6Ideal.Gates.tok m c) (Cert.Kernel6Ideal.Gates.wgt m c),
    fun c => Cert.Kernel6Ideal.Gates.cst (Cert.Kernel6Ideal.Gates.wg m c), fun c => Cert.Kernel6Ideal.Gates.cst (Cert.Kernel6Ideal.Gates.wu m c),
    (θ_run Cert.Kernel6Ideal.defs _ _).mono (fun r h c => ⟨(h c).1.trans (Cert.Kernel6Ideal.Gates.value m c), (h c).2.1.trans (Cert.Kernel6Ideal.Gates.value_casts m c).1,
      (h c).2.2.1.trans (Cert.Kernel6Ideal.Gates.value_casts m c).2, (h c).2.2.2.2⟩) (Cert.Kernel6Ideal.Value.run_blocks (F := Ideal) m g), ?_⟩
  refine (θ_run Cert.Reference6Ideal.defs _ _).mono (fun r h c => ⟨(h c).1.trans ?_, (h c).2.1.trans ?_, (h c).2.2.1.trans ?_, (h c).2.2.2⟩) (Cert.Reference6Ideal.Value.run (F := Ideal) m' g')
  all_goals obtain ⟨h0, h1, h2, h3, -⟩ := hagree c
  · rw [h0, h1]
  · rw [h2]
  · rw [h3]

/-- The printed program of the queries' and keys' projection runs, keeps its arguments and ends with every counter at zero. -/
theorem frame_p7 : Cert.quiescent_Kernel7 := by
  intro m ρ _
  refine cast ?_ (Cert.Kernel7Ideal.Gen.frame (F := Bits) m ρ)
  sl_kernel_rfl

/-- The same of its idealized program. -/
theorem frame_pi7 : Cert.quiescent_Kernel7Ideal := fun m ρ _ => Cert.Kernel7Ideal.Gen.frame m ρ

/-- The same of its reference. -/
theorem frame_ri7 : Cert.quiescent_Reference7Ideal := fun m ρ _ =>
  (θ_run Cert.Reference7Ideal.defs _ _).mono
    (fun r h => ⟨fun c => (h c).2.2.2.2, Idealize.ShloMosaic.sem_eq_zero_of_no_sems (by decide) r.2⟩)
    (Cert.Reference7Ideal.Value.run (F := Ideal) m ρ)

/-- At exact arithmetic the queries' and keys' projection, with its norms, and its reference end with equal results. -/
theorem algebraic7 : Cert.algebraic_Kernel7Ideal_Reference7Ideal := by
  intro m g m' g' _ hagree
  refine ⟨fun c => Cert.Kernel7Ideal.Heads.res (Cert.Kernel7Ideal.Heads.tok m c) (Cert.Kernel7Ideal.Heads.wgt m c) (Cert.Kernel7Ideal.Heads.qg m c) (Cert.Kernel7Ideal.Heads.kg m c),
    fun c => Cert.Kernel7Ideal.Heads.cst (Cert.Kernel7Ideal.Heads.wa m c), fun c => Cert.Kernel7Ideal.Heads.cst (Cert.Kernel7Ideal.Heads.wb m c), fun c => Cert.Kernel7Ideal.Heads.cst (Cert.Kernel7Ideal.Heads.wo m c),
    (θ_run Cert.Kernel7Ideal.defs _ _).mono (fun r h c => ⟨(h c).1.trans (Cert.Kernel7Ideal.Heads.value m c), (h c).2.1.trans (Cert.Kernel7Ideal.Heads.value_casts m c).1,
      (h c).2.2.1.trans (Cert.Kernel7Ideal.Heads.value_casts m c).2.1, (h c).2.2.2.1.trans (Cert.Kernel7Ideal.Heads.value_casts m c).2.2, (h c).2.2.2.2⟩) (Cert.Kernel7Ideal.Value.run_blocks (F := Ideal) m g), ?_⟩
  refine (θ_run Cert.Reference7Ideal.defs _ _).mono (fun r h c => ⟨(h c).1.trans ?_, (h c).2.1.trans ?_, (h c).2.2.1.trans ?_, (h c).2.2.2.1.trans ?_, (h c).2.2.2.2⟩) (Cert.Reference7Ideal.Value.run (F := Ideal) m' g')
  all_goals obtain ⟨h0, h1, h2, h3, h4, h5, h6⟩ := hagree c
  · rw [h0, h1, h2, h3]
  · rw [h4]
  · rw [h5]
  · rw [h6]

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_finite_scores.facts,
    frame_p, frame_pi, fun m ρ _ => frame_pi m ρ trivial, frame_ri, fun m ρ _ => frame_ri m ρ trivial,
    frame_p2, frame_pi2, frame_ri2, frame_p3, frame_pi3, frame_ri3, frame_p4, frame_pi4, frame_ri4, frame_p5, frame_pi5, frame_ri5,
    frame_p6, frame_pi6, frame_ri6, frame_p7, frame_pi7, frame_ri7,
    trivial, algebraic, trivial, algebraic2, trivial, algebraic3, trivial, algebraic4, trivial, algebraic5, trivial, algebraic6, trivial, algebraic7⟩

end Cert.Proof

end
